-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite4 [hPre_finite4 : Cert.Pre_finite4.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).1 = (fun _ => 1#1)
    ∧ (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.1 = (fun _ => 1#1)
    ∧ (Cert.Pre_finite4.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite4 [hPre_finite4 : Cert.Pre_finite4.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite4.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).1 = (fun _ => 1#1)
    ∧ (Cert.Pre_finite4.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.1 = (fun _ => 1#1)
    ∧ (Cert.Pre_finite4.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite4 [hKernel5Ideal : Cert.Kernel5Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite4 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite4 [hReference5Ideal : Cert.Reference5Ideal.Facts] [hPre_finite4 : Cert.Pre_finite4.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite4 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "rsqrt2" .f32 0x3F3504F3#32 ((Real.sqrt (1 / 2) : ℝ) : EReal)
  ∧ IdealRules.named_const.Statement Cert.KernelIdeal.κ "inv_sqrt_2pi" .f32 0x3ECC422A#32 (((9465531 / 8388608) * ((1 / 2) * (Real.sqrt (1 / 2))) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v31_1)) (v2 : (c : Dev Cert.KernelIdeal.nD) → Buf (Elt Ideal) ((c.tc : Thread Cert.KernelIdeal.nD Cert.KernelIdeal.τ).loc Cert.KernelIdeal.main_v31_2)) (v3 : (c : Dev Cert.KernelIdeal.nD) → Buf (Elt Ideal) ((c.tc : Thread Cert.KernelIdeal.nD Cert.KernelIdeal.τ).loc Cert.KernelIdeal.main_v31_3)) (v4 : (c : Dev Cert.KernelIdeal.nD) → Buf (Elt Ideal) ((c.tc : Thread Cert.KernelIdeal.nD Cert.KernelIdeal.τ).loc Cert.KernelIdeal.main_v31_4)) (v5 : (c : Dev Cert.KernelIdeal.nD) → Buf (Elt Ideal) ((c.tc : Thread Cert.KernelIdeal.nD Cert.KernelIdeal.τ).loc Cert.KernelIdeal.main_v31_5)) (v6 : (c : Dev Cert.KernelIdeal.nD) → Buf (Elt Ideal) ((c.tc : Thread Cert.KernelIdeal.nD Cert.KernelIdeal.τ).loc Cert.KernelIdeal.main_v31_6)) (v7 : (c : Dev Cert.KernelIdeal.nD) → Buf (Elt Ideal) ((c.tc : Thread Cert.KernelIdeal.nD Cert.KernelIdeal.τ).loc Cert.KernelIdeal.main_v31_7)) (v8 : (c : Dev Cert.KernelIdeal.nD) → Buf (Elt Ideal) ((c.tc : Thread Cert.KernelIdeal.nD Cert.KernelIdeal.τ).loc Cert.KernelIdeal.main_v31_8)) (v9 : (c : Dev Cert.KernelIdeal.nD) → Buf (Elt Ideal) ((c.tc : Thread Cert.KernelIdeal.nD Cert.KernelIdeal.τ).loc Cert.KernelIdeal.main_v31_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v31_1) = v1 c
          ∧ r.2.mem ((c.tc : Thread Cert.KernelIdeal.nD Cert.KernelIdeal.τ).loc Cert.KernelIdeal.main_v31_2) = v2 c
          ∧ r.2.mem ((c.tc : Thread Cert.KernelIdeal.nD Cert.KernelIdeal.τ).loc Cert.KernelIdeal.main_v31_3) = v3 c
          ∧ r.2.mem ((c.tc : Thread Cert.KernelIdeal.nD Cert.KernelIdeal.τ).loc Cert.KernelIdeal.main_v31_4) = v4 c
          ∧ r.2.mem ((c.tc : Thread Cert.KernelIdeal.nD Cert.KernelIdeal.τ).loc Cert.KernelIdeal.main_v31_5) = v5 c
          ∧ r.2.mem ((c.tc : Thread Cert.KernelIdeal.nD Cert.KernelIdeal.τ).loc Cert.KernelIdeal.main_v31_6) = v6 c
          ∧ r.2.mem ((c.tc : Thread Cert.KernelIdeal.nD Cert.KernelIdeal.τ).loc Cert.KernelIdeal.main_v31_7) = v7 c
          ∧ r.2.mem ((c.tc : Thread Cert.KernelIdeal.nD Cert.KernelIdeal.τ).loc Cert.KernelIdeal.main_v31_8) = v8 c
          ∧ r.2.mem ((c.tc : Thread Cert.KernelIdeal.nD Cert.KernelIdeal.τ).loc Cert.KernelIdeal.main_v31_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v181) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v179) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_v153) = v7 c
          ∧ r.2.mem ((c.tc : Thread Cert.ReferenceIdeal.nD Cert.ReferenceIdeal.τ).loc Cert.ReferenceIdeal.main_v156) = v8 c
          ∧ r.2.mem ((c.tc : Thread Cert.ReferenceIdeal.nD Cert.ReferenceIdeal.τ).loc Cert.ReferenceIdeal.main_v161) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v29) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite4 [hKernel5Ideal : Cert.Kernel5Ideal.Facts] [hReference5Ideal : Cert.Reference5Ideal.Facts] [hPre_finite4 : Cert.Pre_finite4.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite4 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v6) = v2 c
          ∧ r.2.mem ((c.tc : Thread Cert.Reference9Ideal.nD Cert.Reference9Ideal.τ).loc Cert.Reference9Ideal.main_v12) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v6) = v2 c
          ∧ r.2.mem ((c.tc : Thread Cert.Reference10Ideal.nD Cert.Reference10Ideal.τ).loc Cert.Reference10Ideal.main_v12) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_v24) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v11) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite4 (hKernel5Ideal := hKernel5Ideal) (hPre_finite4 := hPre_finite4)
    ∧ quiescent_Reference5Ideal (hReference5Ideal := hReference5Ideal)
    ∧ quiescent_Reference5Ideal_pre_finite4 (hReference5Ideal := hReference5Ideal) (hPre_finite4 := hPre_finite4)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite4 (hKernel5Ideal := hKernel5Ideal) (hReference5Ideal := hReference5Ideal) (hPre_finite4 := hPre_finite4)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8192x1024 : Shape := ⟨2, ![8192, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bcast_S_S1x2048 : S_.BroadcastsInDim S1x2048 (![] : Fin 0 → Fin S1x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S2048x1024 : S_.BroadcastsInDim S2048x1024 (![] : Fin 0 → Fin S2048x1024.rank)

variable [Facts]

def fn_part1 {F : FTy → Type} [FloatOps F] (main_arg6 : FVec F S1024x6144 .f32) (main_arg7 : FVec F S1x2048 .f32) (main_arg8 : FVec F S1x2048 .f32) (main_arg9 : FVec F S8x128x128 .f32) (main_arg10 : FVec F S8x128 .f32) (main_arg11 : FVec F S2048x1024 .f32) (main_v2 : IVec S8192x1024 1) (main_v5 : IVec S8192x1024 1) (main_v8 : IVec S1x1024 1) (main_v11 : IVec S1x1024 1) (main_v14 : IVec S1x1024 1) (main_v17 : IVec S1x1024 1) : IVec S8192x1024 1 × IVec S8192x1024 1 × IVec S1x1024 1 × IVec S1x1024 1 × IVec S1x1024 1 × IVec S1x1024 1 × IVec S1024x6144 1 × IVec S1x2048 1 × IVec S1x2048 1 × IVec S8x128x128 1 × IVec S8x128 1 × IVec S2048x1024 1 :=
  let main_v18 : FVec F S1024x6144 .f32 := Host.absf main_arg6
  let main_cst_5 : FVec F S_ .f32 := constant S_ .f32 0x7F800000#32
  let main_v19 : FVec F S1024x6144 .f32 := broadcastInDim S1024x6144 ![] bcast_S_S1024x6144 main_cst_5
  let main_v20 : IVec S1024x6144 1 := cmpf .olt main_v18 main_v19
  let main_v21 : FVec F S1x2048 .f32 := Host.absf main_arg7
  let main_cst_6 : FVec F S_ .f32 := constant S_ .f32 0x7F800000#32
  let main_v22 : FVec F S1x2048 .f32 := broadcastInDim S1x2048 ![] bcast_S_S1x2048 main_cst_6
  let main_v23 : IVec S1x2048 1 := cmpf .olt main_v21 main_v22
  let main_v24 : FVec F S1x2048 .f32 := Host.absf main_arg8
  let main_cst_7 : FVec F S_ .f32 := constant S_ .f32 0x7F800000#32
  let main_v25 : FVec F S1x2048 .f32 := broadcastInDim S1x2048 ![] bcast_S_S1x2048 main_cst_7
  let main_v26 : IVec S1x2048 1 := cmpf .olt main_v24 main_v25
  let main_v27 : FVec F S8x128x128 .f32 := Host.absf main_arg9
  let main_cst_8 : FVec F S_ .f32 := constant S_ .f32 0x7F800000#32
  let main_v28 : FVec F S8x128x128 .f32 := broadcastInDim S8x128x128 ![] bcast_S_S8x128x128 main_cst_8
  let main_v29 : IVec S8x128x128 1 := cmpf .olt main_v27 main_v28
  let main_v30 : FVec F S8x128 .f32 := Host.absf main_arg10
  let main_cst_9 : FVec F S_ .f32 := constant S_ .f32 0x7F800000#32
  let main_v31 : FVec F S8x128 .f32 := broadcastInDim S8x128 ![] bcast_S_S8x128 main_cst_9
  let main_v32 : IVec S8x128 1 := cmpf .olt main_v30 main_v31
  let main_v33 : FVec F S2048x1024 .f32 := Host.absf main_arg11
  let main_cst_10 : FVec F S_ .f32 := constant S_ .f32 0x7F800000#32
  let main_v34 : FVec F S2048x1024 .f32 := broadcastInDim S2048x1024 ![] bcast_S_S2048x1024 main_cst_10
  let main_v35 : IVec S2048x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x6144 .f32) (main_arg7 : FVec F S1x2048 .f32) (main_arg8 : FVec F S1x2048 .f32) (main_arg9 : FVec F S8x128x128 .f32) (main_arg10 : FVec F S8x128 .f32) (main_arg11 : FVec F S2048x1024 .f32) : IVec S8192x1024 1 × IVec S8192x1024 1 × IVec S1x1024 1 × IVec S1x1024 1 × IVec S1x1024 1 × IVec S1x1024 1 × IVec S1024x6144 1 × IVec S1x2048 1 × IVec S1x2048 1 × IVec S8x128x128 1 × IVec S8x128 1 × IVec S2048x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_v2 main_v5 main_v8 main_v11 main_v14 main_v17
-- ==== Pre_finite2.lean ====
abbrev S8192x8192 : Shape := ⟨2, ![8192, 8192]⟩
abbrev S1024x8192 : Shape := ⟨2, ![1024, 8192]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x8192 : S_.BroadcastsInDim S8192x8192 (![] : Fin 0 → Fin S8192x8192.rank)
  bcast_S_S1024x8192 : S_.BroadcastsInDim S1024x8192 (![] : Fin 0 → Fin S1024x8192.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_v3 : IVec S8192x8192 1) (main_v6 : IVec S1024x8192 1) (main_v9 : IVec S8192x1024 1) (main_v12 : IVec S8192x1024 1) (main_v15 : IVec S1x1024 1) (main_v16 : FVec F S1x1024 .f32) (main_v17 : FVec F S1x1024 .f32) : IVec S8192x8192 1 × IVec S1024x8192 1 × IVec S8192x1024 1 × IVec S8192x1024 1 × IVec S1x1024 1 × IVec S1x1024 1 :=
  let main_v18 : IVec S1x1024 1 := cmpf .olt main_v16 main_v17
  (main_v3, main_v6, main_v9, main_v12, main_v15, main_v18)

def fn {F : FTy → Type} [FloatOps F] (main_arg0 : FVec F S8192x8192 .bf16) (main_arg1 : FVec F S1024x8192 .f32) (main_arg2 : FVec F S8192x1024 .f32) (main_arg3 : FVec F S8192x1024 .f32) (main_arg4 : FVec F S1x1024 .f32) (main_arg5 : FVec F S1x1024 .f32) : IVec S8192x8192 1 × IVec S1024x8192 1 × IVec S8192x1024 1 × IVec S8192x1024 1 × IVec S1x1024 1 × IVec S1x1024 1 :=
  let main_v0 : FVec F S8192x8192 .f32 := (extf .f32 · bitsLt_bf16_f32) main_arg0
  let main_v1 : FVec F S8192x8192 .f32 := Host.absf main_v0
  let main_cst : FVec F S_ .f32 := constant S_ .f32 0x7F800000#32
  let main_v2 : FVec F S8192x8192 .f32 := broadcastInDim S8192x8192 ![] bcast_S_S8192x8192 main_cst
  let main_v3 : IVec S8192x8192 1 := cmpf .olt main_v1 main_v2
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_v7 : FVec F S8192x1024 .f32 := Host.absf main_arg2
  let main_cst_1 : FVec F S_ .f32 := constant S_ .f32 0x7F800000#32
  let main_v8 : FVec F S8192x1024 .f32 := broadcastInDim S8192x1024 ![] bcast_S_S8192x1024 main_cst_1
  let main_v9 : IVec S8192x1024 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_v3 main_v6 main_v9 main_v12 main_v15 main_v16 main_v17
-- ==== Pre_finite4.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2048 .bf16) (main_arg1 : FVec F S8192x1024 .f32) (main_arg2 : FVec F S1x1024 .f32) : IVec S8192x2048 1 × IVec S8192x1024 1 × IVec S1x1024 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S1x1024 .f32 := Host.absf main_arg2
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  (main_v3, main_v6, main_v9)
-- ==== Kernel.lean ====
abbrev S8192x1024 : Shape := ⟨2, ![8192, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S128x128 : Shape := ⟨2, ![128, 128]⟩
abbrev S1x128x128 : Shape := ⟨3, ![1, 128, 128]⟩
abbrev S128x8 : Shape := ⟨2, ![128, 8]⟩
abbrev S128x8x256 : Shape := ⟨3, ![128, 8, 256]⟩
abbrev S128x2048 : Shape := ⟨2, ![128, 2048]⟩
abbrev S8192x2048 : Shape := ⟨2, ![8192, 2048]⟩
abbrev S256x6144 : Shape := ⟨2, ![256, 6144]⟩
abbrev S256x1024 : Shape := ⟨2, ![256, 1024]⟩
abbrev S256x2048 : Shape := ⟨2, ![256, 2048]⟩
abbrev S256x1 : Shape := ⟨2, ![256, 1]⟩
abbrev S256x256 : Shape := ⟨2, ![256, 256]⟩
abbrev S256 : Shape := ⟨1, ![256]⟩
abbrev S1x256 : Shape := ⟨2, ![1, 256]⟩
abbrev S128x256 : Shape := ⟨2, ![128, 256]⟩
abbrev S256x512 : Shape := ⟨2, ![256, 512]⟩
abbrev S1024x512 : Shape := ⟨2, ![1024, 512]⟩
abbrev S1024 : Shape := ⟨1, ![1024]⟩
abbrev S128 : Shape := ⟨1, ![128]⟩
abbrev S128x1 : Shape := ⟨2, ![128, 1]⟩

abbrev nBuf : Space → Nat
  | .hbm => 68
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x6144, .f32⟩
  | .hbm, ⟨7, _⟩ => ⟨S1x2048, .f32⟩
  | .hbm, ⟨8, _⟩ => ⟨S1x2048, .f32⟩
  | .hbm, ⟨9, _⟩ => ⟨S8x128x128, .f32⟩
  | .hbm, ⟨10, _⟩ => ⟨S8x128, .f32⟩
  | .hbm, ⟨11, _⟩ => ⟨S2048x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x6144, .f32⟩
  | .hbm, ⟨35, _⟩ => ⟨S_, .i1⟩
  | .hbm, ⟨36, _⟩ => ⟨S128x128, .i1⟩
  | .hbm, ⟨37, _⟩ => ⟨S128x128, .i32⟩
  | .hbm, ⟨38, _⟩ => ⟨S_, .i32⟩
  | .hbm, ⟨39, _⟩ => ⟨S128x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S_, .i1⟩
  | .hbm, ⟨44, _⟩ => ⟨S128x128, .i1⟩
  | .hbm, ⟨45, _⟩ => ⟨S128x128, .i1⟩
  | .hbm, ⟨46, _⟩ => ⟨S1x128x128, .i1⟩
  | .hbm, ⟨47, _⟩ => ⟨S_, .f32⟩
  | .hbm, ⟨48, _⟩ => ⟨S8x128x128, .f32⟩
  | .hbm, ⟨49, _⟩ => ⟨S8x128x128, .i1⟩
  | .hbm, ⟨50, _⟩ => ⟨S8x128x128, .f32⟩
  | .hbm, ⟨51, _⟩ => ⟨S128x8, .f32⟩
  | .hbm, ⟨52, _⟩ => ⟨S128x8x256, .f32⟩
  | .hbm, ⟨53, _⟩ => ⟨S128x2048, .f32⟩
  | .hbm, ⟨54, _⟩ => ⟨S8192x6144, .bf16⟩
  | .hbm, ⟨55, _⟩ => ⟨S8x128x128, .bf16⟩
  | .hbm, ⟨56, _⟩ => ⟨S2048x1024, .bf16⟩
  | .hbm, ⟨57, _⟩ => ⟨S1024x6144, .bf16⟩
  | .hbm, ⟨58, _⟩ => ⟨S8192x6144, .bf16⟩
  | .hbm, ⟨59, _⟩ => ⟨S8192x2048, .bf16⟩
  | .hbm, ⟨60, _⟩ => ⟨S8192x1024, .f32⟩
  | .hbm, ⟨61, _⟩ => ⟨S8x128x128, .f32⟩
  | .hbm, ⟨62, _⟩ => ⟨S128x128, .f32⟩
  | .hbm, ⟨63, _⟩ => ⟨S1x2048, .f32⟩
  | .hbm, ⟨64, _⟩ => ⟨S1x2048, .f32⟩
  | .hbm, ⟨65, _⟩ => ⟨S1x1024, .f32⟩
  | .hbm, ⟨66, _⟩ => ⟨S1x1024, .f32⟩
  | .hbm, ⟨67, _⟩ => ⟨S1x1024, .f32⟩
  | .local _ .vmem, ⟨0, _⟩ => ⟨S256x6144, .bf16⟩
  | .local _ .vmem, ⟨1, _⟩ => ⟨S256x6144, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x2048, .f32⟩
  | .local _ .vmem, ⟨10, _⟩ => ⟨S1x2048, .f32⟩
  | .local _ .vmem, ⟨11, _⟩ => ⟨S8x128x128, .bf16⟩
  | .local _ .vmem, ⟨12, _⟩ => ⟨S128x2048, .f32⟩
  | .local _ .vmem, ⟨13, _⟩ => ⟨S2048x1024, .bf16⟩
  | .local _ .vmem, ⟨14, _⟩ => ⟨S1024x6144, .bf16⟩
  | .local _ .vmem, ⟨15, _⟩ => ⟨S256x6144, .bf16⟩
  | .local _ .vmem, ⟨16, _⟩ => ⟨S256x6144, .bf16⟩
  | .local _ .vmem, ⟨17, _⟩ => ⟨S256x2048, .bf16⟩
  | .local _ .vmem, ⟨18, _⟩ => ⟨S256x2048, .bf16⟩
  | .local _ .vmem, ⟨19, _⟩ => ⟨S256x1024, .f32⟩
  | .local _ .vmem, ⟨20, _⟩ => ⟨S256x1024, .f32⟩
  | .local _ .vmem, ⟨21, _⟩ => ⟨S8x128x128, .f32⟩
  | .local _ .vmem, ⟨22, _⟩ => ⟨S128x128, .f32⟩
  | .local _ .vmem, ⟨23, _⟩ => ⟨S1x2048, .f32⟩
  | .local _ .vmem, ⟨24, _⟩ => ⟨S1x2048, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S256x2048, .f32⟩
  | .local _ .vmem, ⟨29, _⟩ => ⟨S256x2048, .bf16⟩
  | .local _ .vmem, ⟨30, _⟩ => ⟨S256x1024, .bf16⟩
  | .local _ .vmem, ⟨31, _⟩ => ⟨S256x2048, .f32⟩
  | .local _ .vmem, ⟨32, _⟩ => ⟨S128x2048, .f32⟩
  | .local _ .vmem, ⟨33, _⟩ => ⟨S1x1024, .f32⟩
  | .local _ .vmem, ⟨34, _⟩ => ⟨S256x2048, .f32⟩
  | .local _ .vmem, ⟨35, _⟩ => ⟨S256x2048, .bf16⟩
  | .local _ .vmem, ⟨36, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_0 : Ref sig .tc := ⟨.hbm, 43, rfl⟩
abbrev main_call0_v5 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_call1_v0 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31_0 : Ref sig .tc := ⟨.hbm, 58, rfl⟩
abbrev main_v31_1 : Ref sig .tc := ⟨.hbm, 59, rfl⟩
abbrev main_v31_2 : Ref sig .tc := ⟨.hbm, 60, rfl⟩
abbrev main_v31_3 : Ref sig .tc := ⟨.hbm, 61, rfl⟩
abbrev main_v31_4 : Ref sig .tc := ⟨.hbm, 62, rfl⟩
abbrev main_v31_5 : Ref sig .tc := ⟨.hbm, 63, rfl⟩
abbrev main_v31_6 : Ref sig .tc := ⟨.hbm, 64, rfl⟩
abbrev main_v31_7 : Ref sig .tc := ⟨.hbm, 65, rfl⟩
abbrev main_v31_8 : Ref sig .tc := ⟨.hbm, 66, rfl⟩
abbrev main_v31_9 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg21_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem21_0 : DmaSem sig := 27

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2186 : BitVec 1 := Scalar.cmpi .eq arg0 c31_i32
  let v2187 : BitVec 32 := Scalar.extui v2186
  let c0_i32_1285 : BitVec 32 := 0#32
  let v2188 : BitVec 1 := Scalar.cmpi .ne v2187 c0_i32_1285
  v2188

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x6144 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x6144 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S8x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "inv_sqrt_2pi" => some (((9465531 / 8388608) * ((1 / 2) * (Real.sqrt (1 / 2))) : ℝ) : EReal)
  | "rsqrt2" => some ((Real.sqrt (1 / 2) : ℝ) : EReal)
  | _ => none
-- ==== ReferenceIdeal.lean ====
abbrev S8192x1024 : Shape := ⟨2, ![8192, 1024]⟩
abbrev S1x1024 : Shape := ⟨2, ![1, 1024]⟩
abbrev S1024x6144 : Shape := ⟨2, ![1024, 6144]⟩
abbrev S1x2048 : Shape := ⟨2, ![1, 2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x4096 : Shape := ⟨2, ![8192, 4096]⟩
abbrev S8192x2048 : Shape := ⟨2, ![8192, 2048]⟩
abbrev S64x128x8x256 : Shape := ⟨4, ![64, 128, 8, 256]⟩
abbrev S128x128 : Shape := ⟨2, ![128, 128]⟩
abbrev S1x128x128 : Shape := ⟨3, ![1, 128, 128]⟩
abbrev S8x64x256x128 : Shape := ⟨4, ![8, 64, 256, 128]⟩
abbrev S128x8 : Shape := ⟨2, ![128, 8]⟩
abbrev S1x128x8x1 : Shape := ⟨4, ![1, 128, 8, 1]⟩
abbrev S2048 : Shape := ⟨1, ![2048]⟩
abbrev S1024 : Shape := ⟨1, ![1024]⟩

abbrev nBuf : Space → Nat
  | .hbm => 262
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x6144, .f32⟩
  | 7 => ⟨S1x2048, .f32⟩
  | 8 => ⟨S1x2048, .f32⟩
  | 9 => ⟨S8x128x128, .f32⟩
  | 10 => ⟨S8x128, .f32⟩
  | 11 => ⟨S2048x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S_, .f32⟩
  | 32 => ⟨S1x1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S8192x6144, .f32⟩
  | 39 => ⟨S8192x4096, .f32⟩
  | 40 => ⟨S8192x2048, .f32⟩
  | 41 => ⟨S_, .f32⟩
  | 42 => ⟨S8192x4096, .f32⟩
  | 43 => ⟨S8192x4096, .f32⟩
  | 44 => ⟨S8192x4096, .f32⟩
  | 45 => ⟨S_, .f32⟩
  | 46 => ⟨S_, .f32⟩
  | 47 => ⟨S_, .f32⟩
  | 48 => ⟨S8192x4096, .f32⟩
  | 49 => ⟨S8192x4096, .f32⟩
  | 50 => ⟨S8192x4096, .f32⟩
  | 51 => ⟨S8192x4096, .f32⟩
  | 52 => ⟨S8192x4096, .f32⟩
  | 53 => ⟨S8192x4096, .f32⟩
  | 54 => ⟨S8192x4096, .f32⟩
  | 55 => ⟨S8192x2048, .f32⟩
  | 56 => ⟨S8192x2048, .f32⟩
  | 57 => ⟨S_, .f32⟩
  | 58 => ⟨S8192, .f32⟩
  | 59 => ⟨S8192x1, .f32⟩
  | 60 => ⟨S_, .f32⟩
  | 61 => ⟨S8192x1, .f32⟩
  | 62 => ⟨S8192x1, .f32⟩
  | 63 => ⟨S8192x2048, .f32⟩
  | 64 => ⟨S8192x2048, .f32⟩
  | 65 => ⟨S8192x2048, .f32⟩
  | 66 => ⟨S_, .f32⟩
  | 67 => ⟨S8192x2048, .f32⟩
  | 68 => ⟨S8192x2048, .f32⟩
  | 69 => ⟨S_, .f32⟩
  | 70 => ⟨S8192, .f32⟩
  | 71 => ⟨S8192x1, .f32⟩
  | 72 => ⟨S_, .f32⟩
  | 73 => ⟨S8192x1, .f32⟩
  | 74 => ⟨S8192x1, .f32⟩
  | 75 => ⟨S8192x2048, .f32⟩
  | 76 => ⟨S8192x2048, .f32⟩
  | 77 => ⟨S_, .f32⟩
  | 78 => ⟨S8192x1, .f32⟩
  | 79 => ⟨S8192x1, .f32⟩
  | 80 => ⟨S8192x1, .f32⟩
  | 81 => ⟨S8192x1, .f32⟩
  | 82 => ⟨S_, .f32⟩
  | 83 => ⟨S8192x1, .f32⟩
  | 84 => ⟨S8192x1, .f32⟩
  | 85 => ⟨S8192x2048, .f32⟩
  | 86 => ⟨S8192x2048, .f32⟩
  | 87 => ⟨S8192x2048, .f32⟩
  | 88 => ⟨S8192x2048, .f32⟩
  | 89 => ⟨S8192x2048, .f32⟩
  | 90 => ⟨S8192x2048, .f32⟩
  | 91 => ⟨S64x128x8x256, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S1x128x128, .i1⟩
  | 104 => ⟨S_, .f32⟩
  | 105 => ⟨S8x128x128, .f32⟩
  | 106 => ⟨S8x128x128, .i1⟩
  | 107 => ⟨S8x128x128, .f32⟩
  | 108 => ⟨S_, .f32⟩
  | 109 => ⟨S8x128x128, .f32⟩
  | 110 => ⟨S8x64x256x128, .f32⟩
  | 111 => ⟨S64x128x8x256, .f32⟩
  | 112 => ⟨S128x8, .f32⟩
  | 113 => ⟨S1x128x8x1, .f32⟩
  | 114 => ⟨S64x128x8x256, .f32⟩
  | 115 => ⟨S64x128x8x256, .f32⟩
  | 116 => ⟨S8192x2048, .f32⟩
  | 117 => ⟨S8192x2048, .f32⟩
  | 118 => ⟨S8192x2048, .f32⟩
  | 119 => ⟨S8192x2048, .f32⟩
  | 120 => ⟨S_, .f32⟩
  | 121 => ⟨S8192x2048, .f32⟩
  | 122 => ⟨S8192x2048, .f32⟩
  | 123 => ⟨S_, .f32⟩
  | 124 => ⟨S8192x2048, .f32⟩
  | 125 => ⟨S8192x2048, .f32⟩
  | 126 => ⟨S_, .f32⟩
  | 127 => ⟨S8192x2048, .f32⟩
  | _ => ⟨S8192x1024, .f32⟩

abbrev hbmTy0_1 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S8192x1024, .f32⟩
  | 5 => ⟨S8192x1024, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x2048, .f32⟩
  | 12 => ⟨S8192x2048, .f32⟩
  | 13 => ⟨S8192x2048, .f32⟩
  | 14 => ⟨S8192x2048, .f32⟩
  | 15 => ⟨S8192x2048, .f32⟩
  | 16 => ⟨S8192x2048, .f32⟩
  | 17 => ⟨S8192x2048, .f32⟩
  | 18 => ⟨S8192x2048, .f32⟩
  | 19 => ⟨S8192x2048, .f32⟩
  | 20 => ⟨S64x128x8x256, .f32⟩
  | 21 => ⟨S_, .f32⟩
  | 22 => ⟨S128x8, .f32⟩
  | 23 => ⟨S1x128x8x1, .f32⟩
  | 24 => ⟨S_, .f32⟩
  | 25 => ⟨S128x8, .f32⟩
  | 26 => ⟨S8x128, .f32⟩
  | 27 => ⟨S8x64x256x128, .f32⟩
  | 28 => ⟨S8x128x128, .f32⟩
  | 29 => ⟨S8x64x256x128, .f32⟩
  | 30 => ⟨S64x128x8x256, .f32⟩
  | 31 => ⟨S_, .f32⟩
  | 32 => ⟨S8x128x128, .f32⟩
  | 33 => ⟨S8x128x128, .f32⟩
  | 34 => ⟨S8192x2048, .f32⟩
  | 35 => ⟨S_, .f32⟩
  | 36 => ⟨S2048, .f32⟩
  | 37 => ⟨S1x2048, .f32⟩
  | 38 => ⟨S8192x2048, .f32⟩
  | 39 => ⟨S_, .f32⟩
  | 40 => ⟨S2048, .f32⟩
  | 41 => ⟨S1x2048, .f32⟩
  | 42 => ⟨S8192x2048, .f32⟩
  | 43 => ⟨S8192x2048, .f32⟩
  | 44 => ⟨S8192x2048, .f32⟩
  | 45 => ⟨S_, .f32⟩
  | 46 => ⟨S8192, .f32⟩
  | 47 => ⟨S8192x1, .f32⟩
  | 48 => ⟨S8192x2048, .f32⟩
  | 49 => ⟨S8192x2048, .f32⟩
  | 50 => ⟨S8192x1, .f32⟩
  | 51 => ⟨S8192x2048, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192, .f32⟩
  | 60 => ⟨S8192x2048, .f32⟩
  | 61 => ⟨S8192x2048, .f32⟩
  | 62 => ⟨S8192x2048, .f32⟩
  | 63 => ⟨S_, .f32⟩
  | 64 => ⟨S8192, .f32⟩
  | 65 => ⟨S8192x1, .f32⟩
  | 66 => ⟨S8192x2048, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192, .f32⟩
  | 73 => ⟨S8192x2048, .f32⟩
  | 74 => ⟨S8192x2048, .f32⟩
  | 75 => ⟨S8192x4096, .f32⟩
  | 76 => ⟨S8192x4096, .f32⟩
  | 77 => ⟨S8192x4096, .f32⟩
  | 78 => ⟨S_, .f32⟩
  | 79 => ⟨S8192x4096, .f32⟩
  | 80 => ⟨S8192x4096, .f32⟩
  | 81 => ⟨S8192x4096, .f32⟩
  | 82 => ⟨S8192x4096, .f32⟩
  | 83 => ⟨S8192x4096, .f32⟩
  | 84 => ⟨S8192x4096, .f32⟩
  | 85 => ⟨S_, .f32⟩
  | 86 => ⟨S8192x4096, .f32⟩
  | 87 => ⟨S8192x4096, .f32⟩
  | 88 => ⟨S8192x4096, .f32⟩
  | 89 => ⟨S_, .f32⟩
  | 90 => ⟨S8192x6144, .f32⟩
  | 91 => ⟨S_, .f32⟩
  | 92 => ⟨S8192x6144, .f32⟩
  | 93 => ⟨S8192x6144, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S8192x1024, .f32⟩
  | 104 => ⟨S8192x1024, .f32⟩
  | 105 => ⟨S_, .f32⟩
  | 106 => ⟨S1024, .f32⟩
  | 107 => ⟨S1x1024, .f32⟩
  | 108 => ⟨S8192x1024, .f32⟩
  | 109 => ⟨S8192x1024, .f32⟩
  | 110 => ⟨S8192x1024, .f32⟩
  | 111 => ⟨S_, .f32⟩
  | 112 => ⟨S8192, .f32⟩
  | 113 => ⟨S8192x1, .f32⟩
  | 114 => ⟨S8192x1024, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S128x8, .f32⟩
  | _ => ⟨S8192x1024, .f32⟩

abbrev hbmTy0_2 (i : Nat) : BufTy := match i % 128 with
  | 0 => ⟨S_, .i32⟩
  | 1 => ⟨S_, .f32⟩
  | 2 => ⟨S128x128, .f32⟩
  | 3 => ⟨S8192x6144, .bf16⟩
  | 4 => ⟨S8192x2048, .bf16⟩
  | 5 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_v66 : Ref sig .tc := ⟨.hbm, 93, rfl⟩
abbrev main_call0_v0 : Ref sig .tc := ⟨.hbm, 94, rfl⟩
abbrev main_call0_c : Ref sig .tc := ⟨.hbm, 95, rfl⟩
abbrev main_call0_v1 : Ref sig .tc := ⟨.hbm, 96, rfl⟩
abbrev main_call0_v2 : Ref sig .tc := ⟨.hbm, 97, rfl⟩
abbrev main_call0_v3 : Ref sig .tc := ⟨.hbm, 98, rfl⟩
abbrev main_call0_v4 : Ref sig .tc := ⟨.hbm, 99, rfl⟩
abbrev main_call0_c_0 : Ref sig .tc := ⟨.hbm, 100, rfl⟩
abbrev main_call0_v5 : Ref sig .tc := ⟨.hbm, 101, rfl⟩
abbrev main_v67 : Ref sig .tc := ⟨.hbm, 102, rfl⟩
abbrev main_v68 : Ref sig .tc := ⟨.hbm, 103, rfl⟩
abbrev main_cst_13 : Ref sig .tc := ⟨.hbm, 104, rfl⟩
abbrev main_v69 : Ref sig .tc := ⟨.hbm, 105, rfl⟩
abbrev main_v70_1 : Ref sig .tc := ⟨.hbm, 106, rfl⟩
abbrev main_v70_0 : Ref sig .tc := ⟨.hbm, 107, rfl⟩
abbrev main_call1_cst : Ref sig .tc := ⟨.hbm, 108, rfl⟩
abbrev main_v70_2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_v79_2 : Ref sig .tc := ⟨.hbm, 125, rfl⟩
abbrev main_call2_cst_1 : Ref sig .tc := ⟨.hbm, 126, rfl⟩
abbrev main_call2_v6 : Ref sig .tc := ⟨.hbm, 127, rfl⟩
abbrev main_call2_v7 : Ref sig .tc := ⟨.hbm, 128, rfl⟩
abbrev main_v79_1 : Ref sig .tc := ⟨.hbm, 129, rfl⟩
abbrev main_v79_0 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_14 : Ref sig .tc := ⟨.hbm, 149, rfl⟩
abbrev main_v95 : Ref sig .tc := ⟨.hbm, 150, rfl⟩
abbrev main_v96 : Ref sig .tc := ⟨.hbm, 151, rfl⟩
abbrev main_cst_15 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call4_cst : Ref sig .tc := ⟨.hbm, 159, rfl⟩
abbrev main_call4_v0 : Ref sig .tc := ⟨.hbm, 160, rfl⟩
abbrev main_v103 : Ref sig .tc := ⟨.hbm, 161, rfl⟩
abbrev main_v104 : Ref sig .tc := ⟨.hbm, 162, rfl⟩
abbrev main_cst_16 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_cst_17 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_cst_18 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_cst_19 : Ref sig .tc := ⟨.hbm, 180, rfl⟩
abbrev main_v119 : Ref sig .tc := ⟨.hbm, 181, rfl⟩
abbrev main_v120 : Ref sig .tc := ⟨.hbm, 182, rfl⟩
abbrev main_cst_20 : Ref sig .tc := ⟨.hbm, 183, rfl⟩
abbrev main_v121 : Ref sig .tc := ⟨.hbm, 184, rfl⟩
abbrev main_v122 : Ref sig .tc := ⟨.hbm, 185, rfl⟩
abbrev main_cst_21 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_22 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_cst_23 : Ref sig .tc := ⟨.hbm, 196, rfl⟩
abbrev main_v131 : Ref sig .tc := ⟨.hbm, 197, rfl⟩
abbrev main_v132 : Ref sig .tc := ⟨.hbm, 198, rfl⟩
abbrev main_cst_24 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_cst_25 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_cst_26 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_cst_27 : Ref sig .tc := ⟨.hbm, 217, rfl⟩
abbrev main_v148 : Ref sig .tc := ⟨.hbm, 218, rfl⟩
abbrev main_cst_28 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_29 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_cst_30 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_cst_31 : Ref sig .tc := ⟨.hbm, 233, rfl⟩
abbrev main_v160 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_cst_32 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_cst_33 : Ref sig .tc := ⟨.hbm, 245, rfl⟩
abbrev main_v170 : Ref sig .tc := ⟨.hbm, 246, rfl⟩
abbrev main_v171 : Ref sig .tc := ⟨.hbm, 247, rfl⟩
abbrev main_cst_34 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_35 : Ref sig .tc := ⟨.hbm, 256, rfl⟩
abbrev main_call5_v0 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩

abbrev nD : Nat := 1
abbrev τ : Topo := Topo.v7x

variable {F : FTy → Type} [FloatOps F]
-- ==== Kernel2.lean ====
abbrev S8192x8192 : Shape := ⟨2, ![8192, 8192]⟩
abbrev S1024x8192 : Shape := ⟨2, ![1024, 8192]⟩
abbrev S8192x1024 : Shape := ⟨2, ![8192, 1024]⟩
abbrev S1x1024 : Shape := ⟨2, ![1, 1024]⟩
abbrev S512x8192 : Shape := ⟨2, ![512, 8192]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S1024x8192, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x8192, .bf16⟩
  | .local _ .vmem, ⟨1, _⟩ => ⟨S512x8192, .bf16⟩
  | .local _ .vmem, ⟨2, _⟩ => ⟨S1024x8192, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v52 : BitVec 1 := Scalar.cmpi .eq arg0 c15_i32
  let v53 : BitVec 32 := Scalar.extui v52
  let c0_i32_30 : BitVec 32 := 0#32
  let v54 : BitVec 1 := Scalar.cmpi .ne v53 c0_i32_30
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x8192 : Shape := ⟨2, ![8192, 8192]⟩
abbrev S1024x8192 : Shape := ⟨2, ![1024, 8192]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x8192, .f32⟩
  | .hbm, ⟨35, _⟩ => ⟨S8192x8192, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel3.lean ====
abbrev S8192x1024 : Shape := ⟨2, ![8192, 1024]⟩
abbrev S8192x6144 : Shape := ⟨2, ![8192, 6144]⟩
abbrev S_ : Shape := ⟨0, ![]⟩
abbrev S1x6144 : Shape := ⟨2, ![1, 6144]⟩
abbrev S8x1024x768 : Shape := ⟨3, ![8, 1024, 768]⟩
abbrev S4096x1024 : Shape := ⟨2, ![4096, 1024]⟩
abbrev S4096x768 : Shape := ⟨2, ![4096, 768]⟩
abbrev S1x768 : Shape := ⟨2, ![1, 768]⟩
abbrev S1x1024x768 : Shape := ⟨3, ![1, 1024, 768]⟩
abbrev S1024x768 : Shape := ⟨2, ![1024, 768]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1x6144, .f32⟩
  | .hbm, ⟨4, _⟩ => ⟨S8x1024x768, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S1x768, .f32⟩
  | .local _ .vmem, ⟨5, _⟩ => ⟨S1x768, .f32⟩
  | .local _ .vmem, ⟨6, _⟩ => ⟨S1x1024x768, .bf16⟩
  | .local _ .vmem, ⟨7, _⟩ => ⟨S1x1024x768, .bf16⟩
  | .local _ .vmem, ⟨8, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S_, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x8x768, .f32⟩
  | .hbm, ⟨10, _⟩ => ⟨S8x1024x768, .f32⟩
  | .hbm, ⟨11, _⟩ => ⟨S8x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S8192x1024 : Shape := ⟨2, ![8192, 1024]⟩
abbrev S1x1024 : Shape := ⟨2, ![1, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1x1024, .f32⟩
  | .hbm, ⟨3, _⟩ => ⟨S1x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32_6 : BitVec 32 := 7#32
  let v12 : BitVec 1 := Scalar.cmpi .eq arg1 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference4Ideal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x2048, .f32⟩
  | .hbm, ⟨12, _⟩ => ⟨S2048x1024, .f32⟩
  | .hbm, ⟨13, _⟩ => ⟨S1x2048x1024, .f32⟩
  | .hbm, ⟨14, _⟩ => ⟨S1x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x2048 : Shape := ⟨2, ![8192, 2048]⟩
abbrev S8192x1024 : Shape := ⟨2, ![8192, 1024]⟩
abbrev S1x1024 : Shape := ⟨2, ![1, 1024]⟩
abbrev S1x2048x1024 : Shape := ⟨3, ![1, 2048, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1x1024, .f32⟩
  | .hbm, ⟨3, _⟩ => ⟨S1x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x2048x1024, .bf16⟩
  | .local _ .vmem, ⟨6, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32_6 : BitVec 32 := 7#32
  let v12 : BitVec 1 := Scalar.cmpi .eq arg1 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference5Ideal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S2048x1024 : Shape := ⟨2, ![2048, 1024]⟩
abbrev S1024x2048 : Shape := ⟨2, ![1024, 2048]⟩
abbrev S1x2048x1024 : Shape := ⟨3, ![1, 2048, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S2048x1024, .f32⟩
  | .hbm, ⟨5, _⟩ => ⟨S8192x2048, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1024x2048, .f32⟩
  | .hbm, ⟨12, _⟩ => ⟨S2048x1024, .f32⟩
  | .hbm, ⟨13, _⟩ => ⟨S1x2048x1024, .f32⟩
  | .hbm, ⟨14, _⟩ => ⟨S1x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S8192x1024 : Shape := ⟨2, ![8192, 1024]⟩
abbrev S8192x8192 : Shape := ⟨2, ![8192, 8192]⟩
abbrev S_ : Shape := ⟨0, ![]⟩
abbrev S1x8192 : Shape := ⟨2, ![1, 8192]⟩
abbrev S8x256x1024 : Shape := ⟨3, ![8, 256, 1024]⟩
abbrev S8192x256 : Shape := ⟨2, ![8192, 256]⟩
abbrev S1x1024 : Shape := ⟨2, ![1, 1024]⟩
abbrev S1x256x1024 : Shape := ⟨3, ![1, 256, 1024]⟩
abbrev S256x1024 : Shape := ⟨2, ![256, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1x8192, .f32⟩
  | .hbm, ⟨4, _⟩ => ⟨S8x256x1024, .bf16⟩
  | .local _ .vmem, ⟨0, _⟩ => ⟨S8192x256, .bf16⟩
  | .local _ .vmem, ⟨1, _⟩ => ⟨S8192x1024, .bf16⟩
  | .local _ .vmem, ⟨2, _⟩ => ⟨S8192x1024, .bf16⟩
  | .local _ .vmem, ⟨3, _⟩ => ⟨S1x1024, .f32⟩
  | .local _ .vmem, ⟨4, _⟩ => ⟨S1x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S8192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference6Ideal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S8x256x1024 : Shape := ⟨3, ![8, 256, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8x1024, .f32⟩
  | .hbm, ⟨10, _⟩ => ⟨S8x1024x1024, .f32⟩
  | .hbm, ⟨11, _⟩ => ⟨S8x1024x1024, .bf16⟩
  | .hbm, ⟨12, _⟩ => ⟨S8x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel7.lean ====
abbrev S8192x1024 : Shape := ⟨2, ![8192, 1024]⟩
abbrev S8192x8192 : Shape := ⟨2, ![8192, 8192]⟩
abbrev S_ : Shape := ⟨0, ![]⟩
abbrev S1x8192 : Shape := ⟨2, ![1, 8192]⟩
abbrev S8x768x1024 : Shape := ⟨3, ![8, 768, 1024]⟩
abbrev S4096x768 : Shape := ⟨2, ![4096, 768]⟩
abbrev S4096x1024 : Shape := ⟨2, ![4096, 1024]⟩
abbrev S1x1024 : Shape := ⟨2, ![1, 1024]⟩
abbrev S1x768x1024 : Shape := ⟨3, ![1, 768, 1024]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1x8192, .f32⟩
  | .hbm, ⟨4, _⟩ => ⟨S8x768x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1x768x1024, .bf16⟩
  | .local _ .vmem, ⟨7, _⟩ => ⟨S1x768x1024, .bf16⟩
  | .local _ .vmem, ⟨8, _⟩ => ⟨S768x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32_6 : BitVec 32 := 1#32
  let v11 : BitVec 1 := Scalar.cmpi .eq arg1 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩
abbrev S1024x8x1024 : Shape := ⟨3, ![1024, 8, 1024]⟩
abbrev S8x1024x1024 : Shape := ⟨3, ![8, 1024, 1024]⟩
abbrev S8x768x1024 : Shape := ⟨3, ![8, 768, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8x1024, .f32⟩
  | .hbm, ⟨10, _⟩ => ⟨S8x1024x1024, .f32⟩
  | .hbm, ⟨11, _⟩ => ⟨S8x1024x1024, .bf16⟩
  | .hbm, ⟨12, _⟩ => ⟨S8x768x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel8.lean ====
abbrev S8x1024x768 : Shape := ⟨3, ![8, 1024, 768]⟩
abbrev S1024x768 : Shape := ⟨2, ![1024, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8x1024x768 : Shape := ⟨3, ![8, 1024, 768]⟩
abbrev S1024x768 : Shape := ⟨2, ![1024, 768]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S1024x768, .f32⟩
  | .hbm, ⟨14, _⟩ => ⟨S_, .f32⟩
  | .hbm, ⟨15, _⟩ => ⟨S1024x768, .f32⟩
  | .hbm, ⟨16, _⟩ => ⟨S1024x768, .f32⟩
  | .hbm, ⟨17, _⟩ => ⟨S1024x768, .f32⟩
  | .hbm, ⟨18, _⟩ => ⟨S_, .f32⟩
  | .hbm, ⟨19, _⟩ => ⟨S1024x768, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S1024x768, .f32⟩
  | .hbm, ⟨29, _⟩ => ⟨S_, .f32⟩
  | .hbm, ⟨30, _⟩ => ⟨S1024x768, .f32⟩
  | .hbm, ⟨31, _⟩ => ⟨S1024x768, .f32⟩
  | .hbm, ⟨32, _⟩ => ⟨S1024x768, .f32⟩
  | .hbm, ⟨33, _⟩ => ⟨S_, .f32⟩
  | .hbm, ⟨34, _⟩ => ⟨S1024x768, .f32⟩
  | .hbm, ⟨35, _⟩ => ⟨S1024x768, .f32⟩
  | .hbm, ⟨36, _⟩ => ⟨S1024x768, .f32⟩
  | .hbm, ⟨37, _⟩ => ⟨S_, .f32⟩
  | .hbm, ⟨38, _⟩ => ⟨S1024x768, .f32⟩
  | .hbm, ⟨39, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference9Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel10.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel11.lean ====
abbrev S1x2048x384 : Shape := ⟨3, ![1, 2048, 384]⟩
abbrev S2048x384 : Shape := ⟨2, ![2048, 384]⟩
abbrev S1x256x384 : Shape := ⟨3, ![1, 256, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S1x2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S1x256x384, .f32⟩
  | .local _ .vmem, ⟨1, _⟩ => ⟨S1x256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S1x2048x384 : Shape := ⟨3, ![1, 2048, 384]⟩
abbrev S2048x384 : Shape := ⟨2, ![2048, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S_, .f32⟩
  | .hbm, ⟨7, _⟩ => ⟨S2048x384, .f32⟩
  | .hbm, ⟨8, _⟩ => ⟨S2048x384, .f32⟩
  | .hbm, ⟨9, _⟩ => ⟨S_, .f32⟩
  | .hbm, ⟨10, _⟩ => ⟨S2048x384, .f32⟩
  | .hbm, ⟨11, _⟩ => ⟨S2048x384, .f32⟩
  | .hbm, ⟨12, _⟩ => ⟨S2048x384, .f32⟩
  | .hbm, ⟨13, _⟩ => ⟨S_, .f32⟩
  | .hbm, ⟨14, _⟩ => ⟨S2048x384, .f32⟩
  | .hbm, ⟨15, _⟩ => ⟨S2048x384, .f32⟩
  | .hbm, ⟨16, _⟩ => ⟨S2048x384, .f32⟩
  | .hbm, ⟨17, _⟩ => ⟨S_, .f32⟩
  | .hbm, ⟨18, _⟩ => ⟨S2048x384, .f32⟩
  | .hbm, ⟨19, _⟩ => ⟨S2048x384, .f32⟩
  | .hbm, ⟨20, _⟩ => ⟨S2048x384, .f32⟩
  | .hbm, ⟨21, _⟩ => ⟨S_, .f32⟩
  | .hbm, ⟨22, _⟩ => ⟨S2048x384, .f32⟩
  | .hbm, ⟨23, _⟩ => ⟨S2048x384, .f32⟩
  | .hbm, ⟨24, _⟩ => ⟨S_, .f32⟩
  | .hbm, ⟨25, _⟩ => ⟨S2048x384, .f32⟩
  | .hbm, ⟨26, _⟩ => ⟨S2048x384, .f32⟩
  | .hbm, ⟨27, _⟩ => ⟨S2048x384, .f32⟩
  | .hbm, ⟨28, _⟩ => ⟨S_, .f32⟩
  | .hbm, ⟨29, _⟩ => ⟨S2048x384, .f32⟩
  | .hbm, ⟨30, _⟩ => ⟨S2048x384, .f32⟩
  | .hbm, ⟨31, _⟩ => ⟨S2048x384, .f32⟩
  | .hbm, ⟨32, _⟩ => ⟨S_, .f32⟩
  | .hbm, ⟨33, _⟩ => ⟨S2048x384, .f32⟩
  | .hbm, ⟨34, _⟩ => ⟨S2048x384, .f32⟩
  | .hbm, ⟨35, _⟩ => ⟨S2048x384, .f32⟩
  | .hbm, ⟨36, _⟩ => ⟨S_, .f32⟩
  | .hbm, ⟨37, _⟩ => ⟨S2048x384, .f32⟩
  | .hbm, ⟨38, _⟩ => ⟨S2048x384, .f32⟩
  | _, _ => ⟨S1x2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel12.lean ====
abbrev S1024x8 : Shape := ⟨2, ![1024, 8]⟩
abbrev S2x8x384 : Shape := ⟨3, ![2, 8, 384]⟩
abbrev S2x1024x384 : Shape := ⟨3, ![2, 1024, 384]⟩
abbrev S1024x1 : Shape := ⟨2, ![1024, 1]⟩
abbrev S1x1x384 : Shape := ⟨3, ![1, 1, 384]⟩
abbrev S1x384 : Shape := ⟨2, ![1, 384]⟩
abbrev S1024x384 : Shape := ⟨2, ![1024, 384]⟩
abbrev S1x1024x384 : Shape := ⟨3, ![1, 1024, 384]⟩

abbrev nBuf : Space → Nat
  | .hbm => 3
  | .vmem => 3
  | .smem => 0
  | _ => 0

abbrev bufTy : (tb : Table) → Fin (tcTables nBuf tb) → BufTy
  | .hbm, ⟨0, _⟩ => ⟨S1024x8, .f32⟩
  | .hbm, ⟨1, _⟩ => ⟨S2x8x384, .f32⟩
  | .hbm, ⟨2, _⟩ => ⟨S2x1024x384, .f32⟩
  | .local _ .vmem, ⟨0, _⟩ => ⟨S1024x8, .f32⟩
  | .local _ .vmem, ⟨1, _⟩ => ⟨S2x8x384, .f32⟩
  | .local _ .vmem, ⟨2, _⟩ => ⟨S2x1024x384, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference12Ideal.lean ====
abbrev S1024x8 : Shape := ⟨2, ![1024, 8]⟩
abbrev S2x8x384 : Shape := ⟨3, ![2, 8, 384]⟩
abbrev S_ : Shape := ⟨0, ![]⟩
abbrev S2x1024x384 : Shape := ⟨3, ![2, 1024, 384]⟩
abbrev S8x1024 : Shape := ⟨2, ![8, 1024]⟩
abbrev S2x384x8 : Shape := ⟨3, ![2, 384, 8]⟩
abbrev S2x384x1024 : Shape := ⟨3, ![2, 384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S2x8x384, .f32⟩
  | .hbm, ⟨2, _⟩ => ⟨S_, .f32⟩
  | .hbm, ⟨3, _⟩ => ⟨S2x1024x384, .f32⟩
  | .hbm, ⟨4, _⟩ => ⟨S8x1024, .f32⟩
  | .hbm, ⟨5, _⟩ => ⟨S2x384x8, .f32⟩
  | .hbm, ⟨6, _⟩ => ⟨S2x8x384, .f32⟩
  | .hbm, ⟨7, _⟩ => ⟨S2x384x8, .f32⟩
  | .hbm, ⟨8, _⟩ => ⟨S2x384x1024, .f32⟩
  | .hbm, ⟨9, _⟩ => ⟨S2x1024x384, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S8x768x1024 : Shape := ⟨3, ![8, 768, 1024]⟩
abbrev S8x256x1024 : Shape := ⟨3, ![8, 256, 1024]⟩
abbrev S1024x1024 : Shape := ⟨2, ![1024, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x768x1024, .bf16⟩
  | .hbm, ⟨1, _⟩ => ⟨S8x256x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c6_i32 : BitVec 32 := 6#32
  let v0 : BitVec 32 := Scalar.subi arg0 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference13Ideal.lean ====
abbrev S8x768x1024 : Shape := ⟨3, ![8, 768, 1024]⟩
abbrev S8x256x1024 : Shape := ⟨3, ![8, 256, 1024]⟩
abbrev S1024x1024 : Shape := ⟨2, ![1024, 1024]⟩
abbrev S8x1024x1024 : Shape := ⟨3, ![8, 1024, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8x768x1024, .bf16⟩
  | .hbm, ⟨1, _⟩ => ⟨S8x256x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x768x1024, .f32⟩
  | .hbm, ⟨6, _⟩ => ⟨S8x256x1024, .f32⟩
  | .hbm, ⟨7, _⟩ => ⟨S8x1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | _, _ => ⟨S8x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Lift.lean ====
/- Real numbers inside the extended reals: sums, quotients and reciprocal roots of finite values are finite, so that an
   equation of two programs' values over finite arguments becomes an equation of reals. Also the values of the constants
   that the programs share. -/
module

public import Idealize.ShloMosaic.Lib.Pointwise
public import Idealize.ShloMosaic.Lib.IdealHost

@[expose] public section

noncomputable section

namespace Cert.Lift

open Idealize.ShloMosaic

/-- A sum of finite values is the sum of the reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- A quotient of finite values, the divisor not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal root of a positive real. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The normalisations' small constant, as the real that its bits denote. -/
def eps : ℝ := 8796093 / 2 ^ 43

theorem eps_pos : 0 < eps := by unfold eps; positivity

theorem c_eps : Ideal.ofBits .f32 0x358637BD#32 = ((eps : ℝ) : EReal) := by
  unfold eps; simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num
theorem c_half : Ideal.ofBits .f32 0x3F000000#32 = ((1 / 2 : ℝ) : EReal) := by
  simp [Ideal.ofBits, Ideal.ieee, -EReal.coe_mul]; norm_num
theorem c_inf : Ideal.ofBits .f32 0x7F800000#32 = ⊤ := by
  simp [Ideal.ofBits, Ideal.ieee]

/-- A value whose magnitude is below infinity is a real. -/
theorem real_of_abs_lt {x : EReal} (h : max x (-x) < ⊤) : x = ((x.toReal : ℝ) : EReal) := by
  refine (EReal.coe_toReal ?_ ?_).symm
  · rintro rfl; simp at h
  · rintro rfl; simp at h

/-- The same off the comparison's bit. -/
theorem real_of_bit {x : EReal} (h : BitVec.ofBool (decide (max x (-x) < Ideal.ofBits .f32 0x7F800000#32)) = 1#1) :
    x = ((x.toReal : ℝ) : EReal) := by
  apply real_of_abs_lt
  rw [c_inf] at h
  by_contra hn
  rw [decide_eq_false hn] at h
  exact absurd h (by decide)

end Cert.Lift

end
-- ==== Proof.GmlpReal.lean ====
/- The chunked gated MLP sub-layer and its gradient over real numbers: what one row, one chunk of 128 rows and all the rows
   hold, with the columns in eight groups of 256. The chunks are indexed by any type, so that a block's values are the whole
   array's values read at the block's chunks. -/
module

public import proofs.«01_k».proof.Proof.Lift
public import Idealize.ShloMosaic.Lib.Pipeline.ValueKit

@[expose] public section

noncomputable section

namespace Cert.Gmlp

open Idealize.ShloMosaic Cert.Lift

/-- The layer norm's small constant, as the real that its bits denote. -/
def lneps : ℝ := 10995116 / 2 ^ 40

theorem lneps_pos : 0 < lneps := by unfold lneps; positivity

theorem c_lneps : Ideal.ofBits .f32 0x3727C5AC#32 = ((lneps : ℝ) : EReal) := by
  unfold lneps; simp [Ideal.ofBits, Ideal.ieee, -EReal.coe_mul]; norm_num
theorem c_2048 : Ideal.ofBits .f32 0x45000000#32 = ((2048 : ℝ) : EReal) := by
  simp [Ideal.ofBits, Ideal.ieee, -EReal.coe_mul]; norm_num
theorem c_inv2048 : Ideal.ofBits .f32 0x3A000000#32 = ((1 / 2048 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
/-- Minus the literal of the error function's derivative at zero. -/
theorem c_erf' : Ideal.ofBits .f32 0xBF906EBB#32 = ((-(9465531 / 8388608) : ℝ) : EReal) := by
  simp [Ideal.ofBits, Ideal.ieee, -EReal.coe_mul, -EReal.coe_neg]; norm_num

/-! ## Rows in chunks, columns in groups -/

/-- Row `t` of chunk `n`. -/
def row (n : Fin 64) (t : Fin 128) : Fin 8192 := ⟨n.val * 128 + t.val, by omega⟩
/-- Column `c` of group `g`. -/
def col (g : Fin 8) (c : Fin 256) : Fin 2048 := ⟨g.val * 256 + c.val, by omega⟩
/-- Column `c` of group `g` in part `p` of the projection. -/
def pcol (p : Fin 3) (g : Fin 8) (c : Fin 256) : Fin 6144 := ⟨p.val * 2048 + (g.val * 256 + c.val), by omega⟩

/-- Column `c` of group `g` in half `p` of what the gelu is taken of. -/
def hcol (p : Fin 2) (g : Fin 8) (c : Fin 256) : Fin 4096 := ⟨p.val * 2048 + (g.val * 256 + c.val), by omega⟩

theorem sum_row {M : Type*} [AddCommMonoid M] (f : Fin 8192 → M) : ∑ i, f i = ∑ n, ∑ t, f (row n t) :=
  (Fin.sum_mul_add_congr (S := 64) (n := 128) (L := 8192) (F := fun s k => f (row s k)) (f := f)
    (fun _ _ _ => congrArg f (Fin.ext (by simp only [row]))) (by norm_num)).symm
theorem sum_col {M : Type*} [AddCommMonoid M] (f : Fin 2048 → M) : ∑ i, f i = ∑ g, ∑ c, f (col g c) :=
  (Fin.sum_mul_add_congr (S := 8) (n := 256) (L := 2048) (F := fun s k => f (col s k)) (f := f)
    (fun _ _ _ => congrArg f (Fin.ext (by simp only [col]))) (by norm_num)).symm
theorem sum_pcol {M : Type*} [AddCommMonoid M] (f : Fin 6144 → M) : ∑ i, f i = ∑ p, ∑ g, ∑ c, f (pcol p g c) := by
  refine (Fin.sum_mul_add_congr (S := 3) (n := 2048) (L := 6144) (F := fun p j => f ⟨p.val * 2048 + j.val, by omega⟩) (f := f)
    (fun _ _ _ => congrArg f (Fin.ext (by simp only))) (by norm_num)).symm.trans ?_
  refine Finset.sum_congr rfl fun p _ => (sum_col _).trans ?_
  exact Finset.sum_congr rfl fun g _ => Finset.sum_congr rfl fun c _ => congrArg f (Fin.ext (by simp only [col, pcol]))

theorem row_surj (i : Fin 8192) : ∃ n t, i = row n t :=
  ⟨⟨i.val / 128, by omega⟩, ⟨i.val % 128, by omega⟩, Fin.ext (by simp only [row]; omega)⟩
theorem col_surj (j : Fin 2048) : ∃ g c, j = col g c :=
  ⟨⟨j.val / 256, by omega⟩, ⟨j.val % 256, by omega⟩, Fin.ext (by simp only [col]; omega)⟩
theorem pcol_surj (j : Fin 6144) : ∃ p g c, j = pcol p g c :=
  ⟨⟨j.val / 2048, by omega⟩, ⟨j.val % 2048 / 256, by omega⟩, ⟨j.val % 256, by omega⟩, Fin.ext (by simp only [pcol]; omega)⟩

theorem hcol_surj (j : Fin 4096) : ∃ p g c, j = hcol p g c :=
  ⟨⟨j.val / 2048, by omega⟩, ⟨j.val % 2048 / 256, by omega⟩, ⟨j.val % 256, by omega⟩, Fin.ext (by simp only [hcol]; omega)⟩

theorem row_div (n : Fin 64) (t : Fin 128) {h} : (⟨(row n t).val / 128, h⟩ : Fin 64) = n := Fin.ext (by simp only [row]; omega)
theorem row_mod (n : Fin 64) (t : Fin 128) {h} : (⟨(row n t).val % 128, h⟩ : Fin 128) = t := Fin.ext (by simp only [row]; omega)
theorem col_div (g : Fin 8) (c : Fin 256) {h} : (⟨(col g c).val / 256, h⟩ : Fin 8) = g := Fin.ext (by simp only [col]; omega)
theorem col_mod (g : Fin 8) (c : Fin 256) {h} : (⟨(col g c).val % 256, h⟩ : Fin 256) = c := Fin.ext (by simp only [col]; omega)

theorem hcol0_lt (g : Fin 8) (c : Fin 256) : (hcol 0 g c).val < 2048 := by simp only [hcol, Fin.isValue, Fin.val_zero]; omega
theorem hcol1_ge (g : Fin 8) (c : Fin 256) : ¬ (hcol 1 g c).val < 2048 := by simp only [hcol, Fin.isValue, Fin.val_one]; omega
theorem hcol0_col (g : Fin 8) (c : Fin 256) {h} : (⟨(hcol 0 g c).val, h⟩ : Fin 2048) = col g c :=
  Fin.ext (by simp only [hcol, col, Fin.isValue, Fin.val_zero]; omega)
theorem hcol1_col (g : Fin 8) (c : Fin 256) {h} : (⟨(hcol 1 g c).val - 2048, h⟩ : Fin 2048) = col g c :=
  Fin.ext (by simp only [hcol, col, Fin.isValue, Fin.val_one]; omega)
theorem pcol_lt (p : Fin 2) (g : Fin 8) (c : Fin 256) : (pcol p.castSucc g c).val < 4096 := by simp only [pcol, Fin.val_castSucc]; omega
theorem pcol_not (p : Fin 2) (g : Fin 8) (c : Fin 256) : ¬ (4096 ≤ (pcol p.castSucc g c).val ∧ (pcol p.castSucc g c).val - 4096 < 2048) :=
  fun h => absurd (pcol_lt p g c) (by omega)
theorem pcol_hcol (p : Fin 2) (g : Fin 8) (c : Fin 256) {h} : (⟨(pcol p.castSucc g c).val, h⟩ : Fin 4096) = hcol p g c := rfl
theorem pcol2_not (g : Fin 8) (c : Fin 256) : ¬ (pcol 2 g c).val < 4096 := by simp only [pcol, Fin.isValue, Fin.val_two]; omega
theorem pcol2_ge (g : Fin 8) (c : Fin 256) : 4096 ≤ (pcol 2 g c).val ∧ (pcol 2 g c).val - 4096 < 2048 := by
  simp only [pcol, Fin.isValue, Fin.val_two]; omega
theorem pcol2_col (g : Fin 8) (c : Fin 256) {h} : (⟨(pcol 2 g c).val - 4096, h⟩ : Fin 2048) = col g c :=
  Fin.ext (by simp only [pcol, col, Fin.isValue, Fin.val_two]; omega)

/-! ## The activations -/

/-- The error function. -/
def erfR (x : ℝ) : ℝ := 2 / Real.sqrt Real.pi * ∫ t in (0 : ℝ)..x, Real.exp (-(t ^ 2))

theorem erf_real (x : ℝ) : Ideal.erf (x : EReal) = ((erfR x : ℝ) : EReal) := Ideal.erf_coe x

theorem erfR_neg (x : ℝ) : erfR (-x) = -erfR x := by
  have h := Ideal.erf_neg (x : EReal)
  rw [← EReal.coe_neg, erf_real, erf_real, ← EReal.coe_neg] at h
  exact EReal.coe_injective h

theorem erfc_real (x : ℝ) : Ideal.erfc (x : EReal) = ((1 - erfR x : ℝ) : EReal) := by
  rw [Ideal.erfc, erf_real, ← EReal.coe_one, ← EReal.coe_sub]

theorem exp_real (x : ℝ) : Ideal.exp (x : EReal) = ((Real.exp x : ℝ) : EReal) := Ideal.exp_coe x

/-- The root of one half. -/
def rt : ℝ := Real.sqrt (1 / 2)

theorem rt_sq : rt * rt = 1 / 2 := Real.mul_self_sqrt (by norm_num)

theorem sqrt_half : Ideal.sqrt (((1 / 2 : ℝ)) : EReal) = ((rt : ℝ) : EReal) := by
  rw [Ideal.sqrt_coe, if_neg (by norm_num)]; rfl

/-- The factor of the gaussian in the gelu's derivative. -/
def kap : ℝ := 9465531 / 8388608 * (1 / 2 * rt)

/-- Half of one plus the error function. -/
def phi (x : ℝ) : ℝ := 1 / 2 * (1 + erfR (x * rt))
def gel (x : ℝ) : ℝ := x * phi x
def dgel (x : ℝ) : ℝ := phi x + x * (Real.exp (-(1 / 2) * x * x) * kap)
/-- The logistic function. -/
def sg (z : ℝ) : ℝ := 1 / (1 + Real.exp (-z))
def sil (z : ℝ) : ℝ := z * sg z
def dsil (z : ℝ) : ℝ := sg z * (1 + z * (1 - sg z))

theorem logistic_real (x : ℝ) : Ideal.logistic (x : EReal) = ((sg x : ℝ) : EReal) := by
  rw [Ideal.logistic_coe, sg, one_div]

theorem one_add_exp (z : ℝ) : 1 + Real.exp (-z) ≠ 0 := (add_pos one_pos (Real.exp_pos _)).ne'

/-! ## The sub-layer -/

/-- What the sub-layer and its gradient take: the rows of the input and of the gradient of the output, the gate and the
    modulation, and the weights. The projection's columns are in three parts of eight groups of 256. -/
structure Args (ν : Type*) where
  X : ν → Fin 128 → Fin 1024 → ℝ
  DX : ν → Fin 128 → Fin 1024 → ℝ
  gate : Fin 1024 → ℝ
  gain : Fin 1024 → ℝ
  scale : Fin 1024 → ℝ
  shift : Fin 1024 → ℝ
  WI : Fin 1024 → Fin 3 → Fin 8 → Fin 256 → ℝ
  LG : Fin 8 → Fin 256 → ℝ
  LB : Fin 8 → Fin 256 → ℝ
  WS : Fin 8 → Fin 128 → Fin 128 → ℝ
  BS : Fin 8 → Fin 128 → ℝ
  WO : Fin 8 → Fin 256 → Fin 1024 → ℝ

/-- The same weights with some of the chunks. -/
def Args.pull {ν μ : Type*} (a : Args ν) (f : μ → ν) : Args μ := { a with X := fun n => a.X (f n), DX := fun n => a.DX (f n) }

variable {ν : Type*} (a : Args ν) (n : ν) (t : Fin 128)

/-- The mean square of a row and the small constant. -/
def msq : ℝ := (∑ k, a.X n t k * a.X n t k) / 1024 + eps
/-- The reciprocal root of it. -/
def rr : ℝ := (Real.sqrt (msq a n t))⁻¹
/-- The normalised and modulated row. -/
def hid (k : Fin 1024) : ℝ := a.X n t k * rr a n t * a.gain k * (1 + a.scale k) + a.shift k
/-- The projection: parts `u`, `v` and `z`. -/
def prj (p : Fin 3) (g : Fin 8) (c : Fin 256) : ℝ := ∑ k, hid a n t k * a.WI k p g c
/-- The activated `v` part. -/
def va (g : Fin 8) (c : Fin 256) : ℝ := gel (prj a n t 1 g c)
def mu : ℝ := (∑ g, ∑ c, va a n t g c) / 2048
def var : ℝ := (∑ g, ∑ c, (va a n t g c - mu a n t) * (va a n t g c - mu a n t)) / 2048 + lneps
def rs : ℝ := (Real.sqrt (var a n t))⁻¹
/-- The layer norm's normalised row, and with its weight and bias. -/
def vh (g : Fin 8) (c : Fin 256) : ℝ := (va a n t g c - mu a n t) * rs a n t
def vn (g : Fin 8) (c : Fin 256) : ℝ := vh a n t g c * a.LG g c + a.LB g c
/-- The causal part of the mixing weights. -/
def wm (g : Fin 8) (t s : Fin 128) : ℝ := if s ≤ t then a.WS g t s else 0
/-- The mixed rows of a chunk. -/
def mx (g : Fin 8) (c : Fin 256) : ℝ := (∑ s, wm a g t s * vn a n s g c) + a.BS g t
def uu (g : Fin 8) (c : Fin 256) : ℝ := gel (prj a n t 0 g c)
def sz (g : Fin 8) (c : Fin 256) : ℝ := sil (prj a n t 2 g c)
/-- The product that the second projection takes. -/
def yy (g : Fin 8) (c : Fin 256) : ℝ := sz a n t g c * (uu a n t g c * mx a n t g c)
/-- The gradient of that product. -/
def dy (g : Fin 8) (c : Fin 256) : ℝ := ∑ k, a.DX n t k * a.gate k * a.WO g c k
def ds (g : Fin 8) (c : Fin 256) : ℝ := dy a n t g c * sz a n t g c
/-- The gradient of the mixed rows. -/
def dm (g : Fin 8) (c : Fin 256) : ℝ := ds a n t g c * uu a n t g c
/-- The gradient of the normalised rows, mixed back. -/
def dvn (g : Fin 8) (c : Fin 256) : ℝ := ∑ s, wm a g s t * dm a n s g c
def dvh (g : Fin 8) (c : Fin 256) : ℝ := dvn a n t g c * a.LG g c
def c1 : ℝ := (∑ g, ∑ c, dvh a n t g c) / 2048
def c2 : ℝ := (∑ g, ∑ c, dvh a n t g c * vh a n t g c) / 2048
def dva (g : Fin 8) (c : Fin 256) : ℝ := rs a n t * (dvh a n t g c - c1 a n t - vh a n t g c * c2 a n t)
def dpu (g : Fin 8) (c : Fin 256) : ℝ := ds a n t g c * mx a n t g c * dgel (prj a n t 0 g c)
def dpv (g : Fin 8) (c : Fin 256) : ℝ := dva a n t g c * dgel (prj a n t 1 g c)
def dpz (g : Fin 8) (c : Fin 256) : ℝ := dy a n t g c * (uu a n t g c * mx a n t g c) * dsil (prj a n t 2 g c)
/-- The gradient of the projection. -/
def dp : Fin 3 → Fin 8 → Fin 256 → ℝ := ![dpu a n t, dpv a n t, dpz a n t]
/-- The gradient of the modulated row. -/
def dh (k : Fin 1024) : ℝ := ∑ p, ∑ g, ∑ c, dp a n t p g c * a.WI k p g c
def dxn (k : Fin 1024) : ℝ := dh a n t k * (a.gain k * (1 + a.scale k))
/-- The gradient of the row, the residual's added. -/
def dx (k : Fin 1024) : ℝ :=
  rr a n t * (dxn a n t k - a.X n t k * rr a n t * ((∑ l, dxn a n t l * (a.X n t l * rr a n t)) / 1024)) + a.DX n t k

theorem msq_pos : 0 < msq a n t :=
  add_pos_of_nonneg_of_pos (div_nonneg (Finset.sum_nonneg fun k _ => mul_self_nonneg _) (by norm_num)) eps_pos
theorem var_pos : 0 < var a n t :=
  add_pos_of_nonneg_of_pos (div_nonneg (Finset.sum_nonneg fun g _ => Finset.sum_nonneg fun k _ => mul_self_nonneg _) (by norm_num)) lneps_pos

/-! ## The sums over the rows -/

variable [Fintype ν]

def dws (g : Fin 8) (t s : Fin 128) : ℝ := if s ≤ t then ∑ n, ∑ c, dm a n t g c * vn a n s g c else 0
def dbs (g : Fin 8) (t : Fin 128) : ℝ := ∑ n, ∑ c, dm a n t g c
def dlg (g : Fin 8) (c : Fin 256) : ℝ := ∑ n, ∑ t, dvn a n t g c * vh a n t g c
def dlb (g : Fin 8) (c : Fin 256) : ℝ := ∑ n, ∑ t, dvn a n t g c
def dsh (k : Fin 1024) : ℝ := ∑ n, ∑ t, dh a n t k
def pp (k : Fin 1024) : ℝ := ∑ n, ∑ t, dh a n t k * (a.X n t k * rr a n t)

/-! ## The equations of real numbers behind the gradients -/

/-- A row's differences from its mean sum to zero. -/
theorem sum_sub_mu : ∑ g, ∑ c, (va a n t g c - mu a n t) = 0 := by
  simp only [Finset.sum_sub_distrib, Finset.sum_const, Finset.card_univ, Fintype.card_fin, nsmul_eq_mul]
  rw [mu]; push_cast; ring

theorem rs_div_var : rs a n t / var a n t = rs a n t * rs a n t * rs a n t := by
  have h := var_pos a n t
  rw [rs]
  have hs : Real.sqrt (var a n t) ≠ 0 := (Real.sqrt_pos.mpr h).ne'
  have h2 : var a n t = Real.sqrt (var a n t) * Real.sqrt (var a n t) := (Real.mul_self_sqrt h.le).symm
  field_simp
  rw [pow_two, ← h2]

theorem rr_div_msq : rr a n t / msq a n t = rr a n t * rr a n t * rr a n t := by
  have h := msq_pos a n t
  rw [rr]
  have hs : Real.sqrt (msq a n t) ≠ 0 := (Real.sqrt_pos.mpr h).ne'
  have h2 : msq a n t = Real.sqrt (msq a n t) * Real.sqrt (msq a n t) := (Real.mul_self_sqrt h.le).symm
  field_simp
  rw [pow_two, ← h2]

/-- The gelu as its complementary form. -/
theorem gel_erfc (x : ℝ) : 1 / 2 * x * (1 - erfR (-x * rt)) = gel x := by
  rw [neg_mul x rt, erfR_neg, gel, phi]; ring

/-- The derivative of that form, times what it multiplies. -/
theorem dgel_erfc (x d : ℝ) :
    -((-(9465531 / 8388608) * (1 / 2 * x * d)) * Real.exp (-(-x * rt * (-x * rt))) * rt) + 1 / 2 * (d * (1 - erfR (-x * rt)))
      = d * dgel x := by
  have e : -(-x * rt * (-x * rt)) = -(1 / 2) * x * x := by linear_combination (-(x * x)) * rt_sq
  rw [e, neg_mul x rt, erfR_neg, dgel, phi, kap]; ring

/-- The logistic unit's derivative in its two terms. -/
theorem dsil_two (z d : ℝ) : d * sg z + z * d * (sg z * (1 - sg z)) = d * dsil z := by rw [dsil]; ring

/-- The layer norm's gradient, from the three terms of the chain rule. -/
theorem dva_terms (g : Fin 8) (c : Fin 256) :
    dvh a n t g c * rs a n t
      + (∑ g, ∑ c, (va a n t g c - mu a n t) * dvh a n t g c) * (-(1 / 2) * (rs a n t / var a n t)) / 2048 * (2 * (va a n t g c - mu a n t))
      + ((∑ g, ∑ c, -(dvh a n t g c * rs a n t))
          + ∑ g', ∑ c', -((∑ g, ∑ c, (va a n t g c - mu a n t) * dvh a n t g c) * (-(1 / 2) * (rs a n t / var a n t)) / 2048 * (2 * (va a n t g' c' - mu a n t)))) / 2048
      = dva a n t g c := by
  have e2 : ∑ g', ∑ c', -((∑ g, ∑ c, (va a n t g c - mu a n t) * dvh a n t g c) * (-(1 / 2) * (rs a n t / var a n t)) / 2048 * (2 * (va a n t g' c' - mu a n t))) = 0 := by
    simp only [Finset.sum_neg_distrib, ← Finset.mul_sum]
    rw [sum_sub_mu]; ring
  have e1 : ∑ g, ∑ c, -(dvh a n t g c * rs a n t) = -(c1 a n t * 2048 * rs a n t) := by
    simp only [Finset.sum_neg_distrib, ← Finset.sum_mul]
    rw [c1]; ring
  have e3 : c2 a n t = (∑ g, ∑ c, (va a n t g c - mu a n t) * dvh a n t g c) * rs a n t / 2048 := by
    rw [c2, Finset.sum_mul]; congr 1
    refine Finset.sum_congr rfl fun g _ => ?_
    rw [Finset.sum_mul]
    exact Finset.sum_congr rfl fun c _ => by rw [vh]; ring
  rw [e2, e1, rs_div_var, dva, e3, vh]; ring

end Cert.Gmlp

end
-- ==== Proof.BwdTile.lean ====
/- One grid point of the gated sub-layer's backward kernel, over real arguments: places in a block, and what the loads of
   its inputs read. -/
module

public import proofs.«01_k».proof.Proof.Gen.KernelIdeal.Frame.RunA
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.GmlpReal

@[expose] public section

set_option maxRecDepth 16384

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

/-! ## Places in a block: the row's chunk, the row in it, the column's part, group and place in the group -/

def ch (i : ℕ) : Fin 2 := Fin.ofNat 2 (i / 128)
def tt (i : ℕ) : Fin 128 := Fin.ofNat 128 i
def pt (j : ℕ) : Fin 3 := Fin.ofNat 3 (j / 2048)
def gg (j : ℕ) : Fin 8 := Fin.ofNat 8 (j / 256)
def cc (j : ℕ) : Fin 256 := Fin.ofNat 256 j
def kk (j : ℕ) : Fin 1024 := Fin.ofNat 1024 j

/-- A function of chunk, row, group and column, at flat places. -/
def flat (f : Fin 2 → Fin 128 → Fin 8 → Fin 256 → ℝ) (i j : ℕ) : ℝ := f (ch i) (tt i) (gg j) (cc j)
/-- A function of part, group and column, at flat places. -/
def pflat (f : Fin 2 → Fin 128 → Fin 3 → Fin 8 → Fin 256 → ℝ) (i j : ℕ) : ℝ := f (ch i) (tt i) (pt j) (gg j) (cc j)

theorem gg_add (o : ℕ) (c : Fin 256) (h : o % 256 = 0) : gg (o + c.val) = Fin.ofNat 8 (o / 256) := by
  apply Fin.ext; simp only [gg, Fin.ofNat]; omega
theorem gg_fin (c : Fin 256) : gg c.val = 0 := by apply Fin.ext; simp only [gg, Fin.ofNat, Fin.val_zero]; omega
theorem pt_add (o : ℕ) (c : Fin 256) (h : o % 256 = 0) : pt (o + c.val) = Fin.ofNat 3 (o / 2048) := by
  apply Fin.ext; simp only [pt, Fin.ofNat]; omega
theorem pt_fin (c : Fin 256) : pt c.val = 0 := by apply Fin.ext; simp only [pt, Fin.ofNat, Fin.val_zero]; omega
theorem cc_add (o : ℕ) (c : Fin 256) (h : o % 256 = 0) : cc (o + c.val) = c := by
  apply Fin.ext; simp only [cc, Fin.ofNat]; omega
theorem cc_fin (c : Fin 256) : cc c.val = c := by apply Fin.ext; simp only [cc, Fin.ofNat]; omega
theorem ch_add (o : ℕ) (r : Fin 128) (h : o % 128 = 0) : ch (o + r.val) = Fin.ofNat 2 (o / 128) := by
  apply Fin.ext; simp only [ch, Fin.ofNat]; omega
theorem ch_fin (r : Fin 128) : ch r.val = 0 := by apply Fin.ext; simp only [ch, Fin.ofNat, Fin.val_zero]; omega
theorem tt_add (o : ℕ) (r : Fin 128) (h : o % 128 = 0) : tt (o + r.val) = r := by
  apply Fin.ext; simp only [tt, Fin.ofNat]; omega
theorem tt_fin (r : Fin 128) : tt r.val = r := by apply Fin.ext; simp only [tt, Fin.ofNat]; omega
theorem kk_fin (r : Fin 1024) : kk r.val = r := by apply Fin.ext; simp only [kk, Fin.ofNat]; omega

/-- A place in a rectangle of stride one. -/
theorem at_rect {s : Shape} (off sz : Fin s.rank → ℕ) (inb) (y : (Rect.unit off sz inb).shape.Idx) (i : Fin s.rank) :
    ((Rect.unit off sz inb).toLoadRect.idx y i : ℕ) = off i + y i := ValueKit.rect_emb_unit_val off sz inb y i

/-- A load from a buffer that holds `G`. -/
theorem rd {sig : RefSig} {κ : Kind} {sp : Space} {s : Shape} {e : EltTy} {b : Memref sig κ sp s e} (hb : b.IsWhole)
    {X G : s.Idx → Elt Ideal e} (hX : ∀ y, X y = G y) (B : LoadRect s) (y : B.shape.Idx) :
    View.readAt (Elt Ideal) b.view B (hb.unread X) y = G (B.idx y) := by
  exact (congrFun (hb.read_unread X) _).trans (hX _)

/-- A load from a buffer whose stores leave `G`. -/
theorem rc {sig : RefSig} {κ : Kind} {sp : Space} {s : Shape} {e : EltTy} {v : View sig κ sp s e}
    {L : List (View.Piece (Elt Ideal) s e)} {G : s.Idx → Elt Ideal e} (hL : ∀ y, View.canon L y = G y) (B : LoadRect s) (y : B.shape.Idx) :
    View.readCov v L B y = G (B.idx y) := by
  rw [View.readCov_eq_canon']; exact hL _

/-- Stores that are blocks of `G` and tile the buffer leave `G`. -/
theorem leaves {s : Shape} {e : EltTy} {L : List (View.Piece (Elt Ideal) s e)} {G : s.Idx → Elt Ideal e} {size : Fin s.rank → ℕ}
    (h : View.PiecesOf G L) (hc : View.Piece.tiledL L size = true) : ∀ y, View.canon L y = G y :=
  fun y => View.canon_apply_of_pieces G L h.mem y (View.cover_of_tiledL L size hc y)

/-- The last stores tile the buffer: what was stored before is gone. -/
theorem leaves_over {s : Shape} {e : EltTy} {M L L' : List (View.Piece (Elt Ideal) s e)} {G : s.Idx → Elt Ideal e} {size : Fin s.rank → ℕ}
    (hM : M = L ++ L') (h : View.PiecesOf G L) (hc : View.Piece.tiledL L size = true) : ∀ y, View.canon M y = G y :=
  fun y => hM ▸ View.canon_append_of_piecesOf G L' L h y (View.cover_of_tiledL L size hc y)

/-- The mean over eight groups of 256, group by group. -/
theorem oct_mean (f : Fin 8 → Fin 256 → ℝ) :
    (∑ i, f 0 i + ∑ i, f 1 i + ∑ i, f 2 i + ∑ i, f 3 i + ∑ i, f 4 i + ∑ i, f 5 i + ∑ i, f 6 i + ∑ i, f 7 i) * (1 / 2048)
      = (∑ g, ∑ i, f g i) / 2048 := by
  rw [Fin.sum_univ_eight, mul_one_div]

theorem n_rt : (Named.named (F := Ideal) κ "rsqrt2" (φ := .f32) 0x3F3504F3#32 : EReal) = ((rt : ℝ) : EReal) := rfl
theorem n_kap : (Named.named (F := Ideal) κ "inv_sqrt_2pi" (φ := .f32) 0x3ECC422A#32 : EReal) = ((kap : ℝ) : EReal) := rfl
theorem f_erf (x : ℝ) : FloatOps.erf (F := Ideal) (φ := .f32) (x : EReal) = ((erfR x : ℝ) : EReal) := erf_real x
theorem f_exp (x : ℝ) : FloatOps.exp (F := Ideal) (φ := .f32) (x : EReal) = ((Real.exp x : ℝ) : EReal) := exp_real x
theorem f_logistic (x : ℝ) : FloatOps.logistic (F := Ideal) (φ := .f32) (x : EReal) = ((sg x : ℝ) : EReal) := logistic_real x
theorem c_zero : Ideal.ofBits .f32 0x00000000#32 = ((0 : ℝ) : EReal) := by
  simp [Ideal.ofBits, Ideal.ieee]
theorem c_inv1024 : Ideal.ofBits .f32 0x3A800000#32 = ((1 / 1024 : ℝ) : EReal) := by
  simp [Ideal.ofBits, Ideal.ieee, -EReal.coe_mul]; norm_num

/-- What a grid point's input blocks hold, in terms of the sub-layer's real arguments at the block's two chunks. -/
structure Blk (a : Args (Fin 2)) (x0 : Vec Ideal S256x6144 .bf16) (x1 x2 : Vec Ideal S256x1024 .f32) (x3 x4 x5 : Vec Ideal S1x1024 .f32)
    (x6 x7 : Vec Ideal S1x2048 .f32) (x8 : Vec Ideal S8x128x128 .bf16) (x9 : Vec Ideal S128x2048 .f32) (x10 : Vec Ideal S2048x1024 .bf16)
    (x11 : Vec Ideal S1024x6144 .bf16) : Prop where
  h0 : ∀ y, x0 y = ((pflat (prj a) (y 0).val (y 1).val : ℝ) : EReal)
  h1 : ∀ y, x1 y = ((a.DX (ch (y 0).val) (tt (y 0).val) (kk (y 1).val) : ℝ) : EReal)
  h2 : ∀ y, x2 y = ((a.X (ch (y 0).val) (tt (y 0).val) (kk (y 1).val) : ℝ) : EReal)
  h3 : ∀ y, x3 y = ((a.gate (kk (y 1).val) : ℝ) : EReal)
  h4 : ∀ y, x4 y = ((a.gain (kk (y 1).val) : ℝ) : EReal)
  h5 : ∀ y, x5 y = ((a.scale (kk (y 1).val) : ℝ) : EReal)
  h6 : ∀ y, x6 y = ((a.LG (gg (y 1).val) (cc (y 1).val) : ℝ) : EReal)
  h7 : ∀ y, x7 y = ((a.LB (gg (y 1).val) (cc (y 1).val) : ℝ) : EReal)
  h8 : ∀ y, x8 y = ((wm a (Fin.ofNat 8 (y 0).val) (tt (y 1).val) (tt (y 2).val) : ℝ) : EReal)
  h9 : ∀ y, x9 y = ((a.BS (gg (y 1).val) (tt (y 0).val) : ℝ) : EReal)
  h10 : ∀ y, x10 y = ((a.WO (gg (y 0).val) (cc (y 0).val) (kk (y 1).val) : ℝ) : EReal)
  h11 : ∀ y, x11 y = ((a.WI (kk (y 0).val) (pt (y 1).val) (gg (y 1).val) (cc (y 1).val) : ℝ) : EReal)

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

/-! ## The first pass: the gelu of the second part and its derivative, group by group -/

theorem v_at : ∀ y, View.canon (HS0_8 c arg1 harg1 x0) y = ((flat (va a) (y 0).val (y 1).val : ℝ) : EReal) := by
  refine leaves (size := ![256, 256]) ?_ (by rfl)
  simp only [HS0_8, cst_29, r_4, r_5, r_7, r_13]
  refine ⟨?_, ?_, ?_, ?_, ?_, ?_, ?_, ?_, trivial⟩
  all_goals
    intro x
    obtain ⟨r, k, rfl⟩ : ∃ r k, x = ix2 r k := ⟨_, _, eq_ix2 x⟩
    pointwise [k0_pay19, k0_pay20, k0_pay21, k0_pay22, k0_pay25, k0_pay26, k0_pay27, k0_pay28, k0_pay31, k0_pay32, k0_pay33, k0_pay34, k0_pay35, k0_pay38, k0_pay39, k0_pay40, k0_pay42, k0_pay44, k0_pay45, k0_pay46, k0_pay47, k0_pay50, k0_pay51, k0_pay52, k0_pay53, k0_pay56, k0_pay57, k0_pay58, k0_pay60, k0_pay63, k0_pay64, k0_pay65, k0_pay66]
    simp only [rd harg1 H.h0, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

theorem dgv_at : ∀ y, View.canon (HS1_8 c arg1 harg1 x0) y = ((flat (fun n t g c => dgel (prj a n t 1 g c)) (y 0).val (y 1).val : ℝ) : EReal) := by
  refine leaves (size := ![256, 256]) ?_ (by rfl)
  simp only [HS1_8, cst_29, r_1, r_4, r_5, r_8, r_11, r_12, r_16, v240]
  refine ⟨?_, ?_, ?_, ?_, ?_, ?_, ?_, ?_, trivial⟩
  all_goals
    intro x
    obtain ⟨r, k, rfl⟩ : ∃ r k, x = ix2 r k := ⟨_, _, eq_ix2 x⟩
    pointwise [k0_pay19, k0_pay20, k0_pay23, k0_pay24, k0_pay25, k0_pay26, k0_pay29, k0_pay31, k0_pay32, k0_pay33, k0_pay36, k0_pay38, k0_pay39, k0_pay41, k0_pay43, k0_pay44, k0_pay45, k0_pay48, k0_pay50, k0_pay51, k0_pay54, k0_pay56, k0_pay57, k0_pay59, k0_pay61, k0_pay63, k0_pay64, k0_pay67]
    simp only [rd harg1 H.h0, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

theorem dbr_at : ∀ y, View.canon (HS2_1 c arg2 harg2 arg4 harg4 x1 x3) y = ((a.DX (ch (y 0).val) (tt (y 0).val) (kk (y 1).val) * a.gate (kk (y 1).val) : ℝ) : EReal) := by
  refine leaves (size := ![256, 1024]) ?_ (by rfl)
  simp only [HS2_1]
  refine ⟨?_, trivial⟩
  intro x
  obtain ⟨r, k, rfl⟩ : ∃ r k, x = ix2 r k := ⟨_, _, eq_ix2 x⟩
  pointwise [k0_pay17]
  simp only [rd harg2 H.h1, rd harg4 H.h3, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]

theorem mu_at (r : Fin 256) : (v245 c arg1 harg1 x0) (ix2 r 0) = ((mu a (ch r.val) (tt r.val) : ℝ) : EReal) := by
  simp only [cst_29, cst_87, kernelRun0_A.sl.r, r_3, r_4, r_5, r_6, r_7, r_9, r_10, r_13, r_14, r_15, v241, v242, v243, v244, v245]
  pointwise [k0_pay18, k0_pay19, k0_pay20, k0_pay21, k0_pay25, k0_pay26, k0_pay27, k0_pay30, k0_pay31, k0_pay32, k0_pay33, k0_pay34, k0_pay37, k0_pay38, k0_pay39, k0_pay40, k0_pay44, k0_pay45, k0_pay46, k0_pay49, k0_pay50, k0_pay51, k0_pay52, k0_pay55, k0_pay56, k0_pay57, k0_pay58, k0_pay62, k0_pay63, k0_pay64, k0_pay65]
  simp only [rd harg1 H.h0, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  exact congrArg (fun x : ℝ => (x : EReal)) (oct_mean (va a (ch r.val) (tt r.val)))

theorem rs_at (r : Fin 256) : (v307 c arg1 harg1 arg23 x0) (ix2 r 0) = ((rs a (ch r.val) (tt r.val) : ℝ) : EReal) := by
  simp only [cst_87, cst_88, cst_114, v244, v246, v247, v248, v249, v250, v251, v252, v253, v254, v256, v257, v258, v259, v260, v261, v263, v264, v265, v266, v267, v268, v270, v271, v272, v273, v274, v275, v277, v278, v279, v280, v281, v282, v284, v285, v286, v287, v288, v289, v291, v292, v293, v294, v295, v296, v298, v299, v300, v301, v302, v304, v305, v306, v307]
  pointwise
  simp only [rc (v_at c arg1 harg1 H), mu_at c arg1 harg1 H, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  exact (congrArg (fun x : ℝ => Ideal.rsqrt ((x + lneps : ℝ) : EReal)) (oct_mean fun g k =>
    (va a (ch r.val) (tt r.val) g k - mu a (ch r.val) (tt r.val)) * (va a (ch r.val) (tt r.val) g k - mu a (ch r.val) (tt r.val)))).trans
    (rsqrt_real (var_pos a (ch r.val) (tt r.val)))

theorem dy_at : ∀ y, View.canon (HS6_1 c arg2 harg2 arg4 harg4 arg11 harg11 arg25 x1 x3 x10) y = ((flat (dy a) (y 0).val (y 1).val : ℝ) : EReal) := by
  refine leaves (size := ![256, 2048]) ?_ (by rfl)
  simp only [HS6_1, cst_122, v314, v316, v317, v320]
  refine ⟨?_, trivial⟩
  intro x
  obtain ⟨r, k, rfl⟩ : ∃ r k, x = ix2 r k := ⟨_, _, eq_ix2 x⟩
  pointwise
  simp only [rc (dbr_at c arg2 harg2 arg4 harg4 H), rd harg11 H.h10, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  rfl

end Cert.KernelIdeal.Hand

end
-- ==== Proof.BwdMix.lean ====
/- One grid point of the backward kernel: the second pass, the normalised rows and what the mixing gives. -/
module

public import proofs.«01_k».proof.Proof.BwdTile

@[expose] public section

set_option maxRecDepth 16384

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

/-- The normalised rows, group by group. -/
theorem vh_w : (∀ r k, (v325 c arg1 harg1 arg23 x0) (ix2 r k) = ((vh a (ch r.val) (tt r.val) 0 k : ℝ) : EReal))
    ∧ (∀ r k, (v363 c arg1 harg1 arg23 x0) (ix2 r k) = ((vh a (ch r.val) (tt r.val) 1 k : ℝ) : EReal))
    ∧ (∀ r k, (v401 c arg1 harg1 arg23 x0) (ix2 r k) = ((vh a (ch r.val) (tt r.val) 2 k : ℝ) : EReal))
    ∧ (∀ r k, (v439 c arg1 harg1 arg23 x0) (ix2 r k) = ((vh a (ch r.val) (tt r.val) 3 k : ℝ) : EReal))
    ∧ (∀ r k, (v477 c arg1 harg1 arg23 x0) (ix2 r k) = ((vh a (ch r.val) (tt r.val) 4 k : ℝ) : EReal))
    ∧ (∀ r k, (v515 c arg1 harg1 arg23 x0) (ix2 r k) = ((vh a (ch r.val) (tt r.val) 5 k : ℝ) : EReal))
    ∧ (∀ r k, (v553 c arg1 harg1 arg23 x0) (ix2 r k) = ((vh a (ch r.val) (tt r.val) 6 k : ℝ) : EReal))
    ∧ (∀ r k, (v591 c arg1 harg1 arg23 x0) (ix2 r k) = ((vh a (ch r.val) (tt r.val) 7 k : ℝ) : EReal)) := by
  simp only [v247, v248, v249, v324, v325, v359, v361, v363, v397, v399, v401, v435, v437, v439, v473, v475, v477, v511, v513, v515, v549, v551, v553, v587, v589, v591]
  refine ⟨?_, ?_, ?_, ?_, ?_, ?_, ?_, ?_⟩
  all_goals
    intro r k
    pointwise
    try (unfold HS0_15; rw [View.readCov_skip _ _ _ _ _ rfl])
    try (unfold HS0_14; rw [View.readCov_skip _ _ _ _ _ rfl])
    try (unfold HS0_13; rw [View.readCov_skip _ _ _ _ _ rfl])
    try (unfold HS0_12; rw [View.readCov_skip _ _ _ _ _ rfl])
    try (unfold HS0_11; rw [View.readCov_skip _ _ _ _ _ rfl])
    try (unfold HS0_10; rw [View.readCov_skip _ _ _ _ _ rfl])
    try (unfold HS0_9; rw [View.readCov_skip _ _ _ _ _ rfl])
    simp only [rc (v_at c arg1 harg1 H), mu_at c arg1 harg1 H, rs_at c arg1 harg1 arg23 H, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

theorem vh_at : ∀ y, View.canon (HS0_16 c arg1 harg1 arg23 x0) y = ((flat (vh a) (y 0).val (y 1).val : ℝ) : EReal) := by
  obtain ⟨h0, h1, h2, h3, h4, h5, h6, h7⟩ := vh_w c arg1 harg1 arg23 H
  refine leaves_over (L := [_, _, _, _, _, _, _, _]) (L' := HS0_8 c arg1 harg1 x0) (size := ![256, 256]) rfl ?_ (by rfl)
  simp only [v328, v366, v404, v442, v480, v518, v556, v594]
  refine ⟨?_, ?_, ?_, ?_, ?_, ?_, ?_, ?_, trivial⟩
  all_goals
    intro x
    obtain ⟨r, k, rfl⟩ : ∃ r k, x = ix2 r k := ⟨_, _, eq_ix2 x⟩
    pointwise
    simp only [h0, h1, h2, h3, h4, h5, h6, h7, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- The layer norm's rows, group by group. -/
theorem vn_w : (∀ r k, (v335 c arg1 harg1 arg7 harg7 arg8 harg8 arg23 x0 x6 x7) (ix2 r k) = ((vn a (ch r.val) (tt r.val) 0 k : ℝ) : EReal))
    ∧ (∀ r k, (v373 c arg1 harg1 arg7 harg7 arg8 harg8 arg23 x0 x6 x7) (ix2 r k) = ((vn a (ch r.val) (tt r.val) 1 k : ℝ) : EReal))
    ∧ (∀ r k, (v411 c arg1 harg1 arg7 harg7 arg8 harg8 arg23 x0 x6 x7) (ix2 r k) = ((vn a (ch r.val) (tt r.val) 2 k : ℝ) : EReal))
    ∧ (∀ r k, (v449 c arg1 harg1 arg7 harg7 arg8 harg8 arg23 x0 x6 x7) (ix2 r k) = ((vn a (ch r.val) (tt r.val) 3 k : ℝ) : EReal))
    ∧ (∀ r k, (v487 c arg1 harg1 arg7 harg7 arg8 harg8 arg23 x0 x6 x7) (ix2 r k) = ((vn a (ch r.val) (tt r.val) 4 k : ℝ) : EReal))
    ∧ (∀ r k, (v525 c arg1 harg1 arg7 harg7 arg8 harg8 arg23 x0 x6 x7) (ix2 r k) = ((vn a (ch r.val) (tt r.val) 5 k : ℝ) : EReal))
    ∧ (∀ r k, (v563 c arg1 harg1 arg7 harg7 arg8 harg8 arg23 x0 x6 x7) (ix2 r k) = ((vn a (ch r.val) (tt r.val) 6 k : ℝ) : EReal))
    ∧ (∀ r k, (v601 c arg1 harg1 arg7 harg7 arg8 harg8 arg23 x0 x6 x7) (ix2 r k) = ((vn a (ch r.val) (tt r.val) 7 k : ℝ) : EReal)) := by
  obtain ⟨h0, h1, h2, h3, h4, h5, h6, h7⟩ := vh_w c arg1 harg1 arg23 H
  simp only [r_17, v330, v331, v333, v334, v335, v368, v369, v371, v372, v373, v406, v407, v409, v410, v411, v444, v445, v447, v448, v449, v482, v483, v485, v486, v487, v520, v521, v523, v524, v525, v558, v559, v561, v562, v563, v596, v597, v599, v600, v601]
  refine ⟨?_, ?_, ?_, ?_, ?_, ?_, ?_, ?_⟩
  all_goals
    intro r k
    pointwise
    simp only [h0, h1, h2, h3, h4, h5, h6, h7, rd harg7 H.h6, rd harg8 H.h7, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

theorem vn_at : ∀ y, View.canon (HS7_8 c arg1 harg1 arg7 harg7 arg8 harg8 arg23 x0 x6 x7) y = ((flat (vn a) (y 0).val (y 1).val : ℝ) : EReal) := by
  obtain ⟨h0, h1, h2, h3, h4, h5, h6, h7⟩ := vn_w c arg1 harg1 arg7 harg7 arg8 harg8 arg23 H
  refine leaves (size := ![256, 256]) ?_ (by rfl)
  simp only [HS7_8, v338, v376, v414, v452, v490, v528, v566, v604]
  refine ⟨?_, ?_, ?_, ?_, ?_, ?_, ?_, ?_, trivial⟩
  all_goals
    intro x
    obtain ⟨r, k, rfl⟩ : ∃ r k, x = ix2 r k := ⟨_, _, eq_ix2 x⟩
    pointwise
    simp only [h0, h1, h2, h3, h4, h5, h6, h7, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

theorem mx_at : ∀ y, View.canon (HS8_16 c arg1 harg1 arg7 harg7 arg8 harg8 arg9 harg9 arg10 harg10 arg23 x0 x6 x7 x8 x9) y = ((flat (mx a) (y 0).val (y 1).val : ℝ) : EReal) := by
  obtain ⟨h0, h1, h2, h3, h4, h5, h6, h7⟩ := vn_w c arg1 harg1 arg7 harg7 arg8 harg8 arg23 H
  refine leaves (size := ![128, 256]) ?_ (by rfl)
  simp only [HS8_16, cst_138, r_18, v340, v341, v342, v344, v345, v348, v351, v352, v355, v358, v378, v379, v380, v382, v383, v386, v389, v390, v393, v396, v416, v417, v418, v420, v421, v424, v427, v428, v431, v434, v454, v455, v456, v458, v459, v462, v465, v466, v469, v472, v492, v493, v494, v496, v497, v500, v503, v504, v507, v510, v530, v531, v532, v534, v535, v538, v541, v542, v545, v548, v568, v569, v570, v572, v573, v576, v579, v580, v583, v586, v606, v607, v608, v610, v611, v614, v617, v618]
  refine ⟨?_, ?_, ?_, ?_, ?_, ?_, ?_, ?_, ?_, ?_, ?_, ?_, ?_, ?_, ?_, ?_, trivial⟩
  all_goals
    intro x
    obtain ⟨r, k, rfl⟩ : ∃ r k, x = ix2 r k := ⟨_, _, eq_ix2 x⟩
    pointwise [k0_pay130]
    simp only [h0, h1, h2, h3, h4, h5, h6, h7, rd harg9 H.h8, rd harg10 H.h9, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

end Cert.KernelIdeal.Hand

end
-- ==== Proof.BwdGate.lean ====
/- One grid point of the backward kernel: the gated output, the gradients of the two gated halves, and of the layer norm. -/
module

public import proofs.«01_k».proof.Proof.BwdMix

@[expose] public section

set_option maxRecDepth 16384
set_option maxHeartbeats 4000000

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

/-- A load inside the `i`-th store of a list whose stores are blocks of `G`. -/
theorem rc_in {sig : RefSig} {κ : Kind} {sp : Space} {s : Shape} {e : EltTy} {v : View sig κ sp s e}
    {L : List (View.Piece (Elt Ideal) s e)} {G : s.Idx → Elt Ideal e} (h : View.PiecesOf G L) (i : ℕ) {r : Rect s}
    (hr : (L[i]?).map (fun p => p.1) = some r) {B : LoadRect s} {y : B.shape.Idx} (hy : B.idx y ∈ r.set) :
    View.readCov v L B y = G (B.idx y) := by
  rw [View.readCov_eq_canon']
  obtain ⟨p, hp, rfl⟩ := Option.map_eq_some_iff.mp hr
  exact View.canon_apply_of_pieces G L h.mem _ ⟨p, List.mem_of_getElem? hp, hy⟩

/-- A place lies in a rectangle of a matrix when its row and its column do. -/
theorem in_rect {n k : ℕ} {a b p q : ℕ} {inb} {y : (⟨2, ![n, k]⟩ : Shape).Idx} (h0 : a ≤ (y 0).val ∧ (y 0).val < a + p)
    (h1 : b ≤ (y 1).val ∧ (y 1).val < b + q) : y ∈ (Rect.unit (s := ⟨2, ![n, k]⟩) ![a, b] ![p, q] inb).set := by
  rw [Rect.mem_set_unit]
  intro i
  fin_cases i
  · exact h0
  · exact h1

theorem inbR {n k a b p q : ℕ} (h0 : a + p ≤ n) (h1 : b + q ≤ k) : ∀ i : Fin 2, (![a, b] : Fin 2 → ℕ) i + (![p, q] : Fin 2 → ℕ) i ≤ (![n, k] : Fin 2 → ℕ) i := by
  intro i
  fin_cases i
  · exact h0
  · exact h1

/-- A load of the 256 rows of a group whose two halves are the last stores. -/
theorem rc_rows {κ : Kind} {sp : Space} {k o : ℕ} {e : EltTy} {v : View sig κ sp ⟨2, ![256, k]⟩ e}
    {L : List (View.Piece (Elt Ideal) ⟨2, ![256, k]⟩ e)} {G : (⟨2, ![256, k]⟩ : Shape).Idx → Elt Ideal e} (h : View.PiecesOf G L) {b} (ho : o + 256 ≤ k)
    (h0 : (L[0]?).map (fun p => p.1) = some (Rect.unit ![128, o] ![128, 256] (inbR (by omega) ho)))
    (h1 : (L[1]?).map (fun p => p.1) = some (Rect.unit ![0, o] ![128, 256] (inbR (by omega) ho)))
    (y : (Rect.unit (s := ⟨2, ![256, k]⟩) ![0, o] ![256, 256] b).toLoadRect.shape.Idx) :
    View.readCov v L (Rect.unit ![0, o] ![256, 256] b).toLoadRect y = G ((Rect.unit ![0, o] ![256, 256] b).toLoadRect.idx y) := by
  have e0 : (((Rect.unit (s := ⟨2, ![256, k]⟩) ![0, o] ![256, 256] b).toLoadRect.idx y) 0).val = 0 + (y 0).val := at_rect _ _ _ _ _
  have e1 : (((Rect.unit (s := ⟨2, ![256, k]⟩) ![0, o] ![256, 256] b).toLoadRect.idx y) 1).val = o + (y 1).val := at_rect _ _ _ _ _
  have l0 : (y 0).val < 256 := (y 0).isLt
  have l1 : (y 1).val < 256 := (y 1).isLt
  by_cases hy : (y 0).val < 128
  · exact rc_in h 1 h1 (in_rect (by omega) (by omega))
  · exact rc_in h 0 h0 (in_rect (by omega) (by omega))

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

theorem dvn_pieces : View.PiecesOf (fun y => ((flat (dvn a) (y 0).val (y 1).val : ℝ) : EReal)) (HS3_16 c arg1 harg1 arg2 harg2 arg4 harg4 arg9 harg9 arg11 harg11 arg25 arg29 x0 x1 x3 x8 x10) := by
  simp only [HS3_2, HS3_4, HS3_6, HS3_8, HS3_10, HS3_12, HS3_14, HS3_16, cst_29, cst_138, cst_432, r_20, r_22, r_26, r_27, r_29, r_36, r_37, r_38, r_39, r_40, r_41, r_46, r_47, r_48, r_49, r_50, r_55, r_57, r_58, r_62, r_65, r_67, r_68, r_72, r_74, r_76, r_78, r_80, r_82, r_84, r_86, r_88, r_94, r_95, r_98, v340, v378, v416, v454, v492, v530, v568, v606, v662, v667, v672, v678, v731, v736, v741, v747, v760, v761, v825, v894, v910, v923, v924, v927, v1000, v1069, v1085, v1098, v1099, v1102, v1150, v1151, v1152, v1163, v1168, v1173, v1179, v1232, v1237, v1242, v1248, v1261, v1262, v1265, v1326, v1327, v1338, v1343, v1348, v1354, v1407, v1412, v1417, v1423, v1436, v1437, v1440, v1501, v1506, v1511, v1517, v1530, v1531, v1534, v1570, v1575, v1580, v1586, v1600, v1603, v1676, v1681, v1686, v1692, v1705, v1706, v1709, v1745, v1755, v1761, v1775, v1778, v1839, v1894, v1895, v1896, v1897, v1908, v1913, v1918, v1924, v1937, v1938, v1941]
  refine ⟨?_, ?_, ?_, ?_, ?_, ?_, ?_, ?_, ?_, ?_, ?_, ?_, ?_, ?_, ?_, ?_, trivial⟩
  all_goals
    intro x
    obtain ⟨r, k, rfl⟩ : ∃ r k, x = ix2 r k := ⟨_, _, eq_ix2 x⟩
    pointwise [k0_pay131, k0_pay132, k0_pay133, k0_pay135, k0_pay136, k0_pay137, k0_pay149, k0_pay150, k0_pay151, k0_pay152, k0_pay154, k0_pay155, k0_pay156, k0_pay168, k0_pay174, k0_pay175, k0_pay176, k0_pay177, k0_pay178, k0_pay179, k0_pay183, k0_pay185, k0_pay187, k0_pay189, k0_pay190, k0_pay191, k0_pay192, k0_pay193, k0_pay194, k0_pay195, k0_pay196, k0_pay200, k0_pay202, k0_pay213, k0_pay214, k0_pay215, k0_pay216, k0_pay217, k0_pay218, k0_pay219, k0_pay223, k0_pay225, k0_pay227, k0_pay229, k0_pay230, k0_pay231, k0_pay232, k0_pay233, k0_pay234, k0_pay235, k0_pay236, k0_pay237, k0_pay241, k0_pay243, k0_pay254, k0_pay255, k0_pay256, k0_pay258, k0_pay274, k0_pay275, k0_pay276, k0_pay277, k0_pay279, k0_pay280, k0_pay281, k0_pay299, k0_pay300, k0_pay301, k0_pay303, k0_pay317, k0_pay318, k0_pay319, k0_pay320, k0_pay322, k0_pay323, k0_pay324, k0_pay342, k0_pay343, k0_pay344, k0_pay346, k0_pay347, k0_pay348, k0_pay359, k0_pay360, k0_pay361, k0_pay363, k0_pay364, k0_pay365, k0_pay382, k0_pay383, k0_pay384, k0_pay386, k0_pay387, k0_pay388, k0_pay399, k0_pay400, k0_pay401, k0_pay403, k0_pay404, k0_pay405, k0_pay409, k0_pay421, k0_pay422, k0_pay423, k0_pay425, k0_pay426, k0_pay427, k0_pay431, k0_pay433, k0_pay435, k0_pay437, k0_pay438, k0_pay439, k0_pay440]
    simp only [rd harg1 H.h0, rd harg9 H.h8, rc (dy_at c arg2 harg2 arg4 harg4 arg11 harg11 arg25 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

theorem dvn_at : ∀ y, View.canon (HS3_16 c arg1 harg1 arg2 harg2 arg4 harg4 arg9 harg9 arg11 harg11 arg25 arg29 x0 x1 x3 x8 x10) y = ((flat (dvn a) (y 0).val (y 1).val : ℝ) : EReal) :=
  leaves (size := ![128, 256]) (dvn_pieces c arg1 harg1 arg2 harg2 arg4 harg4 arg9 harg9 arg11 harg11 arg25 arg29 H) (by rfl)

theorem y_pieces : View.PiecesOf (fun y => ((flat (yy a) (y 0).val (y 1).val : ℝ) : EReal))
    ([⟨Rect.unit (s := S256x2048) ![128, 1792] S128x256.size inb_S256x2048_S128x256_128_1792, (v1906 c arg1 harg1 arg7 harg7 arg8 harg8 arg9 harg9 arg10 harg10 arg23 arg31 x0 x6 x7 x8 x9)⟩, ⟨Rect.unit (s := S256x2048) ![0, 1792] S128x256.size inb_S256x2048_S128x256_0_1792, k0_pay429 (v1804 c arg1 harg1 arg7 harg7 arg8 harg8 arg9 harg9 arg10 harg10 arg23 arg31 x0 x6 x7 x8 x9) (r_94 c arg1 harg1 x0) (View.readAt (Elt Ideal) arg1.view (Rect.unit (s := S256x6144) ![0, 5888] S128x256.size inb_S256x6144_S128x256_0_5888).toLoadRect (harg1.unread x0))⟩, ⟨Rect.unit (s := S256x2048) ![128, 1536] S128x256.size inb_S256x2048_S128x256_128_1536, k0_pay407 (v1710 c arg1 harg1 arg7 harg7 arg8 harg8 arg9 harg9 arg10 harg10 arg23 arg31 x0 x6 x7 x8 x9) (View.readAt (Elt Ideal) arg1.view (Rect.unit (s := S256x6144) ![128, 1536] S128x256.size inb_S256x6144_S128x256_128_1536).toLoadRect (harg1.unread x0)) (View.readAt (Elt Ideal) arg1.view (Rect.unit (s := S256x6144) ![128, 5632] S128x256.size inb_S256x6144_S128x256_128_5632).toLoadRect (harg1.unread x0))⟩, ⟨Rect.unit (s := S256x2048) ![0, 1536] S128x256.size inb_S256x2048_S128x256_0_1536, k0_pay390 (v1641 c arg1 harg1 arg7 harg7 arg8 harg8 arg9 harg9 arg10 harg10 arg23 arg31 x0 x6 x7 x8 x9) (View.readAt (Elt Ideal) arg1.view (Rect.unit (s := S256x6144) ![0, 1536] S128x256.size inb_S256x6144_S128x256_0_1536).toLoadRect (harg1.unread x0)) (View.readAt (Elt Ideal) arg1.view (Rect.unit (s := S256x6144) ![0, 5632] S128x256.size inb_S256x6144_S128x256_0_5632).toLoadRect (harg1.unread x0))⟩, ⟨Rect.unit (s := S256x2048) ![128, 1280] S128x256.size inb_S256x2048_S128x256_128_1280, k0_pay367 (v1535 c arg1 harg1 arg7 harg7 arg8 harg8 arg9 harg9 arg10 harg10 arg23 arg31 x0 x6 x7 x8 x9) (View.readAt (Elt Ideal) arg1.view (Rect.unit (s := S256x6144) ![128, 1280] S128x256.size inb_S256x6144_S128x256_128_1280).toLoadRect (harg1.unread x0)) (View.readAt (Elt Ideal) arg1.view (Rect.unit (s := S256x6144) ![128, 5376] S128x256.size inb_S256x6144_S128x256_128_5376).toLoadRect (harg1.unread x0))⟩, ⟨Rect.unit (s := S256x2048) ![0, 1280] S128x256.size inb_S256x2048_S128x256_0_1280, k0_pay350 (v1466 c arg1 harg1 arg7 harg7 arg8 harg8 arg9 harg9 arg10 harg10 arg23 arg31 x0 x6 x7 x8 x9) (View.readAt (Elt Ideal) arg1.view (Rect.unit (s := S256x6144) ![0, 1280] S128x256.size inb_S256x6144_S128x256_0_1280).toLoadRect (harg1.unread x0)) (View.readAt (Elt Ideal) arg1.view (Rect.unit (s := S256x6144) ![0, 5376] S128x256.size inb_S256x6144_S128x256_0_5376).toLoadRect (harg1.unread x0))⟩, ⟨Rect.unit (s := S256x2048) ![128, 1024] S128x256.size inb_S256x2048_S128x256_128_1024, (v1405 c arg1 harg1 arg7 harg7 arg8 harg8 arg9 harg9 arg10 harg10 arg23 arg31 x0 x6 x7 x8 x9)⟩, ⟨Rect.unit (s := S256x2048) ![0, 1024] S128x256.size inb_S256x2048_S128x256_0_1024, (v1336 c arg1 harg1 arg7 harg7 arg8 harg8 arg9 harg9 arg10 harg10 arg23 arg31 x0 x6 x7 x8 x9)⟩, ⟨Rect.unit (s := S256x2048) ![128, 768] S128x256.size inb_S256x2048_S128x256_128_768, (v1230 c arg1 harg1 arg7 harg7 arg8 harg8 arg9 harg9 arg10 harg10 arg23 arg31 x0 x6 x7 x8 x9)⟩, ⟨Rect.unit (s := S256x2048) ![0, 768] S128x256.size inb_S256x2048_S128x256_0_768, (v1161 c arg1 harg1 arg7 harg7 arg8 harg8 arg9 harg9 arg10 harg10 arg23 arg31 x0 x6 x7 x8 x9)⟩, ⟨Rect.unit (s := S256x2048) ![128, 512] S128x256.size inb_S256x2048_S128x256_128_512, k0_pay239 (v1034 c arg1 harg1 arg7 harg7 arg8 harg8 arg9 harg9 arg10 harg10 arg23 arg31 x0 x6 x7 x8 x9) (r_48 c arg1 harg1 x0) (r_49 c arg1 harg1 x0) k0_pay232 (View.readAt (Elt Ideal) arg1.view (Rect.unit (s := S256x6144) ![128, 4608] S128x256.size inb_S256x6144_S128x256_128_4608).toLoadRect (harg1.unread x0))⟩, ⟨Rect.unit (s := S256x2048) ![0, 512] S128x256.size inb_S256x2048_S128x256_0_512, k0_pay221 (v965 c arg1 harg1 arg7 harg7 arg8 harg8 arg9 harg9 arg10 harg10 arg23 arg31 x0 x6 x7 x8 x9) (r_46 c arg1 harg1 x0) k0_pay214 (View.readAt (Elt Ideal) arg1.view (Rect.unit (s := S256x6144) ![0, 4608] S128x256.size inb_S256x6144_S128x256_0_4608).toLoadRect (harg1.unread x0))⟩, ⟨Rect.unit (s := S256x2048) ![128, 256] S128x256.size inb_S256x2048_S128x256_128_256, k0_pay198 (v859 c arg1 harg1 arg7 harg7 arg8 harg8 arg9 harg9 arg10 harg10 arg23 arg31 x0 x6 x7 x8 x9) (r_39 c arg1 harg1 x0) (r_40 c arg1 harg1 x0) (cst_29) (View.readAt (Elt Ideal) arg1.view (Rect.unit (s := S256x6144) ![128, 4352] S128x256.size inb_S256x6144_S128x256_128_4352).toLoadRect (harg1.unread x0))⟩, ⟨Rect.unit (s := S256x2048) ![0, 256] S128x256.size inb_S256x2048_S128x256_0_256, k0_pay181 (v790 c arg1 harg1 arg7 harg7 arg8 harg8 arg9 harg9 arg10 harg10 arg23 arg31 x0 x6 x7 x8 x9) (r_36 c arg1 harg1 x0) (cst_432) (View.readAt (Elt Ideal) arg1.view (Rect.unit (s := S256x6144) ![0, 4352] S128x256.size inb_S256x6144_S128x256_0_4352).toLoadRect (harg1.unread x0))⟩, ⟨Rect.unit (s := S256x2048) ![128, 0] S128x256.size inb_S256x2048_S128x256_128_0, (r_32 c arg1 harg1 arg7 harg7 arg8 harg8 arg9 harg9 arg10 harg10 arg23 arg31 x0 x6 x7 x8 x9)⟩, ⟨Rect.unit (s := S256x2048) ![0, 0] S128x256.size inb_S256x2048_S128x256_0_0, (v660 c arg1 harg1 arg7 harg7 arg8 harg8 arg9 harg9 arg10 harg10 arg23 arg31 x0 x6 x7 x8 x9)⟩] : List (View.Piece (Elt Ideal) S256x2048 .bf16)) := by
  simp only [cst_29, cst_432, r_25, r_32, r_36, r_39, r_40, r_46, r_48, r_49, r_55, r_57, r_58, r_62, r_65, r_67, r_68, r_72, r_94, r_98, v627, v660, v696, v790, v859, v965, v1034, v1128, v1150, v1151, v1152, v1159, v1160, v1161, v1197, v1228, v1229, v1230, v1303, v1326, v1327, v1334, v1335, v1336, v1372, v1403, v1404, v1405, v1466, v1535, v1641, v1710, v1804, v1873, v1894, v1895, v1896, v1897, v1904, v1905, v1906]
  refine ⟨?_, ?_, ?_, ?_, ?_, ?_, ?_, ?_, ?_, ?_, ?_, ?_, ?_, ?_, ?_, ?_, trivial⟩
  all_goals
    intro x
    obtain ⟨r, k, rfl⟩ : ∃ r k, x = ix2 r k := ⟨_, _, eq_ix2 x⟩
    pointwise [k0_pay175, k0_pay176, k0_pay177, k0_pay178, k0_pay179, k0_pay180, k0_pay181, k0_pay192, k0_pay193, k0_pay194, k0_pay195, k0_pay196, k0_pay197, k0_pay198, k0_pay214, k0_pay215, k0_pay216, k0_pay217, k0_pay218, k0_pay219, k0_pay220, k0_pay221, k0_pay232, k0_pay233, k0_pay234, k0_pay235, k0_pay236, k0_pay237, k0_pay238, k0_pay239, k0_pay342, k0_pay343, k0_pay344, k0_pay346, k0_pay347, k0_pay348, k0_pay349, k0_pay350, k0_pay359, k0_pay360, k0_pay361, k0_pay363, k0_pay364, k0_pay365, k0_pay366, k0_pay367, k0_pay382, k0_pay383, k0_pay384, k0_pay386, k0_pay387, k0_pay388, k0_pay389, k0_pay390, k0_pay399, k0_pay400, k0_pay401, k0_pay403, k0_pay404, k0_pay405, k0_pay406, k0_pay407, k0_pay425, k0_pay426, k0_pay427, k0_pay428, k0_pay429, k0_pay131, k0_pay132, k0_pay133, k0_pay135, k0_pay136, k0_pay137, k0_pay139, k0_pay140, k0_pay150, k0_pay151, k0_pay152, k0_pay154, k0_pay155, k0_pay156, k0_pay158, k0_pay159, k0_pay174, k0_pay190, k0_pay191, k0_pay213, k0_pay230, k0_pay231, k0_pay254, k0_pay255, k0_pay256, k0_pay258, k0_pay275, k0_pay276, k0_pay277, k0_pay279, k0_pay280, k0_pay281, k0_pay299, k0_pay300, k0_pay301, k0_pay303, k0_pay318, k0_pay319, k0_pay320, k0_pay322, k0_pay323, k0_pay324, k0_pay421, k0_pay422, k0_pay423, k0_pay438, k0_pay439, k0_pay440]
    simp only [rd harg1 H.h0, rc (mx_at c arg1 harg1 arg7 harg7 arg8 harg8 arg9 harg9 arg10 harg10 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- The gradients of the two gated halves of the projection. -/
theorem uz_pieces : View.PiecesOf (fun y => ((pflat (dp a) (y 0).val (y 1).val : ℝ) : EReal)) (H12_32 c arg1 harg1 arg2 harg2 arg4 harg4 arg7 harg7 arg8 harg8 arg9 harg9 arg10 harg10 arg11 harg11 arg23 arg25 arg29 arg31 x0 x1 x3 x6 x7 x8 x9 x10) := by
  simp only [H12_8, H12_16, H12_24, H12_32, cst_29, cst_432, cst_1100, r_21, r_22, r_23, r_24, r_28, r_29, r_30, r_31, r_36, r_39, r_40, r_46, r_48, r_49, r_55, r_56, r_57, r_58, r_59, r_60, r_61, r_62, r_65, r_66, r_67, r_68, r_69, r_70, r_71, r_72, r_75, r_76, r_77, r_79, r_80, r_83, r_84, r_85, r_87, r_88, r_92, r_93, r_94, r_96, r_97, r_98, r_99, v627, v662, v663, v664, v665, v667, v668, v669, v670, v696, v731, v732, v733, v734, v736, v737, v738, v739, v790, v825, v859, v894, v965, v1000, v1034, v1069, v1128, v1150, v1151, v1152, v1153, v1154, v1155, v1157, v1158, v1159, v1163, v1164, v1165, v1166, v1168, v1169, v1170, v1171, v1197, v1223, v1224, v1226, v1227, v1228, v1232, v1233, v1234, v1235, v1237, v1238, v1239, v1240, v1303, v1326, v1327, v1329, v1330, v1332, v1333, v1334, v1338, v1339, v1340, v1341, v1343, v1344, v1345, v1346, v1372, v1398, v1399, v1401, v1402, v1403, v1407, v1408, v1409, v1410, v1412, v1413, v1414, v1415, v1466, v1501, v1506, v1507, v1508, v1509, v1535, v1570, v1575, v1576, v1577, v1578, v1641, v1676, v1681, v1682, v1683, v1684, v1710, v1745, v1751, v1752, v1753, v1804, v1839, v1873, v1889, v1890, v1891, v1892, v1894, v1895, v1896, v1897, v1899, v1900, v1902, v1903, v1904, v1908, v1909, v1910, v1911, v1913, v1914, v1915, v1916]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro x
    obtain ⟨r, k, rfl⟩ : ∃ r k, x = ix2 r k := ⟨_, _, eq_ix2 x⟩
    pointwise [k0_pay131, k0_pay132, k0_pay133, k0_pay134, k0_pay135, k0_pay136, k0_pay137, k0_pay138, k0_pay139, k0_pay150, k0_pay151, k0_pay152, k0_pay153, k0_pay154, k0_pay155, k0_pay156, k0_pay157, k0_pay158, k0_pay174, k0_pay175, k0_pay176, k0_pay177, k0_pay178, k0_pay179, k0_pay180, k0_pay182, k0_pay183, k0_pay184, k0_pay190, k0_pay191, k0_pay192, k0_pay193, k0_pay194, k0_pay195, k0_pay196, k0_pay197, k0_pay199, k0_pay200, k0_pay201, k0_pay213, k0_pay214, k0_pay215, k0_pay216, k0_pay217, k0_pay218, k0_pay219, k0_pay220, k0_pay222, k0_pay223, k0_pay224, k0_pay230, k0_pay231, k0_pay232, k0_pay233, k0_pay234, k0_pay235, k0_pay236, k0_pay237, k0_pay238, k0_pay240, k0_pay241, k0_pay242, k0_pay254, k0_pay255, k0_pay256, k0_pay257, k0_pay258, k0_pay275, k0_pay276, k0_pay277, k0_pay278, k0_pay279, k0_pay280, k0_pay281, k0_pay299, k0_pay300, k0_pay301, k0_pay302, k0_pay303, k0_pay318, k0_pay319, k0_pay320, k0_pay321, k0_pay322, k0_pay323, k0_pay324, k0_pay325, k0_pay342, k0_pay343, k0_pay344, k0_pay345, k0_pay346, k0_pay347, k0_pay348, k0_pay349, k0_pay351, k0_pay359, k0_pay360, k0_pay361, k0_pay362, k0_pay363, k0_pay364, k0_pay365, k0_pay366, k0_pay368, k0_pay382, k0_pay383, k0_pay384, k0_pay385, k0_pay386, k0_pay387, k0_pay388, k0_pay389, k0_pay391, k0_pay399, k0_pay400, k0_pay401, k0_pay402, k0_pay403, k0_pay404, k0_pay405, k0_pay406, k0_pay408, k0_pay409, k0_pay421, k0_pay422, k0_pay423, k0_pay424, k0_pay425, k0_pay426, k0_pay427, k0_pay428, k0_pay430, k0_pay431, k0_pay432, k0_pay438, k0_pay439, k0_pay440, k0_pay441]
    simp only [rd harg1 H.h0, rc (dy_at c arg2 harg2 arg4 harg4 arg11 harg11 arg25 H), rc (mx_at c arg1 harg1 arg7 harg7 arg8 harg8 arg9 harg9 arg10 harg10 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

end Cert.KernelIdeal.Hand

end
-- ==== Proof.BwdBack.lean ====
/- One grid point of the backward kernel: through the layer norm, and back through the input weights. -/
module

public import proofs.«01_k».proof.Proof.BwdGate

@[expose] public section

set_option maxRecDepth 16384
set_option maxHeartbeats 4000000

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

/-- A load of 512 columns whose four quarters are among the last stores. -/
theorem rc_quad {κ : Kind} {sp : Space} {e : EltTy} {v : View sig κ sp S256x6144 e}
    {L : List (View.Piece (Elt Ideal) S256x6144 e)} {G : S256x6144.Idx → Elt Ideal e} (h : View.PiecesOf G L) (i o : ℕ) {b} (ho : o + 512 ≤ 6144)
    (h0 : (L[i]?).map (fun p => p.1) = some (Rect.unit (s := S256x6144) ![128, o + 256] ![128, 256] (inbR (by omega) (by omega))))
    (h1 : (L[i + 2]?).map (fun p => p.1) = some (Rect.unit (s := S256x6144) ![0, o + 256] ![128, 256] (inbR (by omega) (by omega))))
    (h2 : (L[i + 4]?).map (fun p => p.1) = some (Rect.unit (s := S256x6144) ![128, o] ![128, 256] (inbR (by omega) (by omega))))
    (h3 : (L[i + 6]?).map (fun p => p.1) = some (Rect.unit (s := S256x6144) ![0, o] ![128, 256] (inbR (by omega) (by omega))))
    (y : (Rect.unit (s := S256x6144) ![0, o] S256x512.size b).toLoadRect.shape.Idx) :
    View.readCov v L (Rect.unit (s := S256x6144) ![0, o] S256x512.size b).toLoadRect y
      = G ((Rect.unit (s := S256x6144) ![0, o] S256x512.size b).toLoadRect.idx y) := by
  have e0 : (((Rect.unit (s := S256x6144) ![0, o] S256x512.size b).toLoadRect.idx y) 0).val = 0 + (y 0).val := at_rect _ _ _ _ _
  have e1 : (((Rect.unit (s := S256x6144) ![0, o] S256x512.size b).toLoadRect.idx y) 1).val = o + (y 1).val := at_rect _ _ _ _ _
  have l0 : (y 0).val < 256 := (y 0).isLt
  have l1 : (y 1).val < 512 := (y 1).isLt
  by_cases hy : (y 0).val < 128
  · by_cases hz : (y 1).val < 256
    · exact rc_in h (i + 6) h3 (in_rect (by omega) (by omega))
    · exact rc_in h (i + 2) h1 (in_rect (by omega) (by omega))
  · by_cases hz : (y 1).val < 256
    · exact rc_in h (i + 4) h2 (in_rect (by omega) (by omega))
    · exact rc_in h i h0 (in_rect (by omega) (by omega))

/-- A load of 512 columns whose two halves are the last stores. -/
theorem rc_pair {κ : Kind} {sp : Space} {e : EltTy} {v : View sig κ sp S256x6144 e}
    {L : List (View.Piece (Elt Ideal) S256x6144 e)} {G : S256x6144.Idx → Elt Ideal e} (h : View.PiecesOf G L) (o : ℕ) {b} (ho : o + 512 ≤ 6144)
    (h0 : (L[0]?).map (fun p => p.1) = some (Rect.unit (s := S256x6144) ![0, o + 256] ![256, 256] (inbR (by omega) (by omega))))
    (h1 : (L[1]?).map (fun p => p.1) = some (Rect.unit (s := S256x6144) ![0, o] ![256, 256] (inbR (by omega) (by omega))))
    (y : (Rect.unit (s := S256x6144) ![0, o] S256x512.size b).toLoadRect.shape.Idx) :
    View.readCov v L (Rect.unit (s := S256x6144) ![0, o] S256x512.size b).toLoadRect y
      = G ((Rect.unit (s := S256x6144) ![0, o] S256x512.size b).toLoadRect.idx y) := by
  have e0 : (((Rect.unit (s := S256x6144) ![0, o] S256x512.size b).toLoadRect.idx y) 0).val = 0 + (y 0).val := at_rect _ _ _ _ _
  have e1 : (((Rect.unit (s := S256x6144) ![0, o] S256x512.size b).toLoadRect.idx y) 1).val = o + (y 1).val := at_rect _ _ _ _ _
  have l0 : (y 0).val < 256 := (y 0).isLt
  have l1 : (y 1).val < 512 := (y 1).isLt
  by_cases hz : (y 1).val < 256
  · exact rc_in h 1 h1 (in_rect (by omega) (by omega))
  · exact rc_in h 0 h0 (in_rect (by omega) (by omega))

theorem drop_two {s : Shape} {e : EltTy} {G : s.Idx → Elt Ideal e} {p q : View.Piece (Elt Ideal) s e} {L : List (View.Piece (Elt Ideal) s e)}
    (h : View.PiecesOf G (p :: q :: L)) : View.PiecesOf G L := h.2.2

/-- One group's part of the gradient that goes back through the input weights. -/
def thr (a : Args (Fin 2)) (i : ℕ) (k : Fin 1024) (p : Fin 3) (g : Fin 8) : ℝ := ∑ c, dp a (ch i) (tt i) p g c * a.WI k p g c

theorem sum_halves (f : ℕ → ℝ) : ∑ x : Fin 512, f x.val = ∑ c : Fin 256, f c.val + ∑ c : Fin 256, f (256 + c.val) :=
  Fin.sum_univ_add (a := 256) (b := 256) fun x => f x.val

theorem thr_add (a : Args (Fin 2)) (i : ℕ) (k : Fin 1024) (o : ℕ) (h : o % 512 = 0) :
    ∑ x : Fin 512, pflat (dp a) i (o + x.val) * a.WI k (pt (o + x.val)) (gg (o + x.val)) (cc (o + x.val))
      = thr a i k (pt o) (gg o) + thr a i k (pt o) (gg (o + 256)) := by
  rw [sum_halves fun x => pflat (dp a) i (o + x) * a.WI k (pt (o + x)) (gg (o + x)) (cc (o + x))]
  have h1 : ∀ c : Fin 256, pt (o + c.val) = pt o ∧ gg (o + c.val) = gg o ∧ cc (o + c.val) = c
      ∧ pt (o + (256 + c.val)) = pt o ∧ gg (o + (256 + c.val)) = gg (o + 256) ∧ cc (o + (256 + c.val)) = c := by
    intro c
    refine ⟨?_, ?_, ?_, ?_, ?_, ?_⟩ <;> apply Fin.ext <;> simp only [pt, gg, cc, Fin.ofNat] <;> omega
  unfold thr pflat
  congr 1 <;> refine Finset.sum_congr rfl fun c _ => ?_
  · rw [(h1 c).1, (h1 c).2.1, (h1 c).2.2.1]
  · rw [(h1 c).2.2.2.1, (h1 c).2.2.2.2.1, (h1 c).2.2.2.2.2]

theorem thr_zero (a : Args (Fin 2)) (i : ℕ) (k : Fin 1024) :
    ∑ x : Fin 512, pflat (dp a) i x.val * a.WI k (pt x.val) (gg x.val) (cc x.val) = thr a i k 0 0 + thr a i k 0 1 := by
  have h := thr_add a i k 0 rfl
  simp only [Nat.zero_add] at h
  exact h

theorem thr_sum (a : Args (Fin 2)) (i : ℕ) (k : Fin 1024) :
    (∑ x : Fin 512, pflat (dp a) i x.val * a.WI k (pt x.val) (gg x.val) (cc x.val))
      + (∑ x : Fin 512, pflat (dp a) i (4096 + x.val) * a.WI k (pt (4096 + x.val)) (gg (4096 + x.val)) (cc (4096 + x.val)))
      + (∑ x : Fin 512, pflat (dp a) i (512 + x.val) * a.WI k (pt (512 + x.val)) (gg (512 + x.val)) (cc (512 + x.val)))
      + (∑ x : Fin 512, pflat (dp a) i (4608 + x.val) * a.WI k (pt (4608 + x.val)) (gg (4608 + x.val)) (cc (4608 + x.val)))
      + (∑ x : Fin 512, pflat (dp a) i (1024 + x.val) * a.WI k (pt (1024 + x.val)) (gg (1024 + x.val)) (cc (1024 + x.val)))
      + (∑ x : Fin 512, pflat (dp a) i (5120 + x.val) * a.WI k (pt (5120 + x.val)) (gg (5120 + x.val)) (cc (5120 + x.val)))
      + (∑ x : Fin 512, pflat (dp a) i (1536 + x.val) * a.WI k (pt (1536 + x.val)) (gg (1536 + x.val)) (cc (1536 + x.val)))
      + (∑ x : Fin 512, pflat (dp a) i (5632 + x.val) * a.WI k (pt (5632 + x.val)) (gg (5632 + x.val)) (cc (5632 + x.val)))
      + (∑ x : Fin 512, pflat (dp a) i (2048 + x.val) * a.WI k (pt (2048 + x.val)) (gg (2048 + x.val)) (cc (2048 + x.val)))
      + (∑ x : Fin 512, pflat (dp a) i (2560 + x.val) * a.WI k (pt (2560 + x.val)) (gg (2560 + x.val)) (cc (2560 + x.val)))
      + (∑ x : Fin 512, pflat (dp a) i (3072 + x.val) * a.WI k (pt (3072 + x.val)) (gg (3072 + x.val)) (cc (3072 + x.val)))
      + (∑ x : Fin 512, pflat (dp a) i (3584 + x.val) * a.WI k (pt (3584 + x.val)) (gg (3584 + x.val)) (cc (3584 + x.val)))
      = dh a (ch i) (tt i) k := by
  rw [thr_zero, thr_add a i k 4096 rfl, thr_add a i k 512 rfl, thr_add a i k 4608 rfl, thr_add a i k 1024 rfl, thr_add a i k 5120 rfl, thr_add a i k 1536 rfl, thr_add a i k 5632 rfl, thr_add a i k 2048 rfl, thr_add a i k 2560 rfl, thr_add a i k 3072 rfl, thr_add a i k 3584 rfl]
  show (thr a i k 0 0 + thr a i k 0 1) + (thr a i k 2 0 + thr a i k 2 1) + (thr a i k 0 2 + thr a i k 0 3) + (thr a i k 2 2 + thr a i k 2 3) + (thr a i k 0 4 + thr a i k 0 5) + (thr a i k 2 4 + thr a i k 2 5) + (thr a i k 0 6 + thr a i k 0 7) + (thr a i k 2 6 + thr a i k 2 7) + (thr a i k 1 0 + thr a i k 1 1) + (thr a i k 1 2 + thr a i k 1 3) + (thr a i k 1 4 + thr a i k 1 5) + (thr a i k 1 6 + thr a i k 1 7) = ∑ p, ∑ g, thr a i k p g
  rw [Fin.sum_univ_three, Fin.sum_univ_eight, Fin.sum_univ_eight, Fin.sum_univ_eight]
  ring

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

/-- The layer norm's incoming gradient, group by group. -/
theorem dvn_w : (∀ r k, (v765 c arg1 harg1 arg2 harg2 arg4 harg4 arg9 harg9 arg11 harg11 arg25 arg26 arg29 x0 x1 x3 x8 x10) (ix2 r k) = ((dvn a (ch r.val) (tt r.val) 0 k : ℝ) : EReal))
    ∧ (∀ r k, (v928 c arg1 harg1 arg2 harg2 arg4 harg4 arg9 harg9 arg11 harg11 arg25 arg26 arg29 x0 x1 x3 x8 x10) (ix2 r k) = ((dvn a (ch r.val) (tt r.val) 1 k : ℝ) : EReal))
    ∧ (∀ r k, (v1103 c arg1 harg1 arg2 harg2 arg4 harg4 arg9 harg9 arg11 harg11 arg25 arg26 arg29 x0 x1 x3 x8 x10) (ix2 r k) = ((dvn a (ch r.val) (tt r.val) 2 k : ℝ) : EReal))
    ∧ (∀ r k, (v1266 c arg1 harg1 arg2 harg2 arg4 harg4 arg9 harg9 arg11 harg11 arg25 arg26 arg29 x0 x1 x3 x8 x10) (ix2 r k) = ((dvn a (ch r.val) (tt r.val) 3 k : ℝ) : EReal))
    ∧ (∀ r k, (v1441 c arg1 harg1 arg2 harg2 arg4 harg4 arg9 harg9 arg11 harg11 arg25 arg26 arg29 x0 x1 x3 x8 x10) (ix2 r k) = ((dvn a (ch r.val) (tt r.val) 4 k : ℝ) : EReal))
    ∧ (∀ r k, (v1604 c arg1 harg1 arg2 harg2 arg4 harg4 arg9 harg9 arg11 harg11 arg25 arg26 arg29 x0 x1 x3 x8 x10) (ix2 r k) = ((dvn a (ch r.val) (tt r.val) 5 k : ℝ) : EReal))
    ∧ (∀ r k, (v1779 c arg1 harg1 arg2 harg2 arg4 harg4 arg9 harg9 arg11 harg11 arg25 arg26 arg29 x0 x1 x3 x8 x10) (ix2 r k) = ((dvn a (ch r.val) (tt r.val) 6 k : ℝ) : EReal))
    ∧ (∀ r k, (v1942 c arg1 harg1 arg2 harg2 arg4 harg4 arg9 harg9 arg11 harg11 arg25 arg26 arg29 x0 x1 x3 x8 x10) (ix2 r k) = ((dvn a (ch r.val) (tt r.val) 7 k : ℝ) : EReal)) := by
  have p7 := dvn_pieces c arg1 harg1 arg2 harg2 arg4 harg4 arg9 harg9 arg11 harg11 arg25 arg29 H
  have p6 := drop_two p7
  have p5 := drop_two p6
  have p4 := drop_two p5
  have p3 := drop_two p4
  have p2 := drop_two p3
  have p1 := drop_two p2
  have p0 := drop_two p1
  simp only [v765, v928, v1103, v1266, v1441, v1604, v1779, v1942]
  refine ⟨fun r k => (rc_rows (o := 0) p0 (by decide) rfl rfl _).trans ?_, fun r k => (rc_rows (o := 256) p1 (by decide) rfl rfl _).trans ?_, fun r k => (rc_rows (o := 512) p2 (by decide) rfl rfl _).trans ?_, fun r k => (rc_rows (o := 768) p3 (by decide) rfl rfl _).trans ?_, fun r k => (rc_rows (o := 1024) p4 (by decide) rfl rfl _).trans ?_, fun r k => (rc_rows (o := 1280) p5 (by decide) rfl rfl _).trans ?_, fun r k => (rc_rows (o := 1536) p6 (by decide) rfl rfl _).trans ?_, fun r k => (rc_rows (o := 1792) p7 (by decide) rfl rfl _).trans ?_⟩
  all_goals
    simp only [at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

theorem c1_at (r : Fin 256) : (v1978 c arg1 harg1 arg2 harg2 arg4 harg4 arg7 harg7 arg9 harg9 arg11 harg11 arg25 arg26 arg29 x0 x1 x3 x6 x8 x10) (ix2 r 0) = ((c1 a (ch r.val) (tt r.val) : ℝ) : EReal) := by
  obtain ⟨h0, h1, h2, h3, h4, h5, h6, h7⟩ := dvn_w c arg1 harg1 arg2 harg2 arg4 harg4 arg9 harg9 arg11 harg11 arg25 arg26 arg29 H
  simp only [cst_87, cst_88, r_19, r_33, r_35, r_42, r_45, r_52, r_54, r_64, r_73, r_81, r_89, r_91, v244, v246, v1280, v1281, v1282, v1283, v1284, v1455, v1456, v1457, v1458, v1459, v1618, v1619, v1620, v1621, v1622, v1956, v1957, v1958, v1959, v1960, v1978]
  pointwise [k0_pay171, k0_pay172, k0_pay209, k0_pay210, k0_pay251, k0_pay252, k0_pay418, k0_pay419]
  simp only [h0, h1, h2, h3, h4, h5, h6, h7, rd harg7 H.h6, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  exact congrArg (fun x : ℝ => (x : EReal)) (oct_mean (dvh a (ch r.val) (tt r.val)))

theorem c2_at (r : Fin 256) : (v1980 c arg1 harg1 arg2 harg2 arg4 harg4 arg7 harg7 arg9 harg9 arg11 harg11 arg23 arg25 arg26 arg29 x0 x1 x3 x6 x8 x10) (ix2 r 0) = ((c2 a (ch r.val) (tt r.val) : ℝ) : EReal) := by
  obtain ⟨h0, h1, h2, h3, h4, h5, h6, h7⟩ := dvn_w c arg1 harg1 arg2 harg2 arg4 harg4 arg9 harg9 arg11 harg11 arg25 arg26 arg29 H
  simp only [cst_87, cst_88, r_19, r_34, r_35, r_43, r_45, r_53, r_54, r_64, r_73, r_81, r_90, r_91, v244, v246, v625, v788, v963, v1126, v1280, v1281, v1285, v1286, v1287, v1288, v1301, v1455, v1456, v1460, v1461, v1462, v1463, v1464, v1618, v1619, v1623, v1624, v1625, v1626, v1639, v1802, v1956, v1957, v1961, v1962, v1963, v1964, v1980]
  pointwise [k0_pay171, k0_pay173, k0_pay209, k0_pay211, k0_pay251, k0_pay253, k0_pay418, k0_pay420]
  simp only [h0, h1, h2, h3, h4, h5, h6, h7, rd harg7 H.h6, rc (vh_at c arg1 harg1 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  exact congrArg (fun x : ℝ => (x : EReal)) (oct_mean fun g k => dvh a (ch r.val) (tt r.val) g k * vh a (ch r.val) (tt r.val) g k)

/-- The projection's gradient, all three parts of it. -/
theorem dp_pieces : View.PiecesOf (fun y => ((pflat (dp a) (y 0).val (y 1).val : ℝ) : EReal)) (H12_40 c arg1 harg1 arg2 harg2 arg4 harg4 arg7 harg7 arg8 harg8 arg9 harg9 arg10 harg10 arg11 harg11 arg23 arg24 arg25 arg26 arg29 arg31 x0 x1 x3 x6 x7 x8 x9 x10) := by
  simp only [H12_34, H12_36, H12_38, H12_40, v324, v330, v368, v406, v444, v482, v558, v596, v1464, v1639, v1942, v1981, v1984, v1985, v1986, v1987, v1988, v1989, v1990, v1992, v1993, v1994, v1995, v1996, v1998, v2001, v2003, v2004, v2006, v2007, v2009, v2010, v2011, v2012, v2013, v2021, v2024, v2026, v2027, v2029, v2030, v2032, v2033, v2034, v2035, v2036, v2038, v2041, v2043, v2044, v2046, v2047, v2049, v2050, v2051, v2052, v2053, v2061, v2064, v2066, v2067, v2069, v2070, v2072, v2073, v2074, v2075, v2076, v2078, v2080, v2081, v2083, v2086, v2087, v2089, v2090, v2091, v2092, v2093, v2101, v2104, v2106, v2109, v2110, v2112, v2113, v2114, v2115, v2116, v2121, v2123, v2124, v2126, v2127, v2129, v2130, v2131, v2132, v2133]
  refine ⟨?_, ?_, ?_, ?_, ?_, ?_, ?_, ?_, uz_pieces c arg1 harg1 arg2 harg2 arg4 harg4 arg7 harg7 arg8 harg8 arg9 harg9 arg10 harg10 arg11 harg11 arg23 arg25 arg29 arg31 H⟩
  all_goals
    intro x
    obtain ⟨r, k, rfl⟩ : ∃ r k, x = ix2 r k := ⟨_, _, eq_ix2 x⟩
    pointwise []
    simp only [rc (dvn_at c arg1 harg1 arg2 harg2 arg4 harg4 arg9 harg9 arg11 harg11 arg25 arg29 H), rc (vh_at c arg1 harg1 arg23 H), rc (dgv_at c arg1 harg1 H),
      c1_at c arg1 harg1 arg2 harg2 arg4 harg4 arg7 harg7 arg9 harg9 arg11 harg11 arg25 arg26 arg29 H, c2_at c arg1 harg1 arg2 harg2 arg4 harg4 arg7 harg7 arg9 harg9 arg11 harg11 arg23 arg25 arg26 arg29 H,
      rs_at c arg1 harg1 arg23 H, rd harg7 H.h6, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

/-- The gradient at the normed row. -/
theorem dh_at (r : Fin 256) (k : Fin 1024) : k0_pay479 (v2100 c arg1 harg1 arg2 harg2 arg4 harg4 arg7 harg7 arg8 harg8 arg9 harg9 arg10 harg10 arg11 harg11 arg12 harg12 arg13 arg23 arg24 arg25 arg26 arg29 arg31 x0 x1 x3 x6 x7 x8 x9 x10 x11) (v2136 c arg1 harg1 arg2 harg2 arg4 harg4 arg7 harg7 arg8 harg8 arg9 harg9 arg10 harg10 arg11 harg11 arg13 arg23 arg24 arg25 arg26 arg29 arg31 x0 x1 x3 x6 x7 x8 x9 x10) (View.readAt (Elt Ideal) arg12.view (Rect.unit (s := S1024x6144) ![0, 3584] S1024x512.size inb_S1024x6144_S1024x512_0_3584).toLoadRect (harg12.unread x11)) (ix2 r k)
    = ((dh a (ch r.val) (tt r.val) k : ℝ) : EReal) := by
  have p40 := dp_pieces c arg1 harg1 arg2 harg2 arg4 harg4 arg7 harg7 arg8 harg8 arg9 harg9 arg10 harg10 arg11 harg11 arg23 arg24 arg25 arg26 arg29 arg31 H
  have p38 := drop_two p40
  have p36 := drop_two p38
  have p34 := drop_two p36
  have p32 := drop_two p34
  have p24 := drop_two (drop_two (drop_two (drop_two p32)))
  have p16 := drop_two (drop_two (drop_two (drop_two p24)))
  have p8 := drop_two (drop_two (drop_two (drop_two p16)))
  simp only [cst_88, cst_943, r_44, r_63, v313, v951, v957, v1289, v1295, v1627, v1628, v1630, v1631, v1632, v1633, v1634, v1636, v1637, v1638, v1965, v1966, v1968, v1969, v1970, v1971, v1972, v1974, v1975, v1976, v2015, v2016, v2018, v2019, v2020, v2055, v2056, v2058, v2059, v2060, v2095, v2096, v2098, v2099, v2100, v2135, v2136]
  pointwise [k0_pay479, k0_pay212, k0_pay298]
  simp only [rc_quad p8 0 0 (by decide) rfl rfl rfl rfl, rc_quad p8 1 4096 (by decide) rfl rfl rfl rfl, rc_quad p16 0 512 (by decide) rfl rfl rfl rfl, rc_quad p16 1 4608 (by decide) rfl rfl rfl rfl,
    rc_quad p24 0 1024 (by decide) rfl rfl rfl rfl, rc_quad p24 1 5120 (by decide) rfl rfl rfl rfl, rc_quad p32 0 1536 (by decide) rfl rfl rfl rfl, rc_quad p32 1 5632 (by decide) rfl rfl rfl rfl,
    rc_pair p34 2048 (by decide) rfl rfl, rc_pair p36 2560 (by decide) rfl rfl, rc_pair p38 3072 (by decide) rfl rfl, rc_pair p40 3584 (by decide) rfl rfl, rd harg12 H.h11, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, gg_add, gg_fin, pt_add, pt_fin, cc_add, cc_fin, ch_add, ch_fin, tt_add, tt_fin, kk_fin, Nat.reduceMod, Nat.reduceDiv]
  exact congrArg (fun x : ℝ => (x : EReal)) (thr_sum a r.val k)

end Cert.KernelIdeal.Hand

end
-- ==== Proof.BwdAcc.lean ====
/- The first grid point of the backward kernel: what it leaves in the buffers that later points add to. -/
module

public import proofs.«01_k».proof.Proof.BwdBack

@[expose] public section

set_option maxRecDepth 16384
set_option maxHeartbeats 4000000

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

/-- What is stored in pairs to one place, the second of each pair being the block of `G`. -/
def EvenOf {s : Shape} {e : EltTy} (G : s.Idx → Elt Ideal e) : List (View.Piece (Elt Ideal) s e) → Prop
  | p :: q :: L => p.1 = q.1 ∧ (∀ x : p.1.shape.Idx, p.2 x = G (p.1.emb x)) ∧ EvenOf G L
  | _ => True

/-- The later store of each pair. -/
def evens {s : Shape} {e : EltTy} : List (View.Piece (Elt Ideal) s e) → List (View.Piece (Elt Ideal) s e)
  | p :: _ :: L => p :: evens L
  | _ => []

theorem canon_even {s : Shape} {e : EltTy} {G : s.Idx → Elt Ideal e} (y : s.Idx) :
    ∀ {L : List (View.Piece (Elt Ideal) s e)}, EvenOf G L → (∃ p ∈ evens L, y ∈ p.1.set) → View.canon L y = G y
  | [], _, hc => by obtain ⟨p, hp, _⟩ := hc; simp [evens] at hp
  | [_], _, hc => by obtain ⟨p, hp, _⟩ := hc; simp [evens] at hp
  | p :: q :: L, h, hc => by
    by_cases hm : y ∈ p.1.set
    · obtain ⟨x, rfl⟩ := p.1.exists_idx_of_mem hm
      rw [show p.1.idx x = p.1.emb x from rfl, show (p :: q :: L) = ⟨p.1, p.2⟩ :: q :: L from rfl, View.canon_cons_emb]
      exact h.2.1 x
    · have hq : y ∉ q.1.set := h.1 ▸ hm
      rw [View.canon_cons_of_not_mem p _ hm, View.canon_cons_of_not_mem q _ hq]
      refine canon_even y h.2.2 ?_
      obtain ⟨p', hp', hy⟩ := hc
      rcases List.mem_cons.mp hp' with rfl | hp'
      · exact absurd hy hm
      · exact ⟨p', hp', hy⟩

theorem leaves_even {s : Shape} {e : EltTy} {L : List (View.Piece (Elt Ideal) s e)} {G : s.Idx → Elt Ideal e} {size : Fin s.rank → ℕ}
    (h : EvenOf G L) (hc : View.Piece.tiledL (evens L) size = true) : ∀ y, View.canon L y = G y :=
  fun y => canon_even y h (View.cover_of_tiledL (evens L) size hc y)

/-- A load of what was stored last. -/
theorem rc_top {sig : RefSig} {κ : Kind} {sp : Space} {s : Shape} {e : EltTy} {v : View sig κ sp s e} (r : Rect s)
    (w : r.shape.Idx → Elt Ideal e) (L : List (View.Piece (Elt Ideal) s e)) :
    View.readCov v ((⟨r, w⟩ : View.Piece (Elt Ideal) s e) :: L) r.toLoadRect = w := by
  rw [View.readCov_eq_canon']
  funext x
  exact View.canon_cons_emb r w L x

theorem sel_ge (t s : Fin 128) (x : ℝ) : Scalar.select (IntOp.cmpi .sge (BitVec.ofNat 32 t.val) (BitVec.ofNat 32 s.val)) (x : EReal) ((0 : ℝ) : EReal) = ((if s ≤ t then x else 0 : ℝ) : EReal) := by
  have e : IntOp.cmpi .sge (BitVec.ofNat 32 t.val) (BitVec.ofNat 32 s.val) = if s ≤ t then (1 : BitVec 1) else 0 := by
    revert t s; decide +kernel
  rw [e]; split <;> rfl

theorem fill15 : ∀ y, View.canon ((H15_1 ) : List (View.Piece (Elt Ideal) S8x128x128 .f32)) y = ((0 : ℝ) : EReal) := by
  unfold H15_1
  refine leaves (s := S8x128x128) (e := .f32) (G := fun _ => ((0 : ℝ) : EReal)) (size := ![8, 128, 128]) ⟨fun x => ?_, trivial⟩ (by rfl)
  pointwise [k0_pay11]
  exact EReal.coe_zero.symm

theorem fill22 : ∀ y, View.canon ((HS4_1 ) : List (View.Piece (Elt Ideal) S128x2048 .f32)) y = ((0 : ℝ) : EReal) := by
  unfold HS4_1
  refine leaves (s := S128x2048) (e := .f32) (G := fun _ => ((0 : ℝ) : EReal)) (size := ![128, 2048]) ⟨fun x => ?_, trivial⟩ (by rfl)
  pointwise [k0_pay15]
  exact EReal.coe_zero.symm

theorem fill17 : ∀ y, View.canon ((H17_1 ) : List (View.Piece (Elt Ideal) S1x2048 .f32)) y = ((0 : ℝ) : EReal) := by
  unfold H17_1
  refine leaves (s := S1x2048) (e := .f32) (G := fun _ => ((0 : ℝ) : EReal)) (size := ![1, 2048]) ⟨fun x => ?_, trivial⟩ (by rfl)
  pointwise [k0_pay12]
  exact EReal.coe_zero.symm

theorem fill18 : ∀ y, View.canon ((H18_1 ) : List (View.Piece (Elt Ideal) S1x2048 .f32)) y = ((0 : ℝ) : EReal) := by
  unfold H18_1
  refine leaves (s := S1x2048) (e := .f32) (G := fun _ => ((0 : ℝ) : EReal)) (size := ![1, 2048]) ⟨fun x => ?_, trivial⟩ (by rfl)
  pointwise [k0_pay13]
  exact EReal.coe_zero.symm

theorem fill19 : ∀ y, View.canon ((H19_1 ) : List (View.Piece (Elt Ideal) S1x1024 .f32)) y = ((0 : ℝ) : EReal) := by
  unfold H19_1
  refine leaves (s := S1x1024) (e := .f32) (G := fun _ => ((0 : ℝ) : EReal)) (size := ![1, 1024]) ⟨fun x => ?_, trivial⟩ (by rfl)
  pointwise [k0_pay14]
  exact EReal.coe_zero.symm

theorem fill23 : ∀ y, View.canon ((HS5_1 ) : List (View.Piece (Elt Ideal) S1x1024 .f32)) y = ((0 : ℝ) : EReal) := by
  unfold HS5_1
  refine leaves (s := S1x1024) (e := .f32) (G := fun _ => ((0 : ℝ) : EReal)) (size := ![1, 1024]) ⟨fun x => ?_, trivial⟩ (by rfl)
  pointwise [k0_pay16]
  exact EReal.coe_zero.symm

/-- One chunk's share of the mixing matrix's gradient. -/
def ews (a : Args (Fin 2)) (n : Fin 2) (g : Fin 8) (t s : Fin 128) : ℝ := if s ≤ t then ∑ c, dm a n t g c * vn a n s g c else 0

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

theorem dws_A (arg16 : Memref sig .tc .vmem S8x128x128 .f32) : ∀ y, View.canon (⟨Rect.unit (s := S8x128x128) ![7, 0, 0] S1x128x128.size inb_S8x128x128_S1x128x128_7_0_0, (v1934 c arg1 harg1 arg2 harg2 arg4 harg4 arg7 harg7 arg8 harg8 arg11 harg11 arg16 arg23 arg25 arg29 arg30 x0 x1 x3 x6 x7 x10)⟩ :: (H15_16 c arg1 harg1 arg2 harg2 arg4 harg4 arg7 harg7 arg8 harg8 arg11 harg11 arg16 arg23 arg25 arg29 arg30 x0 x1 x3 x6 x7 x10)) y = ((ews a 0 (Fin.ofNat 8 (y 0).val) (tt (y 1).val) (tt (y 2).val) + ews a 1 (Fin.ofNat 8 (y 0).val) (tt (y 1).val) (tt (y 2).val) : ℝ) : EReal) := by
  refine leaves_even (s := S8x128x128) (e := .f32) (G := fun y => ((ews a 0 (Fin.ofNat 8 (y 0).val) (tt (y 1).val) (tt (y 2).val) + ews a 1 (Fin.ofNat 8 (y 0).val) (tt (y 1).val) (tt (y 2).val) : ℝ) : EReal)) (size := ![1, 128, 128]) ?_ (by rfl)
  refine ⟨rfl, ?_, rfl, ?_, rfl, ?_, rfl, ?_, rfl, ?_, rfl, ?_, rfl, ?_, rfl, ?_, trivial⟩
  all_goals
    intro x
    obtain ⟨t, s, rfl⟩ : ∃ t s, x = ix3 0 t s := ⟨x 1, x 2, by rw [eq_ix3 x]; exact congrArg (fun i => ix3 i (x 1) (x 2)) (Subsingleton.elim _ _)⟩
    simp only [cst_29, cst_88, cst_358, cst_432, r_20, r_22, r_27, r_29, r_36, r_37, r_38, r_39, r_40, r_41, r_46, r_47, r_48, r_49, r_50, r_55, r_57, r_58, r_62, r_65, r_67, r_68, r_72, r_74, r_76, r_78, r_80, r_82, r_84, r_86, r_88, r_94, r_95, r_98, v308, v309, v662, v667, v672, v678, v679, v680, v681, v682, v683, v684, v685, v688, v731, v736, v741, v747, v748, v749, v750, v751, v753, v754, v757, v825, v842, v844, v894, v910, v911, v912, v913, v914, v916, v917, v920, v1000, v1017, v1019, v1069, v1085, v1086, v1087, v1088, v1089, v1091, v1092, v1095, v1150, v1151, v1152, v1163, v1168, v1173, v1179, v1180, v1181, v1182, v1183, v1232, v1237, v1242, v1248, v1249, v1250, v1251, v1252, v1254, v1255, v1258, v1326, v1327, v1338, v1343, v1348, v1354, v1355, v1356, v1357, v1358, v1360, v1407, v1412, v1417, v1423, v1424, v1425, v1426, v1427, v1429, v1430, v1433, v1501, v1506, v1511, v1517, v1518, v1519, v1520, v1521, v1523, v1524, v1527, v1570, v1575, v1580, v1586, v1587, v1588, v1589, v1590, v1592, v1593, v1596, v1676, v1681, v1686, v1692, v1693, v1694, v1695, v1696, v1698, v1699, v1702, v1745, v1755, v1761, v1762, v1763, v1764, v1765, v1767, v1768, v1771, v1839, v1856, v1858, v1894, v1895, v1896, v1897, v1908, v1913, v1918, v1924, v1925, v1926, v1927, v1928, v1930, v1931, v1934]
    (try unfold H15_2); (try unfold H15_4); (try unfold H15_6); (try unfold H15_8); (try unfold H15_10); (try unfold H15_12); (try unfold H15_14); (try unfold H15_16)
    try simp only [rc_top, cst_29, cst_88, cst_358, cst_432, r_20, r_22, r_27, r_29, r_36, r_37, r_38, r_39, r_40, r_41, r_46, r_47, r_48, r_49, r_50, r_55, r_57, r_58, r_62, r_65, r_67, r_68, r_72, r_74, r_76, r_78, r_80, r_82, r_84, r_86, r_88, r_94, r_95, r_98, v308, v309, v662, v667, v672, v678, v679, v680, v681, v682, v683, v684, v685, v688, v731, v736, v741, v747, v748, v749, v750, v751, v753, v754, v757, v825, v842, v844, v894, v910, v911, v912, v913, v914, v916, v917, v920, v1000, v1017, v1019, v1069, v1085, v1086, v1087, v1088, v1089, v1091, v1092, v1095, v1150, v1151, v1152, v1163, v1168, v1173, v1179, v1180, v1181, v1182, v1183, v1232, v1237, v1242, v1248, v1249, v1250, v1251, v1252, v1254, v1255, v1258, v1326, v1327, v1338, v1343, v1348, v1354, v1355, v1356, v1357, v1358, v1360, v1407, v1412, v1417, v1423, v1424, v1425, v1426, v1427, v1429, v1430, v1433, v1501, v1506, v1511, v1517, v1518, v1519, v1520, v1521, v1523, v1524, v1527, v1570, v1575, v1580, v1586, v1587, v1588, v1589, v1590, v1592, v1593, v1596, v1676, v1681, v1686, v1692, v1693, v1694, v1695, v1696, v1698, v1699, v1702, v1745, v1755, v1761, v1762, v1763, v1764, v1765, v1767, v1768, v1771, v1839, v1856, v1858, v1894, v1895, v1896, v1897, v1908, v1913, v1918, v1924, v1925, v1926, v1927, v1928, v1930, v1931, v1934]
    (try (unfold H15_16; rw [View.readCov_skip _ _ _ _ _ rfl])); (try (unfold H15_15; rw [View.readCov_skip _ _ _ _ _ rfl])); (try (unfold H15_14; rw [View.readCov_skip _ _ _ _ _ rfl])); (try (unfold H15_13; rw [View.readCov_skip _ _ _ _ _ rfl])); (try (unfold H15_12; rw [View.readCov_skip _ _ _ _ _ rfl])); (try (unfold H15_11; rw [View.readCov_skip _ _ _ _ _ rfl])); (try (unfold H15_10; rw [View.readCov_skip _ _ _ _ _ rfl])); (try (unfold H15_9; rw [View.readCov_skip _ _ _ _ _ rfl])); (try (unfold H15_8; rw [View.readCov_skip _ _ _ _ _ rfl])); (try (unfold H15_7; rw [View.readCov_skip _ _ _ _ _ rfl])); (try (unfold H15_6; rw [View.readCov_skip _ _ _ _ _ rfl])); (try (unfold H15_5; rw [View.readCov_skip _ _ _ _ _ rfl])); (try (unfold H15_4; rw [View.readCov_skip _ _ _ _ _ rfl])); (try (unfold H15_3; rw [View.readCov_skip _ _ _ _ _ rfl])); (try (unfold H15_2; rw [View.readCov_skip _ _ _ _ _ rfl]))
    pointwise [k0_pay11, k0_pay131, k0_pay132, k0_pay133, k0_pay135, k0_pay136, k0_pay137, k0_pay150, k0_pay151, k0_pay152, k0_pay154, k0_pay155, k0_pay156, k0_pay174, k0_pay175, k0_pay176, k0_pay177, k0_pay178, k0_pay179, k0_pay183, k0_pay185, k0_pay187, k0_pay188, k0_pay190, k0_pay191, k0_pay192, k0_pay193, k0_pay194, k0_pay195, k0_pay196, k0_pay200, k0_pay202, k0_pay213, k0_pay214, k0_pay215, k0_pay216, k0_pay217, k0_pay218, k0_pay219, k0_pay223, k0_pay225, k0_pay227, k0_pay228, k0_pay230, k0_pay231, k0_pay232, k0_pay233, k0_pay234, k0_pay235, k0_pay236, k0_pay237, k0_pay241, k0_pay243, k0_pay254, k0_pay255, k0_pay256, k0_pay258, k0_pay273, k0_pay275, k0_pay276, k0_pay277, k0_pay279, k0_pay280, k0_pay281, k0_pay299, k0_pay300, k0_pay301, k0_pay303, k0_pay316, k0_pay318, k0_pay319, k0_pay320, k0_pay322, k0_pay323, k0_pay324, k0_pay342, k0_pay343, k0_pay344, k0_pay346, k0_pay347, k0_pay348, k0_pay359, k0_pay360, k0_pay361, k0_pay363, k0_pay364, k0_pay365, k0_pay382, k0_pay383, k0_pay384, k0_pay386, k0_pay387, k0_pay388, k0_pay399, k0_pay400, k0_pay401, k0_pay403, k0_pay404, k0_pay405, k0_pay409, k0_pay421, k0_pay422, k0_pay423, k0_pay425, k0_pay426, k0_pay427, k0_pay431, k0_pay433, k0_pay435, k0_pay436, k0_pay438, k0_pay439, k0_pay440]
    simp only [sel_ge, rc fill15, rd harg1 H.h0, rc (dy_at c arg2 harg2 arg4 harg4 arg11 harg11 arg25 H), rc (vn_at c arg1 harg1 arg7 harg7 arg8 harg8 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

/-- What the first point leaves in the running sum of the mixing bias's gradient, a column at a time. -/
theorem dbs_A (arg27 : Memref sig .tc .vmem S128x2048 .f32) : ∀ y, View.canon (⟨Rect.unit (s := S128x2048) ![0, 1792] S128x256.size inb_S128x2048_S128x256_0_1792, (v1923 c arg1 harg1 arg2 harg2 arg4 harg4 arg11 harg11 arg25 arg27 arg29 x0 x1 x3 x10)⟩ :: (HS4_16 c arg1 harg1 arg2 harg2 arg4 harg4 arg11 harg11 arg25 arg27 arg29 x0 x1 x3 x10) : List (View.Piece (Elt Ideal) S128x2048 .f32)) y = ((dm a 0 (tt (y 0).val) (gg (y 1).val) (cc (y 1).val) + dm a 1 (tt (y 0).val) (gg (y 1).val) (cc (y 1).val) : ℝ) : EReal) := by
  refine leaves_even (s := S128x2048) (e := .f32) (G := fun y => ((dm a 0 (tt (y 0).val) (gg (y 1).val) (cc (y 1).val) + dm a 1 (tt (y 0).val) (gg (y 1).val) (cc (y 1).val) : ℝ) : EReal)) (size := ![128, 256]) ?_ (by rfl)
  refine ⟨rfl, ?_, rfl, ?_, rfl, ?_, rfl, ?_, rfl, ?_, rfl, ?_, rfl, ?_, rfl, ?_, trivial⟩
  all_goals
    intro x
    obtain ⟨r, k, rfl⟩ : ∃ r k, x = ix2 r k := ⟨_, _, eq_ix2 x⟩
    simp only [cst_29, cst_432, r_20, r_22, r_27, r_29, r_36, r_37, r_38, r_39, r_40, r_41, r_46, r_47, r_48, r_49, r_51, r_55, r_57, r_58, r_62, r_65, r_67, r_68, r_72, r_74, r_76, r_78, r_80, r_82, r_84, r_86, r_88, r_94, r_98, v662, v667, v672, v673, v674, v677, v731, v736, v741, v742, v743, v746, v825, v836, v894, v905, v906, v909, v1000, v1011, v1069, v1080, v1084, v1150, v1151, v1152, v1163, v1168, v1173, v1174, v1175, v1178, v1232, v1237, v1242, v1243, v1244, v1247, v1326, v1327, v1338, v1343, v1348, v1349, v1350, v1353, v1407, v1412, v1417, v1418, v1419, v1422, v1501, v1506, v1511, v1512, v1513, v1516, v1570, v1575, v1580, v1581, v1582, v1585, v1676, v1681, v1686, v1687, v1688, v1691, v1745, v1755, v1756, v1757, v1760, v1839, v1850, v1894, v1895, v1896, v1897, v1908, v1913, v1918, v1919, v1920, v1923]
    (try unfold HS4_2); (try unfold HS4_4); (try unfold HS4_6); (try unfold HS4_8); (try unfold HS4_10); (try unfold HS4_12); (try unfold HS4_14); (try unfold HS4_16)
    try simp only [rc_top, cst_29, cst_432, r_20, r_22, r_27, r_29, r_36, r_37, r_38, r_39, r_40, r_41, r_46, r_47, r_48, r_49, r_51, r_55, r_57, r_58, r_62, r_65, r_67, r_68, r_72, r_74, r_76, r_78, r_80, r_82, r_84, r_86, r_88, r_94, r_98, v662, v667, v672, v673, v674, v677, v731, v736, v741, v742, v743, v746, v825, v836, v894, v905, v906, v909, v1000, v1011, v1069, v1080, v1084, v1150, v1151, v1152, v1163, v1168, v1173, v1174, v1175, v1178, v1232, v1237, v1242, v1243, v1244, v1247, v1326, v1327, v1338, v1343, v1348, v1349, v1350, v1353, v1407, v1412, v1417, v1418, v1419, v1422, v1501, v1506, v1511, v1512, v1513, v1516, v1570, v1575, v1580, v1581, v1582, v1585, v1676, v1681, v1686, v1687, v1688, v1691, v1745, v1755, v1756, v1757, v1760, v1839, v1850, v1894, v1895, v1896, v1897, v1908, v1913, v1918, v1919, v1920, v1923]
    (try (unfold HS4_16; rw [View.readCov_skip _ _ _ _ _ rfl])); (try (unfold HS4_15; rw [View.readCov_skip _ _ _ _ _ rfl])); (try (unfold HS4_14; rw [View.readCov_skip _ _ _ _ _ rfl])); (try (unfold HS4_13; rw [View.readCov_skip _ _ _ _ _ rfl])); (try (unfold HS4_12; rw [View.readCov_skip _ _ _ _ _ rfl])); (try (unfold HS4_11; rw [View.readCov_skip _ _ _ _ _ rfl])); (try (unfold HS4_10; rw [View.readCov_skip _ _ _ _ _ rfl])); (try (unfold HS4_9; rw [View.readCov_skip _ _ _ _ _ rfl])); (try (unfold HS4_8; rw [View.readCov_skip _ _ _ _ _ rfl])); (try (unfold HS4_7; rw [View.readCov_skip _ _ _ _ _ rfl])); (try (unfold HS4_6; rw [View.readCov_skip _ _ _ _ _ rfl])); (try (unfold HS4_5; rw [View.readCov_skip _ _ _ _ _ rfl])); (try (unfold HS4_4; rw [View.readCov_skip _ _ _ _ _ rfl])); (try (unfold HS4_3; rw [View.readCov_skip _ _ _ _ _ rfl])); (try (unfold HS4_2; rw [View.readCov_skip _ _ _ _ _ rfl]))
    pointwise [k0_pay15, k0_pay131, k0_pay132, k0_pay133, k0_pay135, k0_pay136, k0_pay137, k0_pay150, k0_pay151, k0_pay152, k0_pay154, k0_pay155, k0_pay156, k0_pay174, k0_pay175, k0_pay176, k0_pay177, k0_pay178, k0_pay179, k0_pay183, k0_pay185, k0_pay186, k0_pay190, k0_pay191, k0_pay192, k0_pay193, k0_pay194, k0_pay195, k0_pay196, k0_pay200, k0_pay202, k0_pay213, k0_pay214, k0_pay215, k0_pay216, k0_pay217, k0_pay218, k0_pay219, k0_pay223, k0_pay225, k0_pay226, k0_pay230, k0_pay231, k0_pay232, k0_pay233, k0_pay234, k0_pay235, k0_pay236, k0_pay237, k0_pay241, k0_pay243, k0_pay244, k0_pay254, k0_pay255, k0_pay256, k0_pay258, k0_pay275, k0_pay276, k0_pay277, k0_pay279, k0_pay280, k0_pay281, k0_pay299, k0_pay300, k0_pay301, k0_pay303, k0_pay318, k0_pay319, k0_pay320, k0_pay322, k0_pay323, k0_pay324, k0_pay342, k0_pay343, k0_pay344, k0_pay346, k0_pay347, k0_pay348, k0_pay359, k0_pay360, k0_pay361, k0_pay363, k0_pay364, k0_pay365, k0_pay382, k0_pay383, k0_pay384, k0_pay386, k0_pay387, k0_pay388, k0_pay399, k0_pay400, k0_pay401, k0_pay403, k0_pay404, k0_pay405, k0_pay409, k0_pay421, k0_pay422, k0_pay423, k0_pay425, k0_pay426, k0_pay427, k0_pay431, k0_pay433, k0_pay434, k0_pay438, k0_pay439, k0_pay440]
    simp only [rc fill22, rd harg1 H.h0, rc (dy_at c arg2 harg2 arg4 harg4 arg11 harg11 arg25 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

/-- What the first point leaves for the gain of the normed gate. -/
theorem dlg_A (arg18 : Memref sig .tc .vmem S1x2048 .f32) : ∀ y, View.canon (⟨Rect.unit (s := S1x2048) ![0, 1792] S1x256.size inb_S1x2048_S1x256_0_1792, (v1954 c arg1 harg1 arg2 harg2 arg4 harg4 arg9 harg9 arg11 harg11 arg18 arg23 arg25 arg26 arg29 x0 x1 x3 x8 x10)⟩ :: (H17_8 c arg1 harg1 arg2 harg2 arg4 harg4 arg9 harg9 arg11 harg11 arg18 arg23 arg25 arg26 arg29 x0 x1 x3 x8 x10) : List (View.Piece (Elt Ideal) S1x2048 .f32)) y = ((∑ r : Fin 256, flat (dvn a) r.val (y 1).val * flat (vh a) r.val (y 1).val : ℝ) : EReal) := by
  obtain ⟨h0, h1, h2, h3, h4, h5, h6, h7⟩ := dvn_w c arg1 harg1 arg2 harg2 arg4 harg4 arg9 harg9 arg11 harg11 arg25 arg26 arg29 H
  refine leaves_over (G := fun y => ((∑ r : Fin 256, flat (dvn a) r.val (y 1).val * flat (vh a) r.val (y 1).val : ℝ) : EReal)) (L := [_, _, _, _, _, _, _, _]) (L' := (H17_1 )) (size := ![1, 256]) rfl ?_ (by rfl)
  refine ⟨?_, ?_, ?_, ?_, ?_, ?_, ?_, ?_, trivial⟩
  all_goals
    intro x
    obtain ⟨k, rfl⟩ : ∃ k, x = ix2 0 k := ⟨x 1, by rw [eq_ix2 x]; exact congrArg (fun i => ix2 i (x 1)) (Subsingleton.elim _ _)⟩
    simp only [v625, v772, v788, v935, v963, v1110, v1126, v1273, v1274, v1275, v1276, v1277, v1278, v1301, v1448, v1449, v1450, v1451, v1452, v1453, v1464, v1611, v1612, v1613, v1614, v1615, v1616, v1639, v1786, v1802, v1949, v1950, v1951, v1952, v1953, v1954]
    (try (unfold H17_8; rw [View.readCov_skip _ _ _ _ _ rfl])); (try (unfold H17_7; rw [View.readCov_skip _ _ _ _ _ rfl])); (try (unfold H17_6; rw [View.readCov_skip _ _ _ _ _ rfl])); (try (unfold H17_5; rw [View.readCov_skip _ _ _ _ _ rfl])); (try (unfold H17_4; rw [View.readCov_skip _ _ _ _ _ rfl])); (try (unfold H17_3; rw [View.readCov_skip _ _ _ _ _ rfl])); (try (unfold H17_2; rw [View.readCov_skip _ _ _ _ _ rfl]))
    pointwise [k0_pay12, k0_pay170, k0_pay208, k0_pay250, k0_pay417]
    simp only [rc fill17, h0, h1, h2, h3, h4, h5, h6, h7, rc (vh_at c arg1 harg1 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- What the first point leaves for the shift of the normed gate. -/
theorem dlb_A (arg19 : Memref sig .tc .vmem S1x2048 .f32) : ∀ y, View.canon (⟨Rect.unit (s := S1x2048) ![0, 1792] S1x256.size inb_S1x2048_S1x256_0_1792, (v1947 c arg1 harg1 arg2 harg2 arg4 harg4 arg9 harg9 arg11 harg11 arg19 arg25 arg26 arg29 x0 x1 x3 x8 x10)⟩ :: (H18_8 c arg1 harg1 arg2 harg2 arg4 harg4 arg9 harg9 arg11 harg11 arg19 arg25 arg26 arg29 x0 x1 x3 x8 x10) : List (View.Piece (Elt Ideal) S1x2048 .f32)) y = ((∑ r : Fin 256, flat (dvn a) r.val (y 1).val : ℝ) : EReal) := by
  obtain ⟨h0, h1, h2, h3, h4, h5, h6, h7⟩ := dvn_w c arg1 harg1 arg2 harg2 arg4 harg4 arg9 harg9 arg11 harg11 arg25 arg26 arg29 H
  refine leaves_over (G := fun y => ((∑ r : Fin 256, flat (dvn a) r.val (y 1).val : ℝ) : EReal)) (L := [_, _, _, _, _, _, _, _]) (L' := (H18_1 )) (size := ![1, 256]) rfl ?_ (by rfl)
  refine ⟨?_, ?_, ?_, ?_, ?_, ?_, ?_, ?_, trivial⟩
  all_goals
    intro x
    obtain ⟨k, rfl⟩ : ∃ k, x = ix2 0 k := ⟨x 1, by rw [eq_ix2 x]; exact congrArg (fun i => ix2 i (x 1)) (Subsingleton.elim _ _)⟩
    simp only [v766, v929, v930, v931, v932, v933, v1104, v1105, v1106, v1107, v1108, v1267, v1268, v1269, v1270, v1271, v1442, v1443, v1444, v1445, v1446, v1605, v1606, v1607, v1608, v1609, v1780, v1943, v1944, v1945, v1946, v1947]
    (try (unfold H18_8; rw [View.readCov_skip _ _ _ _ _ rfl])); (try (unfold H18_7; rw [View.readCov_skip _ _ _ _ _ rfl])); (try (unfold H18_6; rw [View.readCov_skip _ _ _ _ _ rfl])); (try (unfold H18_5; rw [View.readCov_skip _ _ _ _ _ rfl])); (try (unfold H18_4; rw [View.readCov_skip _ _ _ _ _ rfl])); (try (unfold H18_3; rw [View.readCov_skip _ _ _ _ _ rfl])); (try (unfold H18_2; rw [View.readCov_skip _ _ _ _ _ rfl]))
    pointwise [k0_pay13, k0_pay169, k0_pay416]
    simp only [rc fill18, h0, h1, h2, h3, h4, h5, h6, h7, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

theorem rr_at (r : Fin 256) : (r_100 c arg3 harg3 x2) (ix2 r 0) = ((rr a (ch r.val) (tt r.val) : ℝ) : EReal) := by
  unfold r_100
  pointwise [k0_pay480]
  simp only [c_1024, div_real _ (show (1024 : ℝ) ≠ 0 by norm_num), rd harg3 H.h2, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  exact rsqrt_real (msq_pos a (ch r.val) (tt r.val))

/-- What the first point leaves for the modulation's shift. -/
theorem dsh_A (arg20 : Memref sig .tc .vmem S1x1024 .f32) : ∀ y, View.canon (⟨Rect.unit (s := S1x1024) ![0, 0] S1x1024.size inb_S1x1024_S1x1024_0_0, k0_pay482 (v2100 c arg1 harg1 arg2 harg2 arg4 harg4 arg7 harg7 arg8 harg8 arg9 harg9 arg10 harg10 arg11 harg11 arg12 harg12 arg13 arg23 arg24 arg25 arg26 arg29 arg31 x0 x1 x3 x6 x7 x8 x9 x10 x11) (v2136 c arg1 harg1 arg2 harg2 arg4 harg4 arg7 harg7 arg8 harg8 arg9 harg9 arg10 harg10 arg11 harg11 arg13 arg23 arg24 arg25 arg26 arg29 arg31 x0 x1 x3 x6 x7 x8 x9 x10) (View.readAt (Elt Ideal) arg12.view (Rect.unit (s := S1024x6144) ![0, 3584] S1024x512.size inb_S1024x6144_S1024x512_0_3584).toLoadRect (harg12.unread x11)) (v2152 c arg20)⟩ :: (H19_1) : List (View.Piece (Elt Ideal) S1x1024 .f32)) y = ((∑ r : Fin 256, dh a (ch r.val) (tt r.val) (kk (y 1).val) : ℝ) : EReal) := by
  refine leaves_over (G := fun y => ((∑ r : Fin 256, dh a (ch r.val) (tt r.val) (kk (y 1).val) : ℝ) : EReal)) (L := [_]) (L' := (H19_1 )) (size := ![1, 1024]) rfl ⟨fun x => ?_, trivial⟩ (by rfl)
  obtain ⟨k, rfl⟩ : ∃ k, x = ix2 0 k := ⟨x 1, by rw [eq_ix2 x]; exact congrArg (fun i => ix2 i (x 1)) (Subsingleton.elim _ _)⟩
  simp only [v2152]
  pointwise [k0_pay482]
  simp only [rc fill19, dh_at c arg1 harg1 arg2 harg2 arg4 harg4 arg7 harg7 arg8 harg8 arg9 harg9 arg10 harg10 arg11 harg11 arg12 harg12 arg13 arg23 arg24 arg25 arg26 arg29 arg31 H, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]

/-- What the first point leaves of the sum that the modulation's scale and the gain share. -/
theorem p_A (arg28 : Memref sig .tc .vmem S1x1024 .f32) : ∀ y, View.canon (⟨Rect.unit (s := S1x1024) ![0, 0] S1x1024.size inb_S1x1024_S1x1024_0_0, k0_pay483 (v2100 c arg1 harg1 arg2 harg2 arg4 harg4 arg7 harg7 arg8 harg8 arg9 harg9 arg10 harg10 arg11 harg11 arg12 harg12 arg13 arg23 arg24 arg25 arg26 arg29 arg31 x0 x1 x3 x6 x7 x8 x9 x10 x11) (v2136 c arg1 harg1 arg2 harg2 arg4 harg4 arg7 harg7 arg8 harg8 arg9 harg9 arg10 harg10 arg11 harg11 arg13 arg23 arg24 arg25 arg26 arg29 arg31 x0 x1 x3 x6 x7 x8 x9 x10) (View.readAt (Elt Ideal) arg12.view (Rect.unit (s := S1024x6144) ![0, 3584] S1024x512.size inb_S1024x6144_S1024x512_0_3584).toLoadRect (harg12.unread x11)) (View.readAt (Elt Ideal) arg3.view (Rect.unit (s := S256x1024) ![0, 0] S256x1024.size inb_S256x1024_S256x1024_0_0).toLoadRect (harg3.unread x2)) (v2158 c arg28)⟩ :: (HS5_1) : List (View.Piece (Elt Ideal) S1x1024 .f32)) y = ((∑ r : Fin 256, dh a (ch r.val) (tt r.val) (kk (y 1).val) * (a.X (ch r.val) (tt r.val) (kk (y 1).val) * rr a (ch r.val) (tt r.val)) : ℝ) : EReal) := by
  refine leaves_over (G := fun y => ((∑ r : Fin 256, dh a (ch r.val) (tt r.val) (kk (y 1).val) * (a.X (ch r.val) (tt r.val) (kk (y 1).val) * rr a (ch r.val) (tt r.val)) : ℝ) : EReal)) (L := [_]) (L' := (HS5_1 )) (size := ![1, 1024]) rfl ⟨fun x => ?_, trivial⟩ (by rfl)
  obtain ⟨k, rfl⟩ : ∃ k, x = ix2 0 k := ⟨x 1, by rw [eq_ix2 x]; exact congrArg (fun i => ix2 i (x 1)) (Subsingleton.elim _ _)⟩
  have hr := rr_at c arg3 harg3 H
  simp only [r_100] at hr
  simp only [v2158]
  pointwise [k0_pay483, k0_pay481]
  simp only [hr, rc fill23, dh_at c arg1 harg1 arg2 harg2 arg4 harg4 arg7 harg7 arg8 harg8 arg9 harg9 arg10 harg10 arg11 harg11 arg12 harg12 arg13 arg23 arg24 arg25 arg26 arg29 arg31 H, rd harg3 H.h2, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]

/-- The gradient of the rows. -/
theorem dx_A : ∀ y, View.canon ([⟨Rect.unit (s := S256x1024) ![0, 0] ![256, 1024] inb_S256x1024_S256x1024_0_0, k0_pay1 (r_100 c arg3 harg3 x2) (r_101 c arg3 harg3 x2) (r_102 c arg1 harg1 arg2 harg2 arg4 harg4 arg5 harg5 arg6 harg6 arg7 harg7 arg8 harg8 arg9 harg9 arg10 harg10 arg11 harg11 arg12 harg12 arg13 arg23 arg24 arg25 arg26 arg29 arg31 x0 x1 x3 x4 x5 x6 x7 x8 x9 x10 x11) (View.readAt (Elt Ideal) arg2.view (Rect.unit (s := S256x1024) ![0, 0] ![256, 1024] inb_S256x1024_S256x1024_0_0).toLoadRect (harg2.unread x1))⟩] : List (View.Piece (Elt Ideal) S256x1024 .f32)) y = ((dx a (ch (y 0).val) (tt (y 0).val) (kk (y 1).val) : ℝ) : EReal) := by
  refine leaves (s := S256x1024) (e := .f32) (G := fun y => ((dx a (ch (y 0).val) (tt (y 0).val) (kk (y 1).val) : ℝ) : EReal)) (size := ![256, 1024]) ⟨fun x => ?_, trivial⟩ (by rfl)
  obtain ⟨r, k, rfl⟩ : ∃ r k, x = ix2 r k := ⟨_, _, eq_ix2 x⟩
  have hr := rr_at c arg3 harg3 H
  simp only [r_100] at hr
  simp only [r_100, r_101, r_102]
  pointwise [k0_pay1, k0_pay481, k0_pay484]
  simp only [c_1024, div_real _ (show (1024 : ℝ) ≠ 0 by norm_num), hr, dh_at c arg1 harg1 arg2 harg2 arg4 harg4 arg7 harg7 arg8 harg8 arg9 harg9 arg10 harg10 arg11 harg11 arg12 harg12 arg13 arg23 arg24 arg25 arg26 arg29 arg31 H, rd harg2 H.h1, rd harg3 H.h2, rd harg5 H.h4, rd harg6 H.h5, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
  rfl

end Cert.KernelIdeal.Hand

end
-- ==== Proof.BwdAccB.lean ====
/- The later grid points of the backward kernel: what they add to the buffers they carry. -/
module

public import proofs.«01_k».proof.Proof.BwdAcc
public import proofs.«01_k».proof.Proof.Gen.KernelIdeal.Frame.RunB

@[expose] public section

set_option maxRecDepth 16384
set_option maxHeartbeats 4000000

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

/-- What a later point computes as the first one does. -/
theorem same :
    @kernelRun0_B.sl.r_37 = @kernelRun0_A.sl.r_37
    ∧ @kernelRun0_B.sl.r_38 = @kernelRun0_A.sl.r_38
    ∧ @kernelRun0_B.sl.r_41 = @kernelRun0_A.sl.r_41
    ∧ @kernelRun0_B.sl.r_47 = @kernelRun0_A.sl.r_47
    ∧ @kernelRun0_B.sl.r_48 = @kernelRun0_A.sl.r_48
    ∧ @kernelRun0_B.sl.r_49 = @kernelRun0_A.sl.r_49
    ∧ @kernelRun0_B.sl.r_94 = @kernelRun0_A.sl.r_94
    ∧ @kernelRun0_B.sl.r_95 = @kernelRun0_A.sl.r_95
    ∧ @kernelRun0_B.sl.v308 = @kernelRun0_A.sl.v308
    ∧ @kernelRun0_B.sl.v309 = @kernelRun0_A.sl.v309
    ∧ @kernelRun0_B.sl.v625 = @kernelRun0_A.sl.v625
    ∧ @kernelRun0_B.sl.v672 = @kernelRun0_A.sl.v672
    ∧ @kernelRun0_B.sl.v683 = @kernelRun0_A.sl.v683
    ∧ @kernelRun0_B.sl.v684 = @kernelRun0_A.sl.v684
    ∧ @kernelRun0_B.sl.v741 = @kernelRun0_A.sl.v741
    ∧ @kernelRun0_B.sl.v753 = @kernelRun0_A.sl.v753
    ∧ @kernelRun0_B.sl.v765 = @kernelRun0_A.sl.v765
    ∧ @kernelRun0_B.sl.v788 = @kernelRun0_A.sl.v788
    ∧ @kernelRun0_B.sl.v844 = @kernelRun0_A.sl.v844
    ∧ @kernelRun0_B.sl.v916 = @kernelRun0_A.sl.v916
    ∧ @kernelRun0_B.sl.v928 = @kernelRun0_A.sl.v928
    ∧ @kernelRun0_B.sl.v932 = @kernelRun0_A.sl.v932
    ∧ @kernelRun0_B.sl.v963 = @kernelRun0_A.sl.v963
    ∧ @kernelRun0_B.sl.v1019 = @kernelRun0_A.sl.v1019
    ∧ @kernelRun0_B.sl.v1069 = @kernelRun0_A.sl.v1069
    ∧ @kernelRun0_B.sl.v1091 = @kernelRun0_A.sl.v1091
    ∧ @kernelRun0_B.sl.v1103 = @kernelRun0_A.sl.v1103
    ∧ @kernelRun0_B.sl.v1107 = @kernelRun0_A.sl.v1107
    ∧ @kernelRun0_B.sl.v1173 = @kernelRun0_A.sl.v1173
    ∧ @kernelRun0_B.sl.v1183 = @kernelRun0_A.sl.v1183
    ∧ @kernelRun0_B.sl.v1242 = @kernelRun0_A.sl.v1242
    ∧ @kernelRun0_B.sl.v1254 = @kernelRun0_A.sl.v1254
    ∧ @kernelRun0_B.sl.v1270 = @kernelRun0_A.sl.v1270
    ∧ @kernelRun0_B.sl.v1277 = @kernelRun0_A.sl.v1277
    ∧ @kernelRun0_B.sl.v1348 = @kernelRun0_A.sl.v1348
    ∧ @kernelRun0_B.sl.v1360 = @kernelRun0_A.sl.v1360
    ∧ @kernelRun0_B.sl.v1417 = @kernelRun0_A.sl.v1417
    ∧ @kernelRun0_B.sl.v1429 = @kernelRun0_A.sl.v1429
    ∧ @kernelRun0_B.sl.v1445 = @kernelRun0_A.sl.v1445
    ∧ @kernelRun0_B.sl.v1452 = @kernelRun0_A.sl.v1452
    ∧ @kernelRun0_B.sl.v1511 = @kernelRun0_A.sl.v1511
    ∧ @kernelRun0_B.sl.v1523 = @kernelRun0_A.sl.v1523
    ∧ @kernelRun0_B.sl.v1580 = @kernelRun0_A.sl.v1580
    ∧ @kernelRun0_B.sl.v1592 = @kernelRun0_A.sl.v1592
    ∧ @kernelRun0_B.sl.v1608 = @kernelRun0_A.sl.v1608
    ∧ @kernelRun0_B.sl.v1615 = @kernelRun0_A.sl.v1615
    ∧ @kernelRun0_B.sl.v1639 = @kernelRun0_A.sl.v1639
    ∧ @kernelRun0_B.sl.v1686 = @kernelRun0_A.sl.v1686
    ∧ @kernelRun0_B.sl.v1698 = @kernelRun0_A.sl.v1698
    ∧ @kernelRun0_B.sl.v1755 = @kernelRun0_A.sl.v1755
    ∧ @kernelRun0_B.sl.v1767 = @kernelRun0_A.sl.v1767
    ∧ @kernelRun0_B.sl.v1779 = @kernelRun0_A.sl.v1779
    ∧ @kernelRun0_B.sl.v1839 = @kernelRun0_A.sl.v1839
    ∧ @kernelRun0_B.sl.v1858 = @kernelRun0_A.sl.v1858
    ∧ @kernelRun0_B.sl.v1918 = @kernelRun0_A.sl.v1918
    ∧ @kernelRun0_B.sl.v1930 = @kernelRun0_A.sl.v1930
    ∧ @kernelRun0_B.sl.v1946 = @kernelRun0_A.sl.v1946
    ∧ @kernelRun0_B.sl.v1953 = @kernelRun0_A.sl.v1953
    ∧ @kernelRun0_B.sl.v2100 = @kernelRun0_A.sl.v2100
    ∧ @kernelRun0_B.sl.v2136 = @kernelRun0_A.sl.v2136 :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

include H

theorem dws_B (arg16 : Memref sig .tc .vmem S8x128x128 .f32) (harg16 : arg16.IsWhole) (X : Vec Ideal S8x128x128 .f32) : ∀ y, View.canon (⟨Rect.unit (s := S8x128x128) ![7, 0, 0] S1x128x128.size inb_S8x128x128_S1x128x128_7_0_0, (kernelRun0_B.sl.v1934 c arg1 harg1 arg2 harg2 arg4 harg4 arg7 harg7 arg8 harg8 arg11 harg11 arg16 harg16 arg23 arg25 arg29 arg30 x0 x1 x3 x6 x7 x10 X)⟩ :: (kernelRun0_B.sl.H15_15 c arg1 harg1 arg2 harg2 arg4 harg4 arg7 harg7 arg8 harg8 arg11 harg11 arg16 harg16 arg23 arg25 arg29 arg30 x0 x1 x3 x6 x7 x10 X)) y = X y + ((ews a 0 (Fin.ofNat 8 (y 0).val) (tt (y 1).val) (tt (y 2).val) + ews a 1 (Fin.ofNat 8 (y 0).val) (tt (y 1).val) (tt (y 2).val) : ℝ) : EReal) := by
  refine leaves_even (s := S8x128x128) (e := .f32) (G := fun y => X y + ((ews a 0 (Fin.ofNat 8 (y 0).val) (tt (y 1).val) (tt (y 2).val) + ews a 1 (Fin.ofNat 8 (y 0).val) (tt (y 1).val) (tt (y 2).val) : ℝ) : EReal)) (size := ![1, 128, 128]) ?_ (by rfl)
  refine ⟨rfl, ?_, rfl, ?_, rfl, ?_, rfl, ?_, rfl, ?_, rfl, ?_, rfl, ?_, rfl, ?_, trivial⟩
  all_goals
    intro x
    obtain ⟨t, s, rfl⟩ : ∃ t s, x = ix3 0 t s := ⟨x 1, x 2, by rw [eq_ix3 x]; exact congrArg (fun i => ix3 i (x 1) (x 2)) (Subsingleton.elim _ _)⟩
    simp only [kernelRun0_B.sl.v680, kernelRun0_B.sl.v685, kernelRun0_B.sl.v688, kernelRun0_B.sl.v748, kernelRun0_B.sl.v749, kernelRun0_B.sl.v754, kernelRun0_B.sl.v757, kernelRun0_B.sl.v842, kernelRun0_B.sl.v911, kernelRun0_B.sl.v912, kernelRun0_B.sl.v917, kernelRun0_B.sl.v920, kernelRun0_B.sl.v1017, kernelRun0_B.sl.v1086, kernelRun0_B.sl.v1087, kernelRun0_B.sl.v1092, kernelRun0_B.sl.v1095, kernelRun0_B.sl.v1180, kernelRun0_B.sl.v1181, kernelRun0_B.sl.v1249, kernelRun0_B.sl.v1250, kernelRun0_B.sl.v1255, kernelRun0_B.sl.v1258, kernelRun0_B.sl.v1355, kernelRun0_B.sl.v1356, kernelRun0_B.sl.v1424, kernelRun0_B.sl.v1425, kernelRun0_B.sl.v1430, kernelRun0_B.sl.v1433, kernelRun0_B.sl.v1518, kernelRun0_B.sl.v1519, kernelRun0_B.sl.v1524, kernelRun0_B.sl.v1527, kernelRun0_B.sl.v1587, kernelRun0_B.sl.v1588, kernelRun0_B.sl.v1593, kernelRun0_B.sl.v1596, kernelRun0_B.sl.v1693, kernelRun0_B.sl.v1694, kernelRun0_B.sl.v1699, kernelRun0_B.sl.v1702, kernelRun0_B.sl.v1762, kernelRun0_B.sl.v1763, kernelRun0_B.sl.v1768, kernelRun0_B.sl.v1771, kernelRun0_B.sl.v1856, kernelRun0_B.sl.v1925, kernelRun0_B.sl.v1926, kernelRun0_B.sl.v1931, kernelRun0_B.sl.v1934, same, cst_29, cst_88, cst_358, cst_432, r_20, r_22, r_27, r_29, r_36, r_37, r_38, r_39, r_40, r_41, r_46, r_47, r_48, r_49, r_50, r_55, r_57, r_58, r_62, r_65, r_67, r_68, r_72, r_74, r_76, r_78, r_80, r_82, r_84, r_86, r_88, r_94, r_95, r_98, v308, v309, v662, v667, v672, v678, v681, v682, v683, v684, v731, v736, v741, v747, v750, v751, v753, v825, v844, v894, v910, v913, v914, v916, v1000, v1019, v1069, v1085, v1088, v1089, v1091, v1150, v1151, v1152, v1163, v1168, v1173, v1179, v1182, v1183, v1232, v1237, v1242, v1248, v1251, v1252, v1254, v1326, v1327, v1338, v1343, v1348, v1354, v1357, v1358, v1360, v1407, v1412, v1417, v1423, v1426, v1427, v1429, v1501, v1506, v1511, v1517, v1520, v1521, v1523, v1570, v1575, v1580, v1586, v1589, v1590, v1592, v1676, v1681, v1686, v1692, v1695, v1696, v1698, v1745, v1755, v1761, v1764, v1765, v1767, v1839, v1858, v1894, v1895, v1896, v1897, v1908, v1913, v1918, v1924, v1927, v1928, v1930]
    (try unfold kernelRun0_B.sl.H15_1); (try unfold kernelRun0_B.sl.H15_3); (try unfold kernelRun0_B.sl.H15_5); (try unfold kernelRun0_B.sl.H15_7); (try unfold kernelRun0_B.sl.H15_9); (try unfold kernelRun0_B.sl.H15_11); (try unfold kernelRun0_B.sl.H15_13); (try unfold kernelRun0_B.sl.H15_15)
    try simp only [rc_top, kernelRun0_B.sl.v680, kernelRun0_B.sl.v685, kernelRun0_B.sl.v688, kernelRun0_B.sl.v748, kernelRun0_B.sl.v749, kernelRun0_B.sl.v754, kernelRun0_B.sl.v757, kernelRun0_B.sl.v842, kernelRun0_B.sl.v911, kernelRun0_B.sl.v912, kernelRun0_B.sl.v917, kernelRun0_B.sl.v920, kernelRun0_B.sl.v1017, kernelRun0_B.sl.v1086, kernelRun0_B.sl.v1087, kernelRun0_B.sl.v1092, kernelRun0_B.sl.v1095, kernelRun0_B.sl.v1180, kernelRun0_B.sl.v1181, kernelRun0_B.sl.v1249, kernelRun0_B.sl.v1250, kernelRun0_B.sl.v1255, kernelRun0_B.sl.v1258, kernelRun0_B.sl.v1355, kernelRun0_B.sl.v1356, kernelRun0_B.sl.v1424, kernelRun0_B.sl.v1425, kernelRun0_B.sl.v1430, kernelRun0_B.sl.v1433, kernelRun0_B.sl.v1518, kernelRun0_B.sl.v1519, kernelRun0_B.sl.v1524, kernelRun0_B.sl.v1527, kernelRun0_B.sl.v1587, kernelRun0_B.sl.v1588, kernelRun0_B.sl.v1593, kernelRun0_B.sl.v1596, kernelRun0_B.sl.v1693, kernelRun0_B.sl.v1694, kernelRun0_B.sl.v1699, kernelRun0_B.sl.v1702, kernelRun0_B.sl.v1762, kernelRun0_B.sl.v1763, kernelRun0_B.sl.v1768, kernelRun0_B.sl.v1771, kernelRun0_B.sl.v1856, kernelRun0_B.sl.v1925, kernelRun0_B.sl.v1926, kernelRun0_B.sl.v1931, kernelRun0_B.sl.v1934, same, cst_29, cst_88, cst_358, cst_432, r_20, r_22, r_27, r_29, r_36, r_37, r_38, r_39, r_40, r_41, r_46, r_47, r_48, r_49, r_50, r_55, r_57, r_58, r_62, r_65, r_67, r_68, r_72, r_74, r_76, r_78, r_80, r_82, r_84, r_86, r_88, r_94, r_95, r_98, v308, v309, v662, v667, v672, v678, v681, v682, v683, v684, v731, v736, v741, v747, v750, v751, v753, v825, v844, v894, v910, v913, v914, v916, v1000, v1019, v1069, v1085, v1088, v1089, v1091, v1150, v1151, v1152, v1163, v1168, v1173, v1179, v1182, v1183, v1232, v1237, v1242, v1248, v1251, v1252, v1254, v1326, v1327, v1338, v1343, v1348, v1354, v1357, v1358, v1360, v1407, v1412, v1417, v1423, v1426, v1427, v1429, v1501, v1506, v1511, v1517, v1520, v1521, v1523, v1570, v1575, v1580, v1586, v1589, v1590, v1592, v1676, v1681, v1686, v1692, v1695, v1696, v1698, v1745, v1755, v1761, v1764, v1765, v1767, v1839, v1858, v1894, v1895, v1896, v1897, v1908, v1913, v1918, v1924, v1927, v1928, v1930]
    (try (unfold kernelRun0_B.sl.H15_15; rw [View.readCov_skip _ _ _ _ _ rfl])); (try (unfold kernelRun0_B.sl.H15_13; rw [View.readCov_skip _ _ _ _ _ rfl])); (try (unfold kernelRun0_B.sl.H15_11; rw [View.readCov_skip _ _ _ _ _ rfl])); (try (unfold kernelRun0_B.sl.H15_9; rw [View.readCov_skip _ _ _ _ _ rfl])); (try (unfold kernelRun0_B.sl.H15_7; rw [View.readCov_skip _ _ _ _ _ rfl])); (try (unfold kernelRun0_B.sl.H15_5; rw [View.readCov_skip _ _ _ _ _ rfl])); (try (unfold kernelRun0_B.sl.H15_3; rw [View.readCov_skip _ _ _ _ _ rfl])); (try (unfold kernelRun0_B.sl.H15_1; rw [View.readCov_skip _ _ _ _ _ rfl]))
    pointwise [k0_pay131, k0_pay132, k0_pay133, k0_pay135, k0_pay136, k0_pay137, k0_pay150, k0_pay151, k0_pay152, k0_pay154, k0_pay155, k0_pay156, k0_pay174, k0_pay175, k0_pay176, k0_pay177, k0_pay178, k0_pay179, k0_pay183, k0_pay185, k0_pay187, k0_pay188, k0_pay190, k0_pay191, k0_pay192, k0_pay193, k0_pay194, k0_pay195, k0_pay196, k0_pay200, k0_pay202, k0_pay213, k0_pay214, k0_pay215, k0_pay216, k0_pay217, k0_pay218, k0_pay219, k0_pay223, k0_pay225, k0_pay227, k0_pay228, k0_pay230, k0_pay231, k0_pay232, k0_pay233, k0_pay234, k0_pay235, k0_pay236, k0_pay237, k0_pay241, k0_pay243, k0_pay254, k0_pay255, k0_pay256, k0_pay258, k0_pay273, k0_pay275, k0_pay276, k0_pay277, k0_pay279, k0_pay280, k0_pay281, k0_pay299, k0_pay300, k0_pay301, k0_pay303, k0_pay316, k0_pay318, k0_pay319, k0_pay320, k0_pay322, k0_pay323, k0_pay324, k0_pay342, k0_pay343, k0_pay344, k0_pay346, k0_pay347, k0_pay348, k0_pay359, k0_pay360, k0_pay361, k0_pay363, k0_pay364, k0_pay365, k0_pay382, k0_pay383, k0_pay384, k0_pay386, k0_pay387, k0_pay388, k0_pay399, k0_pay400, k0_pay401, k0_pay403, k0_pay404, k0_pay405, k0_pay409, k0_pay421, k0_pay422, k0_pay423, k0_pay425, k0_pay426, k0_pay427, k0_pay431, k0_pay433, k0_pay435, k0_pay436, k0_pay438, k0_pay439, k0_pay440]
    simp only [sel_ge, add_assoc, rd (G := X) harg16 (fun _ => rfl), rd harg1 H.h0, rc (dy_at c arg2 harg2 arg4 harg4 arg11 harg11 arg25 H), rc (vn_at c arg1 harg1 arg7 harg7 arg8 harg8 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

/-- What a later point leaves in the running sum of the mixing bias's gradient, a column at a time. -/
theorem dbs_B (arg27 : Memref sig .tc .vmem S128x2048 .f32) (harg27 : arg27.IsWhole) (X : Vec Ideal S128x2048 .f32) : ∀ y, View.canon (⟨Rect.unit (s := S128x2048) ![0, 1792] S128x256.size inb_S128x2048_S128x256_0_1792, (kernelRun0_B.sl.v1923 c arg1 harg1 arg2 harg2 arg4 harg4 arg11 harg11 arg25 arg27 harg27 arg29 x0 x1 x3 x10 X)⟩ :: (kernelRun0_B.sl.HS4_15 c arg1 harg1 arg2 harg2 arg4 harg4 arg11 harg11 arg25 arg27 harg27 arg29 x0 x1 x3 x10 X) : List (View.Piece (Elt Ideal) S128x2048 .f32)) y = X y + ((dm a 0 (tt (y 0).val) (gg (y 1).val) (cc (y 1).val) + dm a 1 (tt (y 0).val) (gg (y 1).val) (cc (y 1).val) : ℝ) : EReal) := by
  refine leaves_even (s := S128x2048) (e := .f32) (G := fun y => X y + ((dm a 0 (tt (y 0).val) (gg (y 1).val) (cc (y 1).val) + dm a 1 (tt (y 0).val) (gg (y 1).val) (cc (y 1).val) : ℝ) : EReal)) (size := ![128, 256]) ?_ (by rfl)
  refine ⟨rfl, ?_, rfl, ?_, rfl, ?_, rfl, ?_, rfl, ?_, rfl, ?_, rfl, ?_, rfl, ?_, trivial⟩
  all_goals
    intro x
    obtain ⟨r, k, rfl⟩ : ∃ r k, x = ix2 r k := ⟨_, _, eq_ix2 x⟩
    simp only [kernelRun0_B.sl.r_51, kernelRun0_B.sl.v674, kernelRun0_B.sl.v677, kernelRun0_B.sl.v742, kernelRun0_B.sl.v743, kernelRun0_B.sl.v746, kernelRun0_B.sl.v836, kernelRun0_B.sl.v905, kernelRun0_B.sl.v906, kernelRun0_B.sl.v909, kernelRun0_B.sl.v1011, kernelRun0_B.sl.v1080, kernelRun0_B.sl.v1084, kernelRun0_B.sl.v1174, kernelRun0_B.sl.v1175, kernelRun0_B.sl.v1178, kernelRun0_B.sl.v1243, kernelRun0_B.sl.v1244, kernelRun0_B.sl.v1247, kernelRun0_B.sl.v1349, kernelRun0_B.sl.v1350, kernelRun0_B.sl.v1353, kernelRun0_B.sl.v1418, kernelRun0_B.sl.v1419, kernelRun0_B.sl.v1422, kernelRun0_B.sl.v1512, kernelRun0_B.sl.v1513, kernelRun0_B.sl.v1516, kernelRun0_B.sl.v1581, kernelRun0_B.sl.v1582, kernelRun0_B.sl.v1585, kernelRun0_B.sl.v1687, kernelRun0_B.sl.v1688, kernelRun0_B.sl.v1691, kernelRun0_B.sl.v1756, kernelRun0_B.sl.v1757, kernelRun0_B.sl.v1760, kernelRun0_B.sl.v1850, kernelRun0_B.sl.v1919, kernelRun0_B.sl.v1920, kernelRun0_B.sl.v1923, same, cst_29, cst_432, r_20, r_22, r_27, r_29, r_36, r_37, r_38, r_39, r_40, r_41, r_46, r_47, r_48, r_49, r_55, r_57, r_58, r_62, r_65, r_67, r_68, r_72, r_74, r_76, r_78, r_80, r_82, r_84, r_86, r_88, r_94, r_98, v662, v667, v672, v731, v736, v741, v825, v894, v1000, v1069, v1150, v1151, v1152, v1163, v1168, v1173, v1232, v1237, v1242, v1326, v1327, v1338, v1343, v1348, v1407, v1412, v1417, v1501, v1506, v1511, v1570, v1575, v1580, v1676, v1681, v1686, v1745, v1755, v1839, v1894, v1895, v1896, v1897, v1908, v1913, v1918]
    (try unfold kernelRun0_B.sl.HS4_1); (try unfold kernelRun0_B.sl.HS4_3); (try unfold kernelRun0_B.sl.HS4_5); (try unfold kernelRun0_B.sl.HS4_7); (try unfold kernelRun0_B.sl.HS4_9); (try unfold kernelRun0_B.sl.HS4_11); (try unfold kernelRun0_B.sl.HS4_13); (try unfold kernelRun0_B.sl.HS4_15)
    try simp only [rc_top, kernelRun0_B.sl.r_51, kernelRun0_B.sl.v674, kernelRun0_B.sl.v677, kernelRun0_B.sl.v742, kernelRun0_B.sl.v743, kernelRun0_B.sl.v746, kernelRun0_B.sl.v836, kernelRun0_B.sl.v905, kernelRun0_B.sl.v906, kernelRun0_B.sl.v909, kernelRun0_B.sl.v1011, kernelRun0_B.sl.v1080, kernelRun0_B.sl.v1084, kernelRun0_B.sl.v1174, kernelRun0_B.sl.v1175, kernelRun0_B.sl.v1178, kernelRun0_B.sl.v1243, kernelRun0_B.sl.v1244, kernelRun0_B.sl.v1247, kernelRun0_B.sl.v1349, kernelRun0_B.sl.v1350, kernelRun0_B.sl.v1353, kernelRun0_B.sl.v1418, kernelRun0_B.sl.v1419, kernelRun0_B.sl.v1422, kernelRun0_B.sl.v1512, kernelRun0_B.sl.v1513, kernelRun0_B.sl.v1516, kernelRun0_B.sl.v1581, kernelRun0_B.sl.v1582, kernelRun0_B.sl.v1585, kernelRun0_B.sl.v1687, kernelRun0_B.sl.v1688, kernelRun0_B.sl.v1691, kernelRun0_B.sl.v1756, kernelRun0_B.sl.v1757, kernelRun0_B.sl.v1760, kernelRun0_B.sl.v1850, kernelRun0_B.sl.v1919, kernelRun0_B.sl.v1920, kernelRun0_B.sl.v1923, same, cst_29, cst_432, r_20, r_22, r_27, r_29, r_36, r_37, r_38, r_39, r_40, r_41, r_46, r_47, r_48, r_49, r_55, r_57, r_58, r_62, r_65, r_67, r_68, r_72, r_74, r_76, r_78, r_80, r_82, r_84, r_86, r_88, r_94, r_98, v662, v667, v672, v731, v736, v741, v825, v894, v1000, v1069, v1150, v1151, v1152, v1163, v1168, v1173, v1232, v1237, v1242, v1326, v1327, v1338, v1343, v1348, v1407, v1412, v1417, v1501, v1506, v1511, v1570, v1575, v1580, v1676, v1681, v1686, v1745, v1755, v1839, v1894, v1895, v1896, v1897, v1908, v1913, v1918]
    (try (unfold kernelRun0_B.sl.HS4_15; rw [View.readCov_skip _ _ _ _ _ rfl])); (try (unfold kernelRun0_B.sl.HS4_13; rw [View.readCov_skip _ _ _ _ _ rfl])); (try (unfold kernelRun0_B.sl.HS4_11; rw [View.readCov_skip _ _ _ _ _ rfl])); (try (unfold kernelRun0_B.sl.HS4_9; rw [View.readCov_skip _ _ _ _ _ rfl])); (try (unfold kernelRun0_B.sl.HS4_7; rw [View.readCov_skip _ _ _ _ _ rfl])); (try (unfold kernelRun0_B.sl.HS4_5; rw [View.readCov_skip _ _ _ _ _ rfl])); (try (unfold kernelRun0_B.sl.HS4_3; rw [View.readCov_skip _ _ _ _ _ rfl])); (try (unfold kernelRun0_B.sl.HS4_1; rw [View.readCov_skip _ _ _ _ _ rfl]))
    pointwise [k0_pay131, k0_pay132, k0_pay133, k0_pay135, k0_pay136, k0_pay137, k0_pay150, k0_pay151, k0_pay152, k0_pay154, k0_pay155, k0_pay156, k0_pay174, k0_pay175, k0_pay176, k0_pay177, k0_pay178, k0_pay179, k0_pay183, k0_pay185, k0_pay186, k0_pay190, k0_pay191, k0_pay192, k0_pay193, k0_pay194, k0_pay195, k0_pay196, k0_pay200, k0_pay202, k0_pay213, k0_pay214, k0_pay215, k0_pay216, k0_pay217, k0_pay218, k0_pay219, k0_pay223, k0_pay225, k0_pay226, k0_pay230, k0_pay231, k0_pay232, k0_pay233, k0_pay234, k0_pay235, k0_pay236, k0_pay237, k0_pay241, k0_pay243, k0_pay244, k0_pay254, k0_pay255, k0_pay256, k0_pay258, k0_pay275, k0_pay276, k0_pay277, k0_pay279, k0_pay280, k0_pay281, k0_pay299, k0_pay300, k0_pay301, k0_pay303, k0_pay318, k0_pay319, k0_pay320, k0_pay322, k0_pay323, k0_pay324, k0_pay342, k0_pay343, k0_pay344, k0_pay346, k0_pay347, k0_pay348, k0_pay359, k0_pay360, k0_pay361, k0_pay363, k0_pay364, k0_pay365, k0_pay382, k0_pay383, k0_pay384, k0_pay386, k0_pay387, k0_pay388, k0_pay399, k0_pay400, k0_pay401, k0_pay403, k0_pay404, k0_pay405, k0_pay409, k0_pay421, k0_pay422, k0_pay423, k0_pay425, k0_pay426, k0_pay427, k0_pay431, k0_pay433, k0_pay434, k0_pay438, k0_pay439, k0_pay440]
    simp only [add_assoc, rd (G := X) harg27 (fun _ => rfl), rd harg1 H.h0, rc (dy_at c arg2 harg2 arg4 harg4 arg11 harg11 arg25 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv]
    rfl

/-- What a later point leaves for the gain of the normed gate. -/
theorem dlg_B (arg18 : Memref sig .tc .vmem S1x2048 .f32) (harg18 : arg18.IsWhole) (X : Vec Ideal S1x2048 .f32) : ∀ y, View.canon ([⟨Rect.unit (s := S1x2048) ![0, 1792] S1x256.size inb_S1x2048_S1x256_0_1792, (kernelRun0_B.sl.v1954 c arg1 harg1 arg2 harg2 arg4 harg4 arg9 harg9 arg11 harg11 arg18 harg18 arg23 arg25 arg26 arg29 x0 x1 x3 x8 x10 X)⟩, ⟨Rect.unit (s := S1x2048) ![0, 1536] S1x256.size inb_S1x2048_S1x256_0_1536, k0_pay417 (kernelRun0_B.sl.v1639 c arg1 harg1 arg23 x0) (kernelRun0_B.sl.v1779 c arg1 harg1 arg2 harg2 arg4 harg4 arg9 harg9 arg11 harg11 arg25 arg26 arg29 x0 x1 x3 x8 x10) (kernelRun0_B.sl.v1786 c arg18 harg18 X)⟩, ⟨Rect.unit (s := S1x2048) ![0, 1280] S1x256.size inb_S1x2048_S1x256_0_1280, (kernelRun0_B.sl.v1616 c arg1 harg1 arg2 harg2 arg4 harg4 arg9 harg9 arg11 harg11 arg18 harg18 arg23 arg25 arg26 arg29 x0 x1 x3 x8 x10 X)⟩, ⟨Rect.unit (s := S1x2048) ![0, 1024] S1x256.size inb_S1x2048_S1x256_0_1024, (kernelRun0_B.sl.v1453 c arg1 harg1 arg2 harg2 arg4 harg4 arg9 harg9 arg11 harg11 arg18 harg18 arg23 arg25 arg26 arg29 x0 x1 x3 x8 x10 X)⟩, ⟨Rect.unit (s := S1x2048) ![0, 768] S1x256.size inb_S1x2048_S1x256_0_768, (kernelRun0_B.sl.v1278 c arg1 harg1 arg2 harg2 arg4 harg4 arg9 harg9 arg11 harg11 arg18 harg18 arg23 arg25 arg26 arg29 x0 x1 x3 x8 x10 X)⟩, ⟨Rect.unit (s := S1x2048) ![0, 512] S1x256.size inb_S1x2048_S1x256_0_512, k0_pay250 (kernelRun0_B.sl.v963 c arg1 harg1 arg23 x0) (kernelRun0_B.sl.v1103 c arg1 harg1 arg2 harg2 arg4 harg4 arg9 harg9 arg11 harg11 arg25 arg26 arg29 x0 x1 x3 x8 x10) (kernelRun0_B.sl.v1110 c arg18 harg18 X)⟩, ⟨Rect.unit (s := S1x2048) ![0, 256] S1x256.size inb_S1x2048_S1x256_0_256, k0_pay208 (kernelRun0_B.sl.v788 c arg1 harg1 arg23 x0) (kernelRun0_B.sl.v928 c arg1 harg1 arg2 harg2 arg4 harg4 arg9 harg9 arg11 harg11 arg25 arg26 arg29 x0 x1 x3 x8 x10) (kernelRun0_B.sl.v935 c arg18 harg18 X)⟩, ⟨Rect.unit (s := S1x2048) ![0, 0] S1x256.size inb_S1x2048_S1x256_0_0, k0_pay170 (kernelRun0_B.sl.v625 c arg1 harg1 arg23 x0) (kernelRun0_B.sl.v765 c arg1 harg1 arg2 harg2 arg4 harg4 arg9 harg9 arg11 harg11 arg25 arg26 arg29 x0 x1 x3 x8 x10) (View.readAt (Elt Ideal) arg18.view (Rect.unit (s := S1x2048) ![0, 0] S1x256.size inb_S1x2048_S1x256_0_0).toLoadRect (harg18.unread X))⟩] : List (View.Piece (Elt Ideal) S1x2048 .f32)) y = X y + ((∑ r : Fin 256, flat (dvn a) r.val (y 1).val * flat (vh a) r.val (y 1).val : ℝ) : EReal) := by
  obtain ⟨h0, h1, h2, h3, h4, h5, h6, h7⟩ := dvn_w c arg1 harg1 arg2 harg2 arg4 harg4 arg9 harg9 arg11 harg11 arg25 arg26 arg29 H
  refine leaves (G := fun y => X y + ((∑ r : Fin 256, flat (dvn a) r.val (y 1).val * flat (vh a) r.val (y 1).val : ℝ) : EReal)) (size := ![1, 256]) ?_ (by rfl)
  refine ⟨?_, ?_, ?_, ?_, ?_, ?_, ?_, ?_, trivial⟩
  all_goals
    intro x
    obtain ⟨k, rfl⟩ : ∃ k, x = ix2 0 k := ⟨x 1, by rw [eq_ix2 x]; exact congrArg (fun i => ix2 i (x 1)) (Subsingleton.elim _ _)⟩
    simp only [kernelRun0_B.sl.v935, kernelRun0_B.sl.v1110, kernelRun0_B.sl.v1273, kernelRun0_B.sl.v1274, kernelRun0_B.sl.v1278, kernelRun0_B.sl.v1448, kernelRun0_B.sl.v1449, kernelRun0_B.sl.v1453, kernelRun0_B.sl.v1611, kernelRun0_B.sl.v1612, kernelRun0_B.sl.v1616, kernelRun0_B.sl.v1786, kernelRun0_B.sl.v1949, kernelRun0_B.sl.v1950, kernelRun0_B.sl.v1954, same, v625, v788, v963, v1126, v1275, v1276, v1277, v1301, v1450, v1451, v1452, v1464, v1613, v1614, v1615, v1639, v1802, v1951, v1952, v1953]

    pointwise [k0_pay170, k0_pay208, k0_pay250, k0_pay417]
    simp only [add_assoc, rd (G := X) harg18 (fun _ => rfl), h0, h1, h2, h3, h4, h5, h6, h7, rc (vh_at c arg1 harg1 arg23 H), at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- What a later point leaves for the shift of the normed gate. -/
theorem dlb_B (arg19 : Memref sig .tc .vmem S1x2048 .f32) (harg19 : arg19.IsWhole) (X : Vec Ideal S1x2048 .f32) : ∀ y, View.canon ([⟨Rect.unit (s := S1x2048) ![0, 1792] S1x256.size inb_S1x2048_S1x256_0_1792, (kernelRun0_B.sl.v1947 c arg1 harg1 arg2 harg2 arg4 harg4 arg9 harg9 arg11 harg11 arg19 harg19 arg25 arg26 arg29 x0 x1 x3 x8 x10 X)⟩, ⟨Rect.unit (s := S1x2048) ![0, 1536] S1x256.size inb_S1x2048_S1x256_0_1536, k0_pay416 (kernelRun0_B.sl.v1779 c arg1 harg1 arg2 harg2 arg4 harg4 arg9 harg9 arg11 harg11 arg25 arg26 arg29 x0 x1 x3 x8 x10) (kernelRun0_B.sl.v1780 c arg19 harg19 X)⟩, ⟨Rect.unit (s := S1x2048) ![0, 1280] S1x256.size inb_S1x2048_S1x256_0_1280, (kernelRun0_B.sl.v1609 c arg1 harg1 arg2 harg2 arg4 harg4 arg9 harg9 arg11 harg11 arg19 harg19 arg25 arg26 arg29 x0 x1 x3 x8 x10 X)⟩, ⟨Rect.unit (s := S1x2048) ![0, 1024] S1x256.size inb_S1x2048_S1x256_0_1024, (kernelRun0_B.sl.v1446 c arg1 harg1 arg2 harg2 arg4 harg4 arg9 harg9 arg11 harg11 arg19 harg19 arg25 arg26 arg29 x0 x1 x3 x8 x10 X)⟩, ⟨Rect.unit (s := S1x2048) ![0, 768] S1x256.size inb_S1x2048_S1x256_0_768, (kernelRun0_B.sl.v1271 c arg1 harg1 arg2 harg2 arg4 harg4 arg9 harg9 arg11 harg11 arg19 harg19 arg25 arg26 arg29 x0 x1 x3 x8 x10 X)⟩, ⟨Rect.unit (s := S1x2048) ![0, 512] S1x256.size inb_S1x2048_S1x256_0_512, (kernelRun0_B.sl.v1108 c arg1 harg1 arg2 harg2 arg4 harg4 arg9 harg9 arg11 harg11 arg19 harg19 arg25 arg26 arg29 x0 x1 x3 x8 x10 X)⟩, ⟨Rect.unit (s := S1x2048) ![0, 256] S1x256.size inb_S1x2048_S1x256_0_256, (kernelRun0_B.sl.v933 c arg1 harg1 arg2 harg2 arg4 harg4 arg9 harg9 arg11 harg11 arg19 harg19 arg25 arg26 arg29 x0 x1 x3 x8 x10 X)⟩, ⟨Rect.unit (s := S1x2048) ![0, 0] S1x256.size inb_S1x2048_S1x256_0_0, k0_pay169 (kernelRun0_B.sl.v765 c arg1 harg1 arg2 harg2 arg4 harg4 arg9 harg9 arg11 harg11 arg25 arg26 arg29 x0 x1 x3 x8 x10) (View.readAt (Elt Ideal) arg19.view (Rect.unit (s := S1x2048) ![0, 0] S1x256.size inb_S1x2048_S1x256_0_0).toLoadRect (harg19.unread X))⟩] : List (View.Piece (Elt Ideal) S1x2048 .f32)) y = X y + ((∑ r : Fin 256, flat (dvn a) r.val (y 1).val : ℝ) : EReal) := by
  obtain ⟨h0, h1, h2, h3, h4, h5, h6, h7⟩ := dvn_w c arg1 harg1 arg2 harg2 arg4 harg4 arg9 harg9 arg11 harg11 arg25 arg26 arg29 H
  refine leaves (G := fun y => X y + ((∑ r : Fin 256, flat (dvn a) r.val (y 1).val : ℝ) : EReal)) (size := ![1, 256]) ?_ (by rfl)
  refine ⟨?_, ?_, ?_, ?_, ?_, ?_, ?_, ?_, trivial⟩
  all_goals
    intro x
    obtain ⟨k, rfl⟩ : ∃ k, x = ix2 0 k := ⟨x 1, by rw [eq_ix2 x]; exact congrArg (fun i => ix2 i (x 1)) (Subsingleton.elim _ _)⟩
    simp only [kernelRun0_B.sl.v929, kernelRun0_B.sl.v930, kernelRun0_B.sl.v933, kernelRun0_B.sl.v1104, kernelRun0_B.sl.v1105, kernelRun0_B.sl.v1108, kernelRun0_B.sl.v1267, kernelRun0_B.sl.v1268, kernelRun0_B.sl.v1271, kernelRun0_B.sl.v1442, kernelRun0_B.sl.v1443, kernelRun0_B.sl.v1446, kernelRun0_B.sl.v1605, kernelRun0_B.sl.v1606, kernelRun0_B.sl.v1609, kernelRun0_B.sl.v1780, kernelRun0_B.sl.v1943, kernelRun0_B.sl.v1944, kernelRun0_B.sl.v1947, same, v931, v932, v1106, v1107, v1269, v1270, v1444, v1445, v1607, v1608, v1945, v1946]

    pointwise [k0_pay169, k0_pay416]
    simp only [add_assoc, rd (G := X) harg19 (fun _ => rfl), h0, h1, h2, h3, h4, h5, h6, h7, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- What a later point leaves for the modulation's shift. -/
theorem dsh_B (arg20 : Memref sig .tc .vmem S1x1024 .f32) (harg20 : arg20.IsWhole) (X : Vec Ideal S1x1024 .f32) : ∀ y, View.canon ([⟨Rect.unit (s := S1x1024) ![0, 0] S1x1024.size inb_S1x1024_S1x1024_0_0, k0_pay482 (kernelRun0_B.sl.v2100 c arg1 harg1 arg2 harg2 arg4 harg4 arg7 harg7 arg8 harg8 arg9 harg9 arg10 harg10 arg11 harg11 arg12 harg12 arg13 arg23 arg24 arg25 arg26 arg29 arg31 x0 x1 x3 x6 x7 x8 x9 x10 x11) (kernelRun0_B.sl.v2136 c arg1 harg1 arg2 harg2 arg4 harg4 arg7 harg7 arg8 harg8 arg9 harg9 arg10 harg10 arg11 harg11 arg13 arg23 arg24 arg25 arg26 arg29 arg31 x0 x1 x3 x6 x7 x8 x9 x10) (View.readAt (Elt Ideal) arg12.view (Rect.unit (s := S1024x6144) ![0, 3584] S1024x512.size inb_S1024x6144_S1024x512_0_3584).toLoadRect (harg12.unread x11)) (View.readAt (Elt Ideal) arg20.view (Rect.unit (s := S1x1024) ![0, 0] S1x1024.size inb_S1x1024_S1x1024_0_0).toLoadRect (harg20.unread X))⟩] : List (View.Piece (Elt Ideal) S1x1024 .f32)) y = X y + ((∑ r : Fin 256, dh a (ch r.val) (tt r.val) (kk (y 1).val) : ℝ) : EReal) := by
  refine leaves (G := fun y => X y + ((∑ r : Fin 256, dh a (ch r.val) (tt r.val) (kk (y 1).val) : ℝ) : EReal)) (size := ![1, 1024]) ⟨fun x => ?_, trivial⟩ (by rfl)
  obtain ⟨k, rfl⟩ : ∃ k, x = ix2 0 k := ⟨x 1, by rw [eq_ix2 x]; exact congrArg (fun i => ix2 i (x 1)) (Subsingleton.elim _ _)⟩
  simp only [same]
  pointwise [k0_pay482]
  simp only [add_assoc, rd (G := X) harg20 (fun _ => rfl), dh_at c arg1 harg1 arg2 harg2 arg4 harg4 arg7 harg7 arg8 harg8 arg9 harg9 arg10 harg10 arg11 harg11 arg12 harg12 arg13 arg23 arg24 arg25 arg26 arg29 arg31 H, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

/-- What a later point leaves of the sum that the modulation's scale and the gain share. -/
theorem p_B (arg28 : Memref sig .tc .vmem S1x1024 .f32) (harg28 : arg28.IsWhole) (X : Vec Ideal S1x1024 .f32) : ∀ y, View.canon ([⟨Rect.unit (s := S1x1024) ![0, 0] S1x1024.size inb_S1x1024_S1x1024_0_0, k0_pay483 (kernelRun0_B.sl.v2100 c arg1 harg1 arg2 harg2 arg4 harg4 arg7 harg7 arg8 harg8 arg9 harg9 arg10 harg10 arg11 harg11 arg12 harg12 arg13 arg23 arg24 arg25 arg26 arg29 arg31 x0 x1 x3 x6 x7 x8 x9 x10 x11) (kernelRun0_B.sl.v2136 c arg1 harg1 arg2 harg2 arg4 harg4 arg7 harg7 arg8 harg8 arg9 harg9 arg10 harg10 arg11 harg11 arg13 arg23 arg24 arg25 arg26 arg29 arg31 x0 x1 x3 x6 x7 x8 x9 x10) (View.readAt (Elt Ideal) arg12.view (Rect.unit (s := S1024x6144) ![0, 3584] S1024x512.size inb_S1024x6144_S1024x512_0_3584).toLoadRect (harg12.unread x11)) (View.readAt (Elt Ideal) arg3.view (Rect.unit (s := S256x1024) ![0, 0] S256x1024.size inb_S256x1024_S256x1024_0_0).toLoadRect (harg3.unread x2)) (View.readAt (Elt Ideal) arg28.view (Rect.unit (s := S1x1024) ![0, 0] S1x1024.size inb_S1x1024_S1x1024_0_0).toLoadRect (harg28.unread X))⟩] : List (View.Piece (Elt Ideal) S1x1024 .f32)) y = X y + ((∑ r : Fin 256, dh a (ch r.val) (tt r.val) (kk (y 1).val) * (a.X (ch r.val) (tt r.val) (kk (y 1).val) * rr a (ch r.val) (tt r.val)) : ℝ) : EReal) := by
  refine leaves (G := fun y => X y + ((∑ r : Fin 256, dh a (ch r.val) (tt r.val) (kk (y 1).val) * (a.X (ch r.val) (tt r.val) (kk (y 1).val) * rr a (ch r.val) (tt r.val)) : ℝ) : EReal)) (size := ![1, 1024]) ⟨fun x => ?_, trivial⟩ (by rfl)
  obtain ⟨k, rfl⟩ : ∃ k, x = ix2 0 k := ⟨x 1, by rw [eq_ix2 x]; exact congrArg (fun i => ix2 i (x 1)) (Subsingleton.elim _ _)⟩
  have hr := rr_at c arg3 harg3 H
  simp only [r_100] at hr
  simp only [same]
  pointwise [k0_pay483, k0_pay481]
  simp only [hr, add_assoc, rd (G := X) harg28 (fun _ => rfl), dh_at c arg1 harg1 arg2 harg2 arg4 harg4 arg7 harg7 arg8 harg8 arg9 harg9 arg10 harg10 arg11 harg11 arg12 harg12 arg13 arg23 arg24 arg25 arg26 arg29 arg31 H, rd harg3 H.h2, at_rect, ValueKit.rect_emb_unit_val, ix2_0, ix2_1, ix3_0, ix3_1, ix3_2, Matrix.cons_val_zero, Matrix.cons_val_one, Matrix.cons_val_two, Matrix.cons_val_fin_one, Matrix.head_cons, Matrix.tail_cons, c_half, c_neg_half, c_one, c_inv2048, c_inv1024, c_zero, c_lneps, c_eps, n_rt, n_kap,
      f_erf, f_exp, f_logistic, exp_real, logistic_real, ← EReal.coe_mul, ← EReal.coe_one, ← EReal.coe_zero, ← EReal.coe_add, ← EReal.coe_sub, coe_sum, Nat.zero_add, zero_add, flat, pflat, gg_add, gg_fin, pt_add, pt_fin, cc_add, cc_fin, ch_add, ch_fin, tt_add, tt_fin, kk_fin, Nat.reduceMod, Nat.reduceDiv] <;> rfl

end Cert.KernelIdeal.Hand

end
-- ==== Proof.BwdAccC.lean ====
/- The last grid point of the backward kernel: what it makes of the sums that the points have carried. -/
module

public import proofs.«01_k».proof.Proof.BwdAccB
public import proofs.«01_k».proof.Proof.Gen.KernelIdeal.Frame.RunC

@[expose] public section

set_option maxRecDepth 16384
set_option maxHeartbeats 1000000

noncomputable section

namespace Cert.KernelIdeal.Hand

open Cert.KernelIdeal Cert.KernelIdeal.Gen Cert.KernelIdeal.Gen.kernelRun0_A.sl
open Idealize.ShloMosaic Idealize.ShloMosaic.TcCoe Idealize.SL.Sem
open Cert.Gmlp Cert.Lift

theorem sel_eq (j : Fin 128) (b : BitVec 32) (x : ℝ) :
    Scalar.select (IntOp.cmpi .eq (BitVec.ofNat 32 j.val) b) (x : EReal) ((0 : ℝ) : EReal) = ((if j.val = b.toNat then x else 0 : ℝ) : EReal) := by
  have hj : (BitVec.ofNat 32 j.val = b) ↔ j.val = b.toNat := by
    rw [← BitVec.toNat_inj, BitVec.toNat_ofNat, Nat.mod_eq_of_lt (by have := j.isLt; omega)]
  have e : IntOp.cmpi .eq (BitVec.ofNat 32 j.val) b = if j.val = b.toNat then (1 : BitVec 1) else 0 := by
    by_cases h : j.val = b.toNat
    · rw [if_pos h, hj.mpr h]; simp [IntOp.cmpi]
    · rw [if_neg h]; have h' := mt hj.mp h; show BitVec.ofBool (_ == b) = _; rw [beq_eq_false_iff_ne.mpr h']; rfl
  rw [e]; split <;> rfl

/-- The columns' sums, group by group, laid out a column for each group. -/
theorem sums {Q : ℕ → ℕ → ℝ} {T0 T1 T2 T3 T4 T5 T6 T7 : Vec Ideal S128x256 .f32}
    (h0 : ∀ (r : Fin 128) (c : Fin 256), T0 (ix2 r c) = ((Q r.val (0 + c.val) : ℝ) : EReal)) (h1 : ∀ (r : Fin 128) (c : Fin 256), T1 (ix2 r c) = ((Q r.val (256 + c.val) : ℝ) : EReal))
    (h2 : ∀ (r : Fin 128) (c : Fin 256), T2 (ix2 r c) = ((Q r.val (512 + c.val) : ℝ) : EReal)) (h3 : ∀ (r : Fin 128) (c : Fin 256), T3 (ix2 r c) = ((Q r.val (768 + c.val) : ℝ) : EReal))
    (h4 : ∀ (r : Fin 128) (c : Fin 256), T4 (ix2 r c) = ((Q r.val (1024 + c.val) : ℝ) : EReal)) (h5 : ∀ (r : Fin 128) (c : Fin 256), T5 (ix2 r c) = ((Q r.val (1280 + c.val) : ℝ) : EReal))
    (h6 : ∀ (r : Fin 128) (c : Fin 256), T6 (ix2 r c) = ((Q r.val (1536 + c.val) : ℝ) : EReal)) (h7 : ∀ (r : Fin 128) (c : Fin 256), T7 (ix2 r c) = ((Q r.val (1792 + c.val) : ℝ) : EReal))
    (t j : Fin 128) :
    k0_pay2 (k0_pay8 (iota .tc S128x128 32 [1] iota_S128x128_d1_w32) (k0_pay5 T0 T1 T2) k0_pay6 (FloatOps.ofBits .f32 0#32 : Ideal .f32) (k0_pay7 T3) T4 T5 T6)
      (k0_pay9 (iota .tc S128x128 32 [1] iota_S128x128_d1_w32)) (FloatOps.ofBits .f32 0#32 : Ideal .f32) (k0_pay10 T7) (ix2 t j)
      = ((if j.val < 8 then ∑ c : Fin 256, Q t.val (256 * j.val + c.val) else 0 : ℝ) : EReal) := by
  pointwise [k0_pay2, k0_pay5, k0_pay6, k0_pay7, k0_pay8, k0_pay9, k0_pay10]
  simp only [h0, h1, h2, h3, h4, h5, h6, h7, c_zero, coe_sum, zero_add, ← EReal.coe_zero, sel_eq, ← EReal.coe_add]
  refine congrArg _ ?_
  by_cases hj : j.val < 8
  · rw [if_pos hj]
    obtain ⟨j, hj'⟩ := j
    simp only at hj ⊢
    interval_cases j <;> simp
  · rw [if_neg hj]
    have hne : ∀ k < 8, j.val ≠ k := fun k hk e => hj (e ▸ hk)
    simp [hne]

/-- A load of a tile of 256 columns. -/
theorem tile_at {sig : RefSig} {κ : Kind} {sp : Space} {v : View sig κ sp S128x2048 .f32} {L : List (View.Piece (Elt Ideal) S128x2048 .f32)} {Q : ℕ → ℕ → ℝ}
    (hL : ∀ y, View.canon L y = ((Q (y 0).val (y 1).val : ℝ) : EReal)) (o : ℕ) (inb) (r : Fin 128) (k : Fin 256) :
    View.readCov v L (Rect.unit (s := S128x2048) ![0, o] S128x256.size inb).toLoadRect (ix2 r k) = ((Q r.val (o + k.val) : ℝ) : EReal) := by
  refine (rc hL (Rect.unit (s := S128x2048) ![0, o] S128x256.size inb).toLoadRect (ix2 r k)).trans ?_
  simp only [at_rect, ix2_0, ix2_1, Matrix.cons_val_zero, Matrix.cons_val_one, Nat.zero_add]

variable {a : Args (Fin 2)} (c : Dev nD)
  (arg1 : Memref sig .tc .vmem S256x6144 .bf16) (harg1 : arg1.IsWhole) (arg2 : Memref sig .tc .vmem S256x1024 .f32) (harg2 : arg2.IsWhole)
  (arg3 : Memref sig .tc .vmem S256x1024 .f32) (harg3 : arg3.IsWhole) (arg4 : Memref sig .tc .vmem S1x1024 .f32) (harg4 : arg4.IsWhole)
  (arg5 : Memref sig .tc .vmem S1x1024 .f32) (harg5 : arg5.IsWhole) (arg6 : Memref sig .tc .vmem S1x1024 .f32) (harg6 : arg6.IsWhole)
  (arg7 : Memref sig .tc .vmem S1x2048 .f32) (harg7 : arg7.IsWhole) (arg8 : Memref sig .tc .vmem S1x2048 .f32) (harg8 : arg8.IsWhole)
  (arg9 : Memref sig .tc .vmem S8x128x128 .bf16) (harg9 : arg9.IsWhole) (arg10 : Memref sig .tc .vmem S128x2048 .f32) (harg10 : arg10.IsWhole)
  (arg11 : Memref sig .tc .vmem S2048x1024 .bf16) (harg11 : arg11.IsWhole) (arg12 : Memref sig .tc .vmem S1024x6144 .bf16) (harg12 : arg12.IsWhole)
  (arg13 : Memref sig .tc .vmem S256x6144 .bf16) (arg23 : Memref sig .tc .vmem S256x2048 .f32) (arg24 : Memref sig .tc .vmem S256x2048 .bf16)
  (arg25 : Memref sig .tc .vmem S256x1024 .bf16) (arg26 : Memref sig .tc .vmem S256x2048 .f32)
  (arg29 : Memref sig .tc .vmem S256x2048 .f32) (arg30 : Memref sig .tc .vmem S256x2048 .bf16) (arg31 : Memref sig .tc .vmem S256x2048 .f32)
  {x0 : Vec Ideal S256x6144 .bf16} {x1 x2 : Vec Ideal S256x1024 .f32} {x3 x4 x5 : Vec Ideal S1x1024 .f32}
  {x6 x7 : Vec Ideal S1x2048 .f32} {x8 : Vec Ideal S8x128x128 .bf16} {x9 : Vec Ideal S128x2048 .f32} {x10 : Vec Ideal S2048x1024 .bf16}
  {x11 : Vec Ideal S1024x6144 .bf16} (H : Blk a x0 x1 x2 x3 x4 x5 x6 x7 x8 x9 x10 x11)

variable (arg27 : Memref sig .tc .vmem S128x2048 .f32) (harg27 : arg27.IsWhole) (arg28 : Memref sig .tc .vmem S1x1024 .f32) (harg28 : arg28.IsWhole)
  {xs4 : Vec Ideal S128x2048 .f32} {xs5 : Vec Ideal S1x1024 .f32}

/-- The mixing bias' gradient: the carried sums over a group's columns. -/
theorem dbs_C {Q : ℕ → ℕ → ℝ} (hL : ∀ y, View.canon (kernelRun0_C.sl.HS4_16 c arg1 harg1 arg2 harg2 arg4 harg4 arg11 harg11 arg25 arg27 harg27 arg29 x0 x1 x3 x10 xs4) y = ((Q (y 0).val (y 1).val : ℝ) : EReal)) (t j : Fin 128) :
    View.canon ([⟨Rect.unit (s := S128x128) ![0, 0] ![128, 128] inb_S128x128_S128x128_0_0, k0_pay2 (kernelRun0_C.sl.r_105 c arg1 harg1 arg2 harg2 arg4 harg4 arg11 harg11 arg25 arg27 harg27 arg29 x0 x1 x3 x10 xs4) (k0_pay9 (kernelRun0_C.sl.v2189)) (kernelRun0_C.sl.cst_88) (kernelRun0_C.sl.r_106 c arg1 harg1 arg2 harg2 arg4 harg4 arg11 harg11 arg25 arg27 harg27 arg29 x0 x1 x3 x10 xs4)⟩] : List (View.Piece (Elt Ideal) S128x128 .f32)) (ix2 t j)
      = ((if j.val < 8 then ∑ c : Fin 256, Q t.val (256 * j.val + c.val) else 0 : ℝ) : EReal) := by
  refine (?_ : ∀ y, View.canon (Val := Elt Ideal) (s := S128x128) (e := .f32) _ y = (fun y => ((if (y 1).val < 8 then ∑ c : Fin 256, Q (y 0).val (256 * (y 1).val + c.val) else 0 : ℝ) : EReal)) y) (ix2 t j)
  refine leaves (s := S128x128) (e := .f32) (G := fun y => ((if (y 1).val < 8 then ∑ c : Fin 256, Q (y 0).val (256 * (y 1).val + c.val) else 0 : ℝ) : EReal)) (size := ![128, 128]) ⟨fun x => ?_, trivial⟩ (by rfl)
  obtain ⟨t, j, rfl⟩ : ∃ t j, x = ix2 t j := ⟨_, _, eq_ix2 x⟩
  simp only [kernelRun0_C.sl.r_103, kernelRun0_C.sl.r_104, kernelRun0_C.sl.r_105, kernelRun0_C.sl.r_106, kernelRun0_C.sl.v2189, kernelRun0_C.sl.cst_88]
  have e := sums (T0 := (kernelRun0_C.sl.v2193 c arg1 harg1 arg2 harg2 arg4 harg4 arg11 harg11 arg25 arg27 harg27 arg29 x0 x1 x3 x10 xs4)) (T1 := (kernelRun0_C.sl.v2203 c arg1 harg1 arg2 harg2 arg4 harg4 arg11 harg11 arg25 arg27 harg27 arg29 x0 x1 x3 x10 xs4)) (T2 := (kernelRun0_C.sl.v2213 c arg1 harg1 arg2 harg2 arg4 harg4 arg11 harg11 arg25 arg27 harg27 arg29 x0 x1 x3 x10 xs4)) (T3 := (kernelRun0_C.sl.v2223 c arg1 harg1 arg2 harg2 arg4 harg4 arg11 harg11 arg25 arg27 harg27 arg29 x0 x1 x3 x10 xs4)) (T4 := (kernelRun0_C.sl.v2233 c arg1 harg1 arg2 harg2 arg4 harg4 arg11 harg11 arg25 arg27 harg27 arg29 x0 x1 x3 x10 xs4)) (T5 := (kernelRun0_C.sl.v2243 c arg1 harg1 arg2 harg2 arg4 harg4 arg11 harg11 arg25 arg27 harg27 arg29 x0 x1 x3 x10 xs4)) (T6 := (kernelRun0_C.sl.v2253 c arg1 harg1 arg2 harg2 arg4 harg4 arg11 harg11 arg25 arg27 harg27 arg29 x0 x1 x3 x10 xs4)) (T7 := (kernelRun0_C.sl.v2263 c arg1 harg1 arg2 harg2 arg4 harg4 arg11 harg11 arg25 arg27 harg27 arg29 x0 x1 x3 x10 xs4))
    (fun r k => tile_at hL 0 inb_S128x2048_S128x256_0_0 r k) (fun r k => tile_at hL 256 inb_S128x2048_S128x256_0_256 r k)
    (fun r k => tile_at hL 512 inb_S128x2048_S128x256_0_512 r k) (fun r k => tile_at hL 768 inb_S128x2048_S128x256_0_768 r k)
    (fun r k => tile_at hL 1024 inb_S128x2048_S128x256_0_1024 r k) (fun r k => tile_at hL 1280 inb_S128x2048_S128x256_0_1280 r k)
    (fun r k => tile_at hL 1536 inb_S128x2048_S128x256_0_1536 r k) (fun r k => tile_at hL 1792 inb_S128x2048_S128x256_0_1792 r k) t j
  refine Eq.trans e ?_
  simp only [at_rect, ValueKit.rect_emb_unit_val, ix2_0, ix2_1, Matrix.cons_val_zero, Matrix.cons_val_one, Nat.zero_add]

/-- The modulation's scale: the carried row times the gain. -/
theorem dsc_C {P : ℕ → ℝ} (hL : ∀ y, View.canon (kernelRun0_C.sl.HS5_1 c arg1 harg1 arg2 harg2 arg3 harg3 arg4 harg4 arg7 harg7 arg8 harg8 arg9 harg9 arg10 harg10 arg11 harg11 arg12 harg12 arg13 arg23 arg24 arg25 arg26 arg28 harg28 arg29 arg31 x0 x1 x2 x3 x6 x7 x8 x9 x10 x11 xs5) y = ((P (y 1).val : ℝ) : EReal)) {g : Fin 1024 → ℝ} (h4 : ∀ y, x4 y = ((g (kk (y 1).val) : ℝ) : EReal)) (k : Fin 1024) :
    View.canon ([⟨Rect.unit (s := S1x1024) ![0, 0] ![1, 1024] inb_S1x1024_S1x1024_0_0, k0_pay3 (kernelRun0_C.sl.v2272 c arg1 harg1 arg2 harg2 arg3 harg3 arg4 harg4 arg7 harg7 arg8 harg8 arg9 harg9 arg10 harg10 arg11 harg11 arg12 harg12 arg13 arg23 arg24 arg25 arg26 arg28 harg28 arg29 arg31 x0 x1 x2 x3 x6 x7 x8 x9 x10 x11 xs5) (View.readAt (Elt Ideal) arg5.view (Rect.unit (s := S1x1024) ![0, 0] ![1, 1024] inb_S1x1024_S1x1024_0_0).toLoadRect (harg5.unread x4))⟩] : List (View.Piece (Elt Ideal) S1x1024 .f32)) (ix2 0 k) = ((P k.val * g k : ℝ) : EReal) := by
  have e : ((P k.val * g k : ℝ) : EReal) = (fun y : S1x1024.Idx => ((P (y 1).val * g (kk (y 1).val) : ℝ) : EReal)) (ix2 0 k) := by simp only [ix2_1, kk_fin]
  refine Eq.trans ?_ e.symm
  refine (?_ : ∀ y, View.canon (Val := Elt Ideal) (s := S1x1024) (e := .f32) _ y = (fun y => ((P (y 1).val * g (kk (y 1).val) : ℝ) : EReal)) y) (ix2 0 k)
  refine leaves (s := S1x1024) (e := .f32) (G := fun y => ((P (y 1).val * g (kk (y 1).val) : ℝ) : EReal)) (size := ![1, 1024]) ⟨fun x => ?_, trivial⟩ (by rfl)
  obtain ⟨k, rfl⟩ : ∃ k, x = ix2 0 k := ⟨x 1, by rw [eq_ix2 x]; exact congrArg (fun i => ix2 i (x 1)) (Subsingleton.elim _ _)⟩
  simp only [kernelRun0_C.sl.v2272]
  pointwise [k0_pay3]
  rw [rc hL, rd harg5 h4, ← EReal.coe_mul]
  simp only [at_rect, ValueKit.rect_emb_unit_val, ix2_0, ix2_1, Matrix.cons_val_zero, Matrix.cons_val_one, Nat.zero_add]

/-- The gain: the carried row times one and the scale. -/
theorem dg_C {P : ℕ → ℝ} (hL : ∀ y, View.canon (kernelRun0_C.sl.HS5_1 c arg1 harg1 arg2 harg2 arg3 harg3 arg4 harg4 arg7 harg7 arg8 harg8 arg9 harg9 arg10 harg10 arg11 harg11 arg12 harg12 arg13 arg23 arg24 arg25 arg26 arg28 harg28 arg29 arg31 x0 x1 x2 x3 x6 x7 x8 x9 x10 x11 xs5) y = ((P (y 1).val : ℝ) : EReal)) {s : Fin 1024 → ℝ} (h5 : ∀ y, x5 y = ((s (kk (y 1).val) : ℝ) : EReal)) (k : Fin 1024) :
    View.canon ([⟨Rect.unit (s := S1x1024) ![0, 0] ![1, 1024] inb_S1x1024_S1x1024_0_0, k0_pay4 (kernelRun0_C.sl.v2272 c arg1 harg1 arg2 harg2 arg3 harg3 arg4 harg4 arg7 harg7 arg8 harg8 arg9 harg9 arg10 harg10 arg11 harg11 arg12 harg12 arg13 arg23 arg24 arg25 arg26 arg28 harg28 arg29 arg31 x0 x1 x2 x3 x6 x7 x8 x9 x10 x11 xs5) (View.readAt (Elt Ideal) arg6.view (Rect.unit (s := S1x1024) ![0, 0] ![1, 1024] inb_S1x1024_S1x1024_0_0).toLoadRect (harg6.unread x5))⟩] : List (View.Piece (Elt Ideal) S1x1024 .f32)) (ix2 0 k) = ((P k.val * (1 + s k) : ℝ) : EReal) := by
  have e : ((P k.val * (1 + s k) : ℝ) : EReal) = (fun y : S1x1024.Idx => ((P (y 1).val * (1 + s (kk (y 1).val)) : ℝ) : EReal)) (ix2 0 k) := by simp only [ix2_1, kk_fin]
  refine Eq.trans ?_ e.symm
  refine (?_ : ∀ y, View.canon (Val := Elt Ideal) (s := S1x1024) (e := .f32) _ y = (fun y => ((P (y 1).val * (1 + s (kk (y 1).val)) : ℝ) : EReal)) y) (ix2 0 k)
  refine leaves (s := S1x1024) (e := .f32) (G := fun y => ((P (y 1).val * (1 + s (kk (y 1).val)) : ℝ) : EReal)) (size := ![1, 1024]) ⟨fun x => ?_, trivial⟩ (by rfl)
  obtain ⟨k, rfl⟩ : ∃ k, x = ix2 0 k := ⟨x 1, by rw [eq_ix2 x]; exact congrArg (fun i => ix2 i (x 1)) (Subsingleton.elim _ _)⟩
  simp only [kernelRun0_C.sl.v2272]
  pointwise [k0_pay4]
  rw [rc hL, rd harg6 h5, ← EReal.coe_one, ← EReal.coe_add, ← EReal.coe_mul]
  simp only [at_rect, ValueKit.rect_emb_unit_val, ix2_0, ix2_1, Matrix.cons_val_zero, Matrix.cons_val_one, Nat.zero_add]

end Cert.KernelIdeal.Hand

end
-- ==== Proof.BwdHost.lean ====
/- The arrays that the host makes for the kernel, over real numbers: the saved projection, the causal mixing weights and
   the mixing bias, a column for each channel. -/
module

public import proofs.«01_k».proof.Proof.BwdTile
public import proofs.«01_k».proof.Proof.Gen.KernelIdeal.Value
public import Idealize.ShloMosaic.Lib.Pipeline.ValueKit
public import Idealize.ShloMosaic.Lib.StableHlo.ReadAt
public import Idealize.ShloMosaic.Lib.Pointwise
public import Idealize.ShloMosaic.Lib.IdealHost
public import Idealize.ShloMosaic.Lib.Tactic.CleanTypes

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Lift Cert.Gmlp

/-- The arguments' arrays hold these real numbers. -/
structure Holds (m : (ℓ : Loc nD τ sig) → Buf (Elt Ideal) ℓ) (c : Dev nD) (a : Args (Fin 64)) : Prop where
  h0 : ∀ n t k, m (c, Proc.devRef .tc main_arg0) (ix2 (row n t) k) = (a.X n t k : EReal)
  h1 : ∀ n t k, m (c, Proc.devRef .tc main_arg1) (ix2 (row n t) k) = (a.DX n t k : EReal)
  h2 : ∀ k, m (c, Proc.devRef .tc main_arg2) (ix2 0 k) = (a.gate k : EReal)
  h3 : ∀ k, m (c, Proc.devRef .tc main_arg3) (ix2 0 k) = (a.gain k : EReal)
  h4 : ∀ k, m (c, Proc.devRef .tc main_arg4) (ix2 0 k) = (a.scale k : EReal)
  h5 : ∀ k, m (c, Proc.devRef .tc main_arg5) (ix2 0 k) = (a.shift k : EReal)
  h6 : ∀ k p g c', m (c, Proc.devRef .tc main_arg6) (ix2 k (pcol p g c')) = (a.WI k p g c' : EReal)
  h7 : ∀ g c', m (c, Proc.devRef .tc main_arg7) (ix2 0 (col g c')) = (a.LG g c' : EReal)
  h8 : ∀ g c', m (c, Proc.devRef .tc main_arg8) (ix2 0 (col g c')) = (a.LB g c' : EReal)
  h9 : ∀ g t s, m (c, Proc.devRef .tc main_arg9) (ix3 g t s) = (a.WS g t s : EReal)
  h10 : ∀ g t, m (c, Proc.devRef .tc main_arg10) (ix2 g t) = (a.BS g t : EReal)
  h11 : ∀ g c' k, m (c, Proc.devRef .tc main_arg11) (ix2 (col g c') k) = (a.WO g c' k : EReal)

variable {m : (ℓ : Loc nD τ sig) → Buf (Elt Ideal) ℓ} {c : Dev nD} {a : Args (Fin 64)} (h : Holds m c a)
include h

theorem host_proj (n : Fin 64) (t : Fin 128) (p : Fin 3) (g : Fin 8) (c' : Fin 256) :
    V m c main_v27 (ix2 (row n t) (pcol p g c')) = (prj a n t p g c' : EReal) := by
  unfold V
  after_reads_at
  simp only [h.h0, h.h3, h.h4, h.h5, h.h6, c_1024, c_eps, ← EReal.coe_one, ← EReal.coe_zero, ← EReal.coe_mul, ← EReal.coe_add,
    coe_sum, zero_add, div_real _ (show (1024 : ℝ) ≠ 0 by norm_num),
    rsqrt_real (show 0 < (∑ k, a.X n t k * a.X n t k) / 1024 + eps from msq_pos a n t)]
  rfl

omit h in
theorem sel_tril (t s : Fin 128) (x y : EReal) :
    Scalar.select (Scalar.select (IntOp.cmpi .sge (IntOp.addi (BitVec.ofNat 32 t.val) 0#32) (BitVec.ofNat 32 s.val)) 1#1 0#1) x y = if s ≤ t then x else y := by
  have e : (IntOp.cmpi .sge (IntOp.addi (BitVec.ofNat 32 t.val) 0#32) (BitVec.ofNat 32 s.val)) = if s ≤ t then (1 : BitVec 1) else 0 := by
    revert t s; decide +kernel
  rw [e]; split <;> rfl

theorem host_wm (g : Fin 8) (t s : Fin 128) :
    V m c main_v28 (ix3 g t s) = (wm a g t s : EReal) := by
  unfold V
  after_reads_at
  rw [sel_tril, h.h9, ← EReal.coe_zero, wm]
  split <;> rfl

theorem host_bs (t : Fin 128) (g : Fin 8) (c' : Fin 256) :
    V m c main_v26 (ix2 t (col g c')) = (a.BS g t : EReal) := by
  unfold V
  after_reads_at
  rw [col_div, h.h10]

theorem host_wo (g : Fin 8) (c' : Fin 256) (k : Fin 1024) :
    V m c main_v29 (ix2 (col g c') k) = (a.WO g c' k : EReal) := by
  unfold V
  after_reads_at
  exact h.h11 g c' k

theorem host_wi (k : Fin 1024) (p : Fin 3) (g : Fin 8) (c' : Fin 256) :
    V m c main_v30 (ix2 k (pcol p g c')) = (a.WI k p g c' : EReal) := by
  unfold V
  after_reads_at
  exact h.h6 k p g c'

omit h

/-! ## A point's blocks -/

theorem N32 : cfg0.N = 32 := N_0

/-- The index maps, at a point: the row blocks advance, the others stay. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![0, 0, 0]
    ∧ win0_9.index t = ![0, 0] ∧ win0_10.index t = ![0, 0] ∧ win0_11.index t = ![0, 0] :=
  (by decide +kernel : ∀ t : Fin grid0.N, _)

/-- The chunks of a point. -/
def two (t : Fin cfg0.N) (n : Fin 2) : Fin 64 := ⟨t.val * 2 + n.val, by have := t.isLt; have := N32; omega⟩

theorem row_lt (t : Fin cfg0.N) (r : Fin 256) : t.val * 256 + r.val < 8192 := by
  have := t.isLt; have := N32; omega

theorem row_of (t : Fin cfg0.N) (r : Fin 256) : (⟨t.val * 256 + r.val, row_lt t r⟩ : Fin 8192) = row (two t (ch r.val)) (tt r.val) := by
  apply Fin.ext; simp only [row, two, ch, tt, Fin.ofNat]; omega
theorem col_of (j : Fin 2048) : j = col (gg j.val) (cc j.val) := by
  apply Fin.ext; simp only [col, gg, cc, Fin.ofNat]; omega
theorem pcol_of (j : Fin 6144) : j = pcol (pt j.val) (gg j.val) (cc j.val) := by
  apply Fin.ext; simp only [pcol, pt, gg, cc, Fin.ofNat]; omega

variable (m c) (t : Fin cfg0.N)

theorem ib0 (r : Fin 256) (n : Fin 6144) : iblk m c 0 t (ix2 r n) = V m c main_v27 (ix2 ⟨t.val * 256 + r.val, row_lt t r⟩ n) := by
  blk_ext [iblk, idx t]
theorem ib1 (r : Fin 256) (n : Fin 1024) : iblk m c 1 t (ix2 r n) = V m c main_arg1 (ix2 ⟨t.val * 256 + r.val, row_lt t r⟩ n) := by
  blk_ext [iblk, idx t]
theorem ib2 (r : Fin 256) (n : Fin 1024) : iblk m c 2 t (ix2 r n) = V m c main_arg0 (ix2 ⟨t.val * 256 + r.val, row_lt t r⟩ n) := by
  blk_ext [iblk, idx t]
theorem ib3 (n : Fin 1024) : iblk m c 3 t (ix2 0 n) = V m c main_arg2 (ix2 0 n) := by
  blk_ext [iblk, idx t]
theorem ib4 (n : Fin 1024) : iblk m c 4 t (ix2 0 n) = V m c main_arg3 (ix2 0 n) := by
  blk_ext [iblk, idx t]
theorem ib5 (n : Fin 1024) : iblk m c 5 t (ix2 0 n) = V m c main_arg4 (ix2 0 n) := by
  blk_ext [iblk, idx t]
theorem ib6 (n : Fin 2048) : iblk m c 6 t (ix2 0 n) = V m c main_arg7 (ix2 0 n) := by
  blk_ext [iblk, idx t]
theorem ib7 (n : Fin 2048) : iblk m c 7 t (ix2 0 n) = V m c main_arg8 (ix2 0 n) := by
  blk_ext [iblk, idx t]
theorem ib8 (g : Fin 8) (r s : Fin 128) : iblk m c 8 t (ix3 g r s) = V m c main_v28 (ix3 g r s) := by
  blk_ext [iblk, idx t]
theorem ib9 (r : Fin 128) (n : Fin 2048) : iblk m c 9 t (ix2 r n) = V m c main_v26 (ix2 r n) := by
  blk_ext [iblk, idx t]
theorem ib10 (r : Fin 2048) (n : Fin 1024) : iblk m c 10 t (ix2 r n) = V m c main_v29 (ix2 r n) := by
  blk_ext [iblk, idx t]
theorem ib11 (r : Fin 1024) (n : Fin 6144) : iblk m c 11 t (ix2 r n) = V m c main_v30 (ix2 r n) := by
  blk_ext [iblk, idx t]

theorem all2 {p q : ℕ} {P : (⟨2, ![p, q]⟩ : Shape).Idx → Prop} (H : ∀ r n, P (ix2 r n)) : ∀ y, P y := fun y => by
  rw [eq_ix2 y]; exact H _ _
theorem all1 {q : ℕ} {P : (⟨2, ![1, q]⟩ : Shape).Idx → Prop} (H : ∀ n, P (ix2 0 n)) : ∀ y, P y :=
  all2 fun r n => by rw [Subsingleton.elim r 0]; exact H n
theorem all3 {p q r : ℕ} {P : (⟨3, ![p, q, r]⟩ : Shape).Idx → Prop} (H : ∀ x y z, P (ix3 x y z)) : ∀ y, P y := fun y => by
  rw [eq_ix3 y]; exact H _ _ _

variable {m c}
include h

/-- A point's blocks hold the arguments at the point's two chunks. -/
theorem blk : Blk (a.pull (two t)) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) where
  h0 := all2 fun r n => by
    refine (ib0 m c t r n).trans ?_
    rw [row_of, pcol_of n, host_proj h, ← pcol_of n]; rfl
  h1 := all2 fun r n => by
    refine (ib1 m c t r n).trans ?_
    rw [V_main_arg1, row_of]
    show _ = ((a.DX (two t (ch r.val)) (tt r.val) (kk n.val) : ℝ) : EReal)
    rw [kk_fin]; exact h.h1 _ _ _
  h2 := all2 fun r n => by
    refine (ib2 m c t r n).trans ?_
    rw [V_main_arg0, row_of]
    show _ = ((a.X (two t (ch r.val)) (tt r.val) (kk n.val) : ℝ) : EReal)
    rw [kk_fin]; exact h.h0 _ _ _
  h3 := all1 fun n => by
    refine (ib3 m c t n).trans ?_
    rw [V_main_arg2]
    show _ = ((a.gate (kk n.val) : ℝ) : EReal)
    rw [kk_fin]; exact h.h2 _
  h4 := all1 fun n => by
    refine (ib4 m c t n).trans ?_
    rw [V_main_arg3]
    show _ = ((a.gain (kk n.val) : ℝ) : EReal)
    rw [kk_fin]; exact h.h3 _
  h5 := all1 fun n => by
    refine (ib5 m c t n).trans ?_
    rw [V_main_arg4]
    show _ = ((a.scale (kk n.val) : ℝ) : EReal)
    rw [kk_fin]; exact h.h4 _
  h6 := all1 fun n => by
    refine (ib6 m c t n).trans ?_
    rw [V_main_arg7]
    exact (congrArg (fun n => m (c, Proc.devRef .tc main_arg7) (ix2 0 n)) (col_of n)).trans (h.h7 _ _)
  h7 := all1 fun n => by
    refine (ib7 m c t n).trans ?_
    rw [V_main_arg8]
    exact (congrArg (fun n => m (c, Proc.devRef .tc main_arg8) (ix2 0 n)) (col_of n)).trans (h.h8 _ _)
  h8 := all3 fun g r s => by
    refine (ib8 m c t g r s).trans ((host_wm h g r s).trans ?_)
    show _ = ((wm a (Fin.ofNat 8 g.val) (tt r.val) (tt s.val) : ℝ) : EReal)
    rw [tt_fin, tt_fin, show Fin.ofNat 8 g.val = g from Fin.ext (Nat.mod_eq_of_lt g.isLt)]
  h9 := all2 fun r n => by
    refine (ib9 m c t r n).trans ?_
    refine (congrArg (fun n => V m c main_v26 (ix2 r n)) (col_of n)).trans ((host_bs h r _ _).trans ?_)
    show _ = ((a.BS (gg n.val) (tt r.val) : ℝ) : EReal)
    rw [tt_fin]
  h10 := all2 fun r n => by
    refine (ib10 m c t r n).trans ?_
    refine (congrArg (fun r => V m c main_v29 (ix2 r n)) (col_of r)).trans ((host_wo h _ _ n).trans ?_)
    show _ = ((a.WO (gg r.val) (cc r.val) (kk n.val) : ℝ) : EReal)
    rw [kk_fin]
  h11 := all2 fun r n => by
    refine (ib11 m c t r n).trans ?_
    refine (congrArg (fun n => V m c main_v30 (ix2 r n)) (pcol_of n)).trans ((host_wi h r _ _ _).trans ?_)
    show _ = ((a.WI (kk r.val) (pt n.val) (gg n.val) (cc n.val) : ℝ) : EReal)
    rw [kk_fin]

end Cert.KernelIdeal.Hand
end
-- ==== Proof.BwdPoint.lean ====
/- The backward kernel's grid: what each point adds, what the points add up to, and the results' arrays. -/
module

public import proofs.«01_k».proof.Proof.BwdAccC
public import proofs.«01_k».proof.Proof.BwdHost

@[expose] public section

set_option maxRecDepth 16384
set_option maxHeartbeats 4000000

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

/-- What a point leaves in the outputs and the carried scratch. -/
abbrev St := Vec Ideal S256x6144 .bf16 × Vec Ideal S256x2048 .bf16 × Vec Ideal S256x1024 .f32 × Vec Ideal S8x128x128 .f32 × Vec Ideal S128x128 .f32
  × Vec Ideal S1x2048 .f32 × Vec Ideal S1x2048 .f32 × Vec Ideal S1x1024 .f32 × Vec Ideal S1x1024 .f32 × Vec Ideal S1x1024 .f32
  × Vec Ideal S128x2048 .f32 × Vec Ideal S1x1024 .f32

variable {m : (ℓ : Loc nD τ sig) → Buf (Elt Ideal) ℓ} {c : Dev nD} {a : Args (Fin 64)} (h : Holds m c a)

section
variable (m c)
theorem outs_eq (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_next (t : Fin cfg0.N) (h : ¬ t.val % 32 = 0) :
    outsAt0 m c t.val t.isLt = stAt0 m c t.val t.isLt (outsAt0 m c (t.val - 1) (Nat.lt_of_le_of_lt (Nat.sub_le _ _) t.isLt)) := by
  obtain ⟨n, hn⟩ := t
  cases n with
  | zero => exact absurd rfl h
  | succ n => exact outsAt0_succ m c n hn
end

/-- Stores of blocks of `G` that cover the buffer leave `G`. -/
theorem leaves_by {s : Shape} {e : EltTy} {L : List (View.Piece (Elt Ideal) s e)} {G : s.Idx → Elt Ideal e}
    (hp : View.PiecesOf G L) (hc : ∀ y, ∃ p ∈ L, y ∈ p.1.set) : ∀ y, View.canon L y = G y :=
  fun y => View.canon_apply_of_pieces G L hp.mem y (hc y)

end Cert.KernelIdeal.Hand
end
-- ==== Proof.BwdTotal.lean ====
/- The backward kernel's grid: what is added point by point is the sum over the chunks, and the places of the row blocks. -/
module

public import proofs.«01_k».proof.Proof.BwdPoint

@[expose] public section

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

/-! ## Sums over the points -/

/-- The last point. -/
def last : Fin cfg0.N := ⟨31, by rw [N32]; decide⟩

theorem ch_row (n : Fin 2) (q : Fin 128) : ch (n.val * 128 + q.val) = n := by
  apply Fin.ext; simp only [ch, Fin.ofNat]; omega
theorem tt_row (n : Fin 2) (q : Fin 128) : tt (n.val * 128 + q.val) = q := by
  apply Fin.ext; simp only [tt, Fin.ofNat]; omega

/-- A block's rows are its two chunks' rows. -/
theorem rows (f : Fin 2 → Fin 128 → ℝ) : ∑ r : Fin 256, f (ch r.val) (tt r.val) = ∑ n, ∑ q, f n q :=
  (Fin.sum_mul_add_congr (S := 2) (n := 128) (L := 256) (F := fun n q => f n q) (f := fun r => f (ch r.val) (tt r.val))
    (fun n q _ => by simp only [ch_row, tt_row]) (by norm_num)).symm

/-- A part of what the points carry that the first point starts with its term and every later point adds its term to
    holds the sum over all the chunks after the last one. -/
theorem total (m : (ℓ : Loc nD τ sig) → Buf (Elt Ideal) ℓ) (c : Dev nD) {ι : Type} (part : St → ι → EReal) (T : Fin cfg0.N → ι → ℝ) (g : Fin 64 → ι → ℝ)
    (h0 : ∀ (t : Fin cfg0.N) (acc : St), t.val % 32 = 0 → ∀ y, part (stAt0 m c t.val t.isLt acc) y = ((T t y : ℝ) : EReal))
    (hs : ∀ (t : Fin cfg0.N) (acc : St), ¬t.val % 32 = 0 → ∀ y, part (stAt0 m c t.val t.isLt acc) y = part acc y + ((T t y : ℝ) : EReal))
    (hT : ∀ t y, T t y = ∑ n : Fin 2, g (two t n) y) (y : ι) :
    part (outsAt0 m c last.val last.isLt) y = ((∑ n, g n y : ℝ) : EReal) := by
  refine (Pipeline.eq_sum_fin_of_reset_step_apply_last (fun n h => part (outsAt0 m c n h)) 32 (fun _ => 0)
    (fun t j => ((T t j : ℝ) : EReal)) (fun t h j => ?_) (fun t h j => ?_) N32.le last N32.symm y).trans ?_
  · obtain ⟨acc, e⟩ := outs_eq m c t
    show part (outsAt0 m c t.val t.isLt) j = _
    rw [e, h0 t acc h, zero_add]
  · show part (outsAt0 m c t.val t.isLt) j = _
    rw [outs_next m c t h, hs t _ h]
  · rw [coe_sum, zero_add]
    refine congrArg _ ((Finset.sum_congr rfl fun t _ => hT t y).trans ?_)
    exact Fin.sum_mul_add_congr (S := cfg0.N) (n := 2) (L := 64) (F := fun t n => g (two t n) y) (f := fun n => g n y) (fun _ _ _ => rfl) (by rw [N32])

/-! ## Places -/

theorem gg_col (g : Fin 8) (x : Fin 256) : gg (col g x).val = g := by apply Fin.ext; simp only [gg, col, Fin.ofNat]; omega
theorem cc_col (g : Fin 8) (x : Fin 256) : cc (col g x).val = x := by apply Fin.ext; simp only [cc, col, Fin.ofNat]; omega
theorem pt_pcol (p : Fin 3) (g : Fin 8) (x : Fin 256) : pt (pcol p g x).val = p := by apply Fin.ext; simp only [pt, pcol, Fin.ofNat]; omega
theorem gg_pcol (p : Fin 3) (g : Fin 8) (x : Fin 256) : gg (pcol p g x).val = g := by apply Fin.ext; simp only [gg, pcol, Fin.ofNat]; omega
theorem cc_pcol (p : Fin 3) (g : Fin 8) (x : Fin 256) : cc (pcol p g x).val = x := by apply Fin.ext; simp only [cc, pcol, Fin.ofNat]; omega
theorem tt_mod (n : Fin 64) (t : Fin 128) : tt ((row n t).val % 256) = t := by apply Fin.ext; simp only [tt, row, Fin.ofNat]; omega
theorem two_of (n : Fin 64) (t : Fin 128) {k : ℕ} {hk : k < cfg0.N} (e : k = (row n t).val / 256) : two ⟨k, hk⟩ (ch ((row n t).val % 256)) = n := by
  apply Fin.ext; subst e; simp only [two, ch, row, Fin.ofNat]; omega
theorem gg_256 (j : Fin 128) (hj : j.val < 8) (x : Fin 256) : gg (256 * j.val + x.val) = ⟨j.val, hj⟩ := by
  apply Fin.ext; simp only [gg, Fin.ofNat]; omega
theorem cc_256 (j : Fin 128) (x : Fin 256) : cc (256 * j.val + x.val) = x := by apply Fin.ext; simp only [cc, Fin.ofNat]; omega
theorem of_fin8 (g : Fin 8) : Fin.ofNat 8 g.val = g := by apply Fin.ext; simp only [Fin.ofNat]; omega

/-! ## A point's chunks are the array's -/

section
variable (a : Args (Fin 64)) (t : Fin cfg0.N) (n : Fin 2) (q : Fin 128)
theorem dm_two (g x) : dm (a.pull (two t)) n q g x = dm a (two t n) q g x := rfl
theorem vn_two (g x) : vn (a.pull (two t)) n q g x = vn a (two t n) q g x := rfl
theorem vh_two (g x) : vh (a.pull (two t)) n q g x = vh a (two t n) q g x := rfl
theorem dvn_two (g x) : dvn (a.pull (two t)) n q g x = dvn a (two t n) q g x := rfl
theorem yy_two (g x) : yy (a.pull (two t)) n q g x = yy a (two t n) q g x := rfl
theorem dp_two (p g x) : dp (a.pull (two t)) n q p g x = dp a (two t n) q p g x := rfl
theorem dh_two (k) : dh (a.pull (two t)) n q k = dh a (two t n) q k := rfl
theorem dx_two (k) : dx (a.pull (two t)) n q k = dx a (two t n) q k := rfl
theorem rr_two : rr (a.pull (two t)) n q = rr a (two t n) q := rfl
theorem wm_two (g s) : wm (a.pull (two t)) g q s = wm a g q s := rfl
end

end Cert.KernelIdeal.Hand
end
-- ==== Proof.BwdLink.lean ====
/- The backward kernel's grid: the row blocks a point leaves, and what a point adds to the carried sums. -/
module

public import proofs.«01_k».proof.Proof.BwdPoint

@[expose] public section

set_option maxRecDepth 16384
set_option maxHeartbeats 4000000

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

variable {m : (ℓ : Loc nD τ sig) → Buf (Elt Ideal) ℓ} {c : Dev nD} {a : Args (Fin 64)} (h : Holds m c a)

variable (t : Fin cfg0.N) (acc : St)
include h

/-! ## The row blocks -/

theorem st_dp : ∀ y, (stAt0 m c t.val t.isLt acc).1 y = ((pflat (dp (a.pull (two t))) (y 0).val (y 1).val : ℝ) : EReal) := fun y => by
  have e := leaves_by (dp_pieces c (ms0_0 t) (hs0_0 t) (ms0_1 t) (hs0_1 t) (ms0_3 t) (hs0_3 t) (ms0_6 t) (hs0_6 t) (ms0_7 t) (hs0_7 t) (ms0_8 t) (hs0_8 t) (ms0_9 t) (hs0_9 t) (ms0_10 t) (hs0_10 t) scM0_0 scM0_1 scM0_2 scM0_3 scM0_6 scM0_8 (blk h t)) (fun y => View.cover_of_tiledBy _ ![128, 256] (by sl_kernel_rfl) y) y
  by_cases h0 : t.val % 32 = 0
  · rw [stAt0_A m c t acc h0 (by omega)]
    exact (congrFun (View.read_writes_junk_eq_canon VO0_12 _) y).trans e
  · by_cases h1 : t.val % 32 = 31
    · rw [stAt0_C m c t acc h0 h1]
      exact (congrFun (View.read_writes_junk_eq_canon VO0_12 _) y).trans e
    · rw [stAt0_B m c t acc h0 h1]
      exact (congrFun (View.read_writes_junk_eq_canon VO0_12 _) y).trans e

theorem st_y : ∀ y, (stAt0 m c t.val t.isLt acc).2.1 y = ((flat (yy (a.pull (two t))) (y 0).val (y 1).val : ℝ) : EReal) := fun y => by
  have e := leaves_by (y_pieces c (ms0_0 t) (hs0_0 t) (ms0_6 t) (hs0_6 t) (ms0_7 t) (hs0_7 t) (ms0_8 t) (hs0_8 t) (ms0_9 t) (hs0_9 t) scM0_0 scM0_8 (blk h t)) (fun y => View.cover_of_tiledL _ ![128, 256] (by sl_kernel_rfl) y) y
  by_cases h0 : t.val % 32 = 0
  · rw [stAt0_A m c t acc h0 (by omega)]
    exact (congrFun (View.read_writes_junk_eq_canon VO0_13 _) y).trans e
  · by_cases h1 : t.val % 32 = 31
    · rw [stAt0_C m c t acc h0 h1]
      exact (congrFun (View.read_writes_junk_eq_canon VO0_13 _) y).trans e
    · rw [stAt0_B m c t acc h0 h1]
      exact (congrFun (View.read_writes_junk_eq_canon VO0_13 _) y).trans e

/-! ## The carried sums: the first point starts them, a later one adds -/

theorem first_dws (h0 : t.val % 32 = 0) (y : S8x128x128.Idx) : (stAt0 m c t.val t.isLt acc).2.2.2.1 y
    = ((ews (a.pull (two t)) 0 (Fin.ofNat 8 (y 0).val) (tt (y 1).val) (tt (y 2).val) + ews (a.pull (two t)) 1 (Fin.ofNat 8 (y 0).val) (tt (y 1).val) (tt (y 2).val) : ℝ) : EReal) := by
  rw [stAt0_A m c t acc h0 (by omega)]
  exact (congrFun (View.read_writes_junk_eq_canon VO0_15 _) y).trans (dws_A c (ms0_0 t) (hs0_0 t) (ms0_1 t) (hs0_1 t) (ms0_3 t) (hs0_3 t) (ms0_6 t) (hs0_6 t) (ms0_7 t) (hs0_7 t) (ms0_10 t) (hs0_10 t) scM0_0 scM0_2 scM0_6 scM0_7 (blk h t) (ms0_15 t) y)
theorem next_dws (h0 : ¬t.val % 32 = 0) (y : S8x128x128.Idx) : (stAt0 m c t.val t.isLt acc).2.2.2.1 y = acc.2.2.2.1 y
    + ((ews (a.pull (two t)) 0 (Fin.ofNat 8 (y 0).val) (tt (y 1).val) (tt (y 2).val) + ews (a.pull (two t)) 1 (Fin.ofNat 8 (y 0).val) (tt (y 1).val) (tt (y 2).val) : ℝ) : EReal) := by
  have e := fun X => dws_B c (ms0_0 t) (hs0_0 t) (ms0_1 t) (hs0_1 t) (ms0_3 t) (hs0_3 t) (ms0_6 t) (hs0_6 t) (ms0_7 t) (hs0_7 t) (ms0_10 t) (hs0_10 t) scM0_0 scM0_2 scM0_6 scM0_7 (blk h t) (ms0_15 t) (hs0_15 t) X y
  by_cases h1 : t.val % 32 = 31
  · rw [stAt0_C m c t acc h0 h1]
    exact (congrFun (View.read_writes_junk_eq_canon VO0_15 _) y).trans (e _)
  · rw [stAt0_B m c t acc h0 h1]
    exact (congrFun (View.read_writes_junk_eq_canon VO0_15 _) y).trans (e _)

theorem first_dlg (h0 : t.val % 32 = 0) (y : S1x2048.Idx) : (stAt0 m c t.val t.isLt acc).2.2.2.2.2.1 y
    = ((∑ r : Fin 256, flat (dvn (a.pull (two t))) r.val (y 1).val * flat (vh (a.pull (two t))) r.val (y 1).val : ℝ) : EReal) := by
  rw [stAt0_A m c t acc h0 (by omega)]
  exact (congrFun (View.read_writes_junk_eq_canon VO0_17 _) y).trans (dlg_A c (ms0_0 t) (hs0_0 t) (ms0_1 t) (hs0_1 t) (ms0_3 t) (hs0_3 t) (ms0_8 t) (hs0_8 t) (ms0_10 t) (hs0_10 t) scM0_0 scM0_2 scM0_3 scM0_6 (blk h t) (ms0_17 t) y)
theorem next_dlg (h0 : ¬t.val % 32 = 0) (y : S1x2048.Idx) : (stAt0 m c t.val t.isLt acc).2.2.2.2.2.1 y = acc.2.2.2.2.2.1 y
    + ((∑ r : Fin 256, flat (dvn (a.pull (two t))) r.val (y 1).val * flat (vh (a.pull (two t))) r.val (y 1).val : ℝ) : EReal) := by
  have e := fun X => dlg_B c (ms0_0 t) (hs0_0 t) (ms0_1 t) (hs0_1 t) (ms0_3 t) (hs0_3 t) (ms0_8 t) (hs0_8 t) (ms0_10 t) (hs0_10 t) scM0_0 scM0_2 scM0_3 scM0_6 (blk h t) (ms0_17 t) (hs0_17 t) X y
  by_cases h1 : t.val % 32 = 31
  · rw [stAt0_C m c t acc h0 h1]
    exact (congrFun (View.read_writes_junk_eq_canon VO0_17 _) y).trans (e _)
  · rw [stAt0_B m c t acc h0 h1]
    exact (congrFun (View.read_writes_junk_eq_canon VO0_17 _) y).trans (e _)

theorem first_dlb (h0 : t.val % 32 = 0) (y : S1x2048.Idx) : (stAt0 m c t.val t.isLt acc).2.2.2.2.2.2.1 y
    = ((∑ r : Fin 256, flat (dvn (a.pull (two t))) r.val (y 1).val : ℝ) : EReal) := by
  rw [stAt0_A m c t acc h0 (by omega)]
  exact (congrFun (View.read_writes_junk_eq_canon VO0_18 _) y).trans (dlb_A c (ms0_0 t) (hs0_0 t) (ms0_1 t) (hs0_1 t) (ms0_3 t) (hs0_3 t) (ms0_8 t) (hs0_8 t) (ms0_10 t) (hs0_10 t) scM0_2 scM0_3 scM0_6 (blk h t) (ms0_18 t) y)
theorem next_dlb (h0 : ¬t.val % 32 = 0) (y : S1x2048.Idx) : (stAt0 m c t.val t.isLt acc).2.2.2.2.2.2.1 y = acc.2.2.2.2.2.2.1 y
    + ((∑ r : Fin 256, flat (dvn (a.pull (two t))) r.val (y 1).val : ℝ) : EReal) := by
  have e := fun X => dlb_B c (ms0_0 t) (hs0_0 t) (ms0_1 t) (hs0_1 t) (ms0_3 t) (hs0_3 t) (ms0_8 t) (hs0_8 t) (ms0_10 t) (hs0_10 t) scM0_2 scM0_3 scM0_6 (blk h t) (ms0_18 t) (hs0_18 t) X y
  by_cases h1 : t.val % 32 = 31
  · rw [stAt0_C m c t acc h0 h1]
    exact (congrFun (View.read_writes_junk_eq_canon VO0_18 _) y).trans (e _)
  · rw [stAt0_B m c t acc h0 h1]
    exact (congrFun (View.read_writes_junk_eq_canon VO0_18 _) y).trans (e _)

theorem first_dsh (h0 : t.val % 32 = 0) (y : S1x1024.Idx) : (stAt0 m c t.val t.isLt acc).2.2.2.2.2.2.2.1 y
    = ((∑ r : Fin 256, dh (a.pull (two t)) (ch r.val) (tt r.val) (kk (y 1).val) : ℝ) : EReal) := by
  rw [stAt0_A m c t acc h0 (by omega)]
  exact (congrFun (View.read_writes_junk_eq_canon VO0_19 _) y).trans (dsh_A c (ms0_0 t) (hs0_0 t) (ms0_1 t) (hs0_1 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 (blk h t) (ms0_19 t) y)
theorem next_dsh (h0 : ¬t.val % 32 = 0) (y : S1x1024.Idx) : (stAt0 m c t.val t.isLt acc).2.2.2.2.2.2.2.1 y = acc.2.2.2.2.2.2.2.1 y
    + ((∑ r : Fin 256, dh (a.pull (two t)) (ch r.val) (tt r.val) (kk (y 1).val) : ℝ) : EReal) := by
  have e := fun X => dsh_B c (ms0_0 t) (hs0_0 t) (ms0_1 t) (hs0_1 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 (blk h t) (ms0_19 t) (hs0_19 t) X y
  by_cases h1 : t.val % 32 = 31
  · rw [stAt0_C m c t acc h0 h1]
    exact (congrFun (View.read_writes_junk_eq_canon VO0_19 _) y).trans (e _)
  · rw [stAt0_B m c t acc h0 h1]
    exact (congrFun (View.read_writes_junk_eq_canon VO0_19 _) y).trans (e _)

theorem first_dbs (h0 : t.val % 32 = 0) (y : S128x2048.Idx) : (stAt0 m c t.val t.isLt acc).2.2.2.2.2.2.2.2.2.2.1 y
    = ((dm (a.pull (two t)) 0 (tt (y 0).val) (gg (y 1).val) (cc (y 1).val) + dm (a.pull (two t)) 1 (tt (y 0).val) (gg (y 1).val) (cc (y 1).val) : ℝ) : EReal) := by
  rw [stAt0_A m c t acc h0 (by omega)]
  exact (congrFun (View.read_writes_junk_eq_canon VS0_4 _) y).trans (dbs_A c (ms0_0 t) (hs0_0 t) (ms0_1 t) (hs0_1 t) (ms0_3 t) (hs0_3 t) (ms0_10 t) (hs0_10 t) scM0_2 scM0_6 (blk h t) scM0_4 y)
theorem next_dbs (h0 : ¬t.val % 32 = 0) (y : S128x2048.Idx) : (stAt0 m c t.val t.isLt acc).2.2.2.2.2.2.2.2.2.2.1 y = acc.2.2.2.2.2.2.2.2.2.2.1 y
    + ((dm (a.pull (two t)) 0 (tt (y 0).val) (gg (y 1).val) (cc (y 1).val) + dm (a.pull (two t)) 1 (tt (y 0).val) (gg (y 1).val) (cc (y 1).val) : ℝ) : EReal) := by
  have e := fun X => dbs_B c (ms0_0 t) (hs0_0 t) (ms0_1 t) (hs0_1 t) (ms0_3 t) (hs0_3 t) (ms0_10 t) (hs0_10 t) scM0_2 scM0_6 (blk h t) scM0_4 (Memref.isWhole_whole _) X y
  by_cases h1 : t.val % 32 = 31
  · rw [stAt0_C m c t acc h0 h1]
    exact (congrFun (View.read_writes_junk_eq_canon VS0_4 _) y).trans (e _)
  · rw [stAt0_B m c t acc h0 h1]
    exact (congrFun (View.read_writes_junk_eq_canon VS0_4 _) y).trans (e _)

theorem first_p (h0 : t.val % 32 = 0) (y : S1x1024.Idx) : (stAt0 m c t.val t.isLt acc).2.2.2.2.2.2.2.2.2.2.2 y
    = ((∑ r : Fin 256, dh (a.pull (two t)) (ch r.val) (tt r.val) (kk (y 1).val) * ((a.pull (two t)).X (ch r.val) (tt r.val) (kk (y 1).val) * rr (a.pull (two t)) (ch r.val) (tt r.val)) : ℝ) : EReal) := by
  rw [stAt0_A m c t acc h0 (by omega)]
  exact (congrFun (View.read_writes_junk_eq_canon VS0_5 _) y).trans (p_A c (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 (blk h t) scM0_5 y)
theorem next_p (h0 : ¬t.val % 32 = 0) (y : S1x1024.Idx) : (stAt0 m c t.val t.isLt acc).2.2.2.2.2.2.2.2.2.2.2 y = acc.2.2.2.2.2.2.2.2.2.2.2 y
    + ((∑ r : Fin 256, dh (a.pull (two t)) (ch r.val) (tt r.val) (kk (y 1).val) * ((a.pull (two t)).X (ch r.val) (tt r.val) (kk (y 1).val) * rr (a.pull (two t)) (ch r.val) (tt r.val)) : ℝ) : EReal) := by
  have e := fun X => p_B c (ms0_0 t) (hs0_0 t) (ms0_1 t) (hs0_1 t) (ms0_2 t) (hs0_2 t) (ms0_3 t) (hs0_3 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 (blk h t) scM0_5 (Memref.isWhole_whole _) X y
  by_cases h1 : t.val % 32 = 31
  · rw [stAt0_C m c t acc h0 h1]
    exact (congrFun (View.read_writes_junk_eq_canon VS0_5 _) y).trans (e _)
  · rw [stAt0_B m c t acc h0 h1]
    exact (congrFun (View.read_writes_junk_eq_canon VS0_5 _) y).trans (e _)

end Cert.KernelIdeal.Hand
end
-- ==== Proof.BwdPointDx.lean ====
/- The backward kernel's grid: the input's gradient that a point leaves. -/
module

public import proofs.«01_k».proof.Proof.BwdPoint

@[expose] public section

set_option maxRecDepth 16384
set_option maxHeartbeats 12000000

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

variable {m : (ℓ : Loc nD τ sig) → Buf (Elt Ideal) ℓ} {c : Dev nD} {a : Args (Fin 64)} (h : Holds m c a)

variable (t : Fin cfg0.N) (acc : St)
include h

theorem st_dx : ∀ y, (stAt0 m c t.val t.isLt acc).2.2.1 y = ((dx (a.pull (two t)) (ch (y 0).val) (tt (y 0).val) (kk (y 1).val) : ℝ) : EReal) := fun y => by
  have e := dx_A c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 (blk h t) y
  by_cases h0 : t.val % 32 = 0
  · rw [stAt0_A m c t acc h0 (by omega)]
    show VO0_14.read (Elt Ideal) (VO0_14.writes (Elt Ideal) VO0_14.junk _) y = _
    rw [View.read_writes_junk_eq_canon]
    exact e
  · by_cases h1 : t.val % 32 = 31
    · rw [stAt0_C m c t acc h0 h1]
      show VO0_14.read (Elt Ideal) (VO0_14.writes (Elt Ideal) VO0_14.junk _) y = _
      rw [View.read_writes_junk_eq_canon]
      exact e
    · rw [stAt0_B m c t acc h0 h1]
      show VO0_14.read (Elt Ideal) (VO0_14.writes (Elt Ideal) VO0_14.junk _) y = _
      rw [View.read_writes_junk_eq_canon]
      exact e

end Cert.KernelIdeal.Hand
end
-- ==== Proof.BwdPointLast.lean ====
/- The backward kernel's grid: what the last point makes of the carried sums. -/
module

public import proofs.«01_k».proof.Proof.BwdPoint

@[expose] public section

set_option maxRecDepth 16384
set_option maxHeartbeats 8000000

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

variable {m : (ℓ : Loc nD τ sig) → Buf (Elt Ideal) ℓ} {c : Dev nD} {a : Args (Fin 64)} (h : Holds m c a)

variable (t : Fin cfg0.N) (acc : St)
include h

/-! ## The last point's results, of what the scratch holds -/

omit h in
theorem last_dbs (h1 : t.val % 32 = 31) {Q : ℕ → ℕ → ℝ} (hQ : ∀ y, (stAt0 m c t.val t.isLt acc).2.2.2.2.2.2.2.2.2.2.1 y = ((Q (y 0).val (y 1).val : ℝ) : EReal)) (r j : Fin 128) :
    (stAt0 m c t.val t.isLt acc).2.2.2.2.1 (ix2 r j) = ((if j.val < 8 then ∑ k : Fin 256, Q r.val (256 * j.val + k.val) else 0 : ℝ) : EReal) := by
  rw [stAt0_C m c t acc (by omega) h1] at hQ ⊢
  exact (congrFun (View.read_writes_junk_eq_canon VO0_16 _) _).trans
    (dbs_C (x0 := iblk m c 0 t) (x1 := iblk m c 1 t) (x3 := iblk m c 3 t) (x10 := iblk m c 10 t) (xs4 := acc.2.2.2.2.2.2.2.2.2.2.1) c (ms0_0 t) (hs0_0 t) (ms0_1 t) (hs0_1 t) (ms0_3 t) (hs0_3 t) (ms0_10 t) (hs0_10 t) scM0_2 scM0_6 scM0_4 (Memref.isWhole_whole _) (fun y => (congrFun (View.read_writes_junk_eq_canon VS0_4 _) y).symm.trans (hQ y)) r j)

theorem last_dsc (h1 : t.val % 32 = 31) {P : ℕ → ℝ} (hP : ∀ y, (stAt0 m c t.val t.isLt acc).2.2.2.2.2.2.2.2.2.2.2 y = ((P (y 1).val : ℝ) : EReal)) (k : Fin 1024) :
    (stAt0 m c t.val t.isLt acc).2.2.2.2.2.2.2.2.1 (ix2 0 k) = ((P k.val * a.gain k : ℝ) : EReal) := by
  rw [stAt0_C m c t acc (by omega) h1] at hP ⊢
  exact (congrFun (View.read_writes_junk_eq_canon VO0_20 _) _).trans
    (dsc_C (x0 := iblk m c 0 t) (x1 := iblk m c 1 t) (x2 := iblk m c 2 t) (x3 := iblk m c 3 t) (x4 := iblk m c 4 t) (x6 := iblk m c 6 t) (x7 := iblk m c 7 t) (x8 := iblk m c 8 t) (x9 := iblk m c 9 t) (x10 := iblk m c 10 t) (x11 := iblk m c 11 t) (xs5 := acc.2.2.2.2.2.2.2.2.2.2.2) c (ms0_0 t) (hs0_0 t) (ms0_1 t) (hs0_1 t) (ms0_2 t) (hs0_2 t) (ms0_3 t) (hs0_3 t) (ms0_4 t) (hs0_4 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 scM0_5 (Memref.isWhole_whole _) (fun y => (congrFun (View.read_writes_junk_eq_canon VS0_5 _) y).symm.trans (hP y)) (blk h t).h4 k)

theorem last_dg (h1 : t.val % 32 = 31) {P : ℕ → ℝ} (hP : ∀ y, (stAt0 m c t.val t.isLt acc).2.2.2.2.2.2.2.2.2.2.2 y = ((P (y 1).val : ℝ) : EReal)) (k : Fin 1024) :
    (stAt0 m c t.val t.isLt acc).2.2.2.2.2.2.2.2.2.1 (ix2 0 k) = ((P k.val * (1 + a.scale k) : ℝ) : EReal) := by
  rw [stAt0_C m c t acc (by omega) h1] at hP ⊢
  exact (congrFun (View.read_writes_junk_eq_canon VO0_21 _) _).trans
    (dg_C (x0 := iblk m c 0 t) (x1 := iblk m c 1 t) (x2 := iblk m c 2 t) (x3 := iblk m c 3 t) (x5 := iblk m c 5 t) (x6 := iblk m c 6 t) (x7 := iblk m c 7 t) (x8 := iblk m c 8 t) (x9 := iblk m c 9 t) (x10 := iblk m c 10 t) (x11 := iblk m c 11 t) (xs5 := acc.2.2.2.2.2.2.2.2.2.2.2) c (ms0_0 t) (hs0_0 t) (ms0_1 t) (hs0_1 t) (ms0_2 t) (hs0_2 t) (ms0_3 t) (hs0_3 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) scM0_0 scM0_1 scM0_2 scM0_3 scM0_6 scM0_8 scM0_5 (Memref.isWhole_whole _) (fun y => (congrFun (View.read_writes_junk_eq_canon VS0_5 _) y).symm.trans (hP y)) (blk h t).h5 k)

end Cert.KernelIdeal.Hand
end
-- ==== Proof.BwdSum.lean ====
/- The backward kernel's ten results over finite arguments. -/
module

public import proofs.«01_k».proof.Proof.BwdTotal
public import proofs.«01_k».proof.Proof.BwdLink
public import proofs.«01_k».proof.Proof.BwdPointDx
public import proofs.«01_k».proof.Proof.BwdPointLast

@[expose] public section

set_option maxRecDepth 16384

noncomputable section

namespace Cert.KernelIdeal.Hand

open Cert.KernelIdeal Cert.KernelIdeal.Gen Cert.KernelIdeal.Value
open Idealize.ShloMosaic Idealize.ShloMosaic.TcCoe Idealize.SL.Sem
open Cert.Lift Cert.Gmlp

variable {m : (ℓ : Loc nD τ sig) → Buf (Elt Ideal) ℓ} {c : Dev nD} {a : Args (Fin 64)} (h : Holds m c a)
include h

/-! ## The row blocks -/

theorem kernel_dp (n : Fin 64) (t : Fin 128) (p : Fin 3) (g : Fin 8) (x : Fin 256) :
    G12 m c (ix2 (row n t) (pcol p g x)) = ((dp a n t p g x : ℝ) : EReal) := by
  have hp : pt12Of (ix2 (row n t) (pcol p g x)) = (row n t).val / 256 := by
    show 1 * ((row n t).val / 256 - 0) + 1 * ((pcol p g x).val / 6144 - 0) = _
    have := (pcol p g x).isLt; omega
  have hN : pt12Of (ix2 (row n t) (pcol p g x)) < cfg0.N := by rw [hp, N32]; have := (row n t).isLt; omega
  unfold G12
  rw [dif_pos hN, ← outsAt0_sweep m c _ hN]
  obtain ⟨acc, e⟩ := outs_eq m c ⟨_, hN⟩
  have hl : loc12Of (ix2 (row n t) (pcol p g x)) = ix2 ⟨(row n t).val % 256, Nat.mod_lt _ (by decide)⟩ (pcol p g x) := by
    funext a; apply Fin.ext
    match a with
    | ⟨0, _⟩ => rfl
    | ⟨1, _⟩ => exact Nat.mod_eq_of_lt (pcol p g x).isLt
  rw [hl]
  refine (congrFun (congrArg (fun s : St => s.1) e) _).trans ((st_dp h ⟨_, hN⟩ acc _).trans (congrArg _ ?_))
  show dp (a.pull (two ⟨_, hN⟩)) (ch ((row n t).val % 256)) (tt ((row n t).val % 256)) (pt (pcol p g x).val) (gg (pcol p g x).val) (cc (pcol p g x).val) = _
  rw [dp_two, two_of n t hp, tt_mod, pt_pcol, gg_pcol, cc_pcol]

theorem kernel_y (n : Fin 64) (t : Fin 128) (g : Fin 8) (x : Fin 256) :
    G13 m c (ix2 (row n t) (col g x)) = ((yy a n t g x : ℝ) : EReal) := by
  have hp : pt13Of (ix2 (row n t) (col g x)) = (row n t).val / 256 := by
    show 1 * ((row n t).val / 256 - 0) + 1 * ((col g x).val / 2048 - 0) = _
    have := (col g x).isLt; omega
  have hN : pt13Of (ix2 (row n t) (col g x)) < cfg0.N := by rw [hp, N32]; have := (row n t).isLt; omega
  unfold G13
  rw [dif_pos hN, ← outsAt0_sweep m c _ hN]
  obtain ⟨acc, e⟩ := outs_eq m c ⟨_, hN⟩
  have hl : loc13Of (ix2 (row n t) (col g x)) = ix2 ⟨(row n t).val % 256, Nat.mod_lt _ (by decide)⟩ (col g x) := by
    funext a; apply Fin.ext
    match a with
    | ⟨0, _⟩ => rfl
    | ⟨1, _⟩ => exact Nat.mod_eq_of_lt (col g x).isLt
  rw [hl]
  refine (congrFun (congrArg (fun s : St => s.2.1) e) _).trans ((st_y h ⟨_, hN⟩ acc _).trans (congrArg _ ?_))
  show yy (a.pull (two ⟨_, hN⟩)) (ch ((row n t).val % 256)) (tt ((row n t).val % 256)) (gg (col g x).val) (cc (col g x).val) = _
  rw [yy_two, two_of n t hp, tt_mod, gg_col, cc_col]

theorem kernel_dx (n : Fin 64) (t : Fin 128) (k : Fin 1024) :
    G14 m c (ix2 (row n t) k) = ((dx a n t k : ℝ) : EReal) := by
  have hp : pt14Of (ix2 (row n t) k) = (row n t).val / 256 := by
    show 1 * ((row n t).val / 256 - 0) + 1 * (k.val / 1024 - 0) = _
    have := k.isLt; omega
  have hN : pt14Of (ix2 (row n t) k) < cfg0.N := by rw [hp, N32]; have := (row n t).isLt; omega
  unfold G14
  rw [dif_pos hN, ← outsAt0_sweep m c _ hN]
  obtain ⟨acc, e⟩ := outs_eq m c ⟨_, hN⟩
  have hl : loc14Of (ix2 (row n t) k) = ix2 ⟨(row n t).val % 256, Nat.mod_lt _ (by decide)⟩ k := by
    funext a; apply Fin.ext
    match a with
    | ⟨0, _⟩ => rfl
    | ⟨1, _⟩ => exact Nat.mod_eq_of_lt k.isLt
  rw [hl]
  refine (congrFun (congrArg (fun s : St => s.2.2.1) e) _).trans ((st_dx h ⟨_, hN⟩ acc _).trans (congrArg _ ?_))
  show dx (a.pull (two ⟨_, hN⟩)) (ch ((row n t).val % 256)) (tt ((row n t).val % 256)) (kk k.val) = _
  rw [dx_two, two_of n t hp, tt_mod, kk_fin]

/-! ## The sums -/

theorem kernel_dws (g : Fin 8) (t s : Fin 128) : G15 m c (ix3 g t s) = ((dws a g t s : ℝ) : EReal) := by
  rw [G15_last, ← outsAt0_sweep m c 31 last.isLt]
  refine (total m c (fun x => x.2.2.2.1) _
    (fun n y => if tt (y 2).val ≤ tt (y 1).val then ∑ x, dm a n (tt (y 1).val) (Fin.ofNat 8 (y 0).val) x * vn a n (tt (y 2).val) (Fin.ofNat 8 (y 0).val) x else 0)
    (first_dws h) (next_dws h) (fun t y => ?_) (ix3 g t s)).trans (congrArg _ ?_)
  · rw [Fin.sum_univ_two]; rfl
  · show ∑ n, (if tt s.val ≤ tt t.val then ∑ x, dm a n (tt t.val) (Fin.ofNat 8 g.val) x * vn a n (tt s.val) (Fin.ofNat 8 g.val) x else 0) = _
    rw [tt_fin, tt_fin, of_fin8, dws]
    split
    · rfl
    · exact Finset.sum_const_zero

theorem kernel_dlg (g : Fin 8) (x : Fin 256) : G17 m c (ix2 0 (col g x)) = ((dlg a g x : ℝ) : EReal) := by
  rw [G17_last, ← outsAt0_sweep m c 31 last.isLt]
  refine (total m c (fun x => x.2.2.2.2.2.1) _
    (fun n y => ∑ q, dvn a n q (gg (y 1).val) (cc (y 1).val) * vh a n q (gg (y 1).val) (cc (y 1).val))
    (first_dlg h) (next_dlg h) (fun t y => ?_) (ix2 0 (col g x))).trans (congrArg _ ?_)
  · refine (rows fun n q => dvn (a.pull (two t)) n q (gg (y 1).val) (cc (y 1).val) * vh (a.pull (two t)) n q (gg (y 1).val) (cc (y 1).val)).trans ?_
    simp only [dvn_two, vh_two]
  · show ∑ n, ∑ q, dvn a n q (gg (col g x).val) (cc (col g x).val) * vh a n q (gg (col g x).val) (cc (col g x).val) = _
    rw [gg_col, cc_col, dlg]

theorem kernel_dlb (g : Fin 8) (x : Fin 256) : G18 m c (ix2 0 (col g x)) = ((dlb a g x : ℝ) : EReal) := by
  rw [G18_last, ← outsAt0_sweep m c 31 last.isLt]
  refine (total m c (fun x => x.2.2.2.2.2.2.1) _ (fun n y => ∑ q, dvn a n q (gg (y 1).val) (cc (y 1).val))
    (first_dlb h) (next_dlb h) (fun t y => ?_) (ix2 0 (col g x))).trans (congrArg _ ?_)
  · refine (rows fun n q => dvn (a.pull (two t)) n q (gg (y 1).val) (cc (y 1).val)).trans ?_
    simp only [dvn_two]
  · show ∑ n, ∑ q, dvn a n q (gg (col g x).val) (cc (col g x).val) = _
    rw [gg_col, cc_col, dlb]

theorem kernel_dsh (k : Fin 1024) : G19 m c (ix2 0 k) = ((dsh a k : ℝ) : EReal) := by
  rw [G19_last, ← outsAt0_sweep m c 31 last.isLt]
  refine (total m c (fun x => x.2.2.2.2.2.2.2.1) _ (fun n y => ∑ q, dh a n q (kk (y 1).val))
    (first_dsh h) (next_dsh h) (fun t y => ?_) (ix2 0 k)).trans (congrArg _ ?_)
  · refine (rows fun n q => dh (a.pull (two t)) n q (kk (y 1).val)).trans ?_
    simp only [dh_two]
  · show ∑ n, ∑ q, dh a n q (kk k.val) = _
    rw [kk_fin, dsh]

/-! ## The results that the last point makes of the scratch -/

theorem scratch_dbs (y : S128x2048.Idx) : (outsAt0 m c last.val last.isLt).2.2.2.2.2.2.2.2.2.2.1 y
    = ((∑ n, dm a n (tt (y 0).val) (gg (y 1).val) (cc (y 1).val) : ℝ) : EReal) := by
  refine total m c (fun x => x.2.2.2.2.2.2.2.2.2.2.1) _ (fun n y => dm a n (tt (y 0).val) (gg (y 1).val) (cc (y 1).val))
    (first_dbs h) (next_dbs h) (fun t y => ?_) y
  rw [Fin.sum_univ_two]; rfl

theorem scratch_p (y : S1x1024.Idx) : (outsAt0 m c last.val last.isLt).2.2.2.2.2.2.2.2.2.2.2 y = ((pp a (kk (y 1).val) : ℝ) : EReal) := by
  refine total m c (fun x => x.2.2.2.2.2.2.2.2.2.2.2) _ (fun n y => ∑ q, dh a n q (kk (y 1).val) * (a.X n q (kk (y 1).val) * rr a n q))
    (first_p h) (next_p h) (fun t y => ?_) y
  refine (rows fun n q => dh (a.pull (two t)) n q (kk (y 1).val) * ((a.pull (two t)).X n q (kk (y 1).val) * rr (a.pull (two t)) n q)).trans ?_
  simp only [dh_two, rr_two]; rfl

theorem kernel_dbs (t j : Fin 128) : G16 m c (ix2 t j) = ((if hj : j.val < 8 then dbs a ⟨j.val, hj⟩ t else 0 : ℝ) : EReal) := by
  rw [G16_last, ← outsAt0_sweep m c 31 last.isLt]
  obtain ⟨acc, e⟩ := outs_eq m c last
  refine (congrFun (congrArg (fun x : St => x.2.2.2.2.1) e) _).trans ((last_dbs last acc rfl
    (Q := fun r k => ∑ n, dm a n (tt r) (gg k) (cc k)) (fun y => ?_) t j).trans (congrArg _ ?_))
  · rw [← e]; exact scratch_dbs h y
  · by_cases hj : j.val < 8
    · rw [if_pos hj, dif_pos hj, dbs, Finset.sum_comm]
      simp only [gg_256 j hj, cc_256, tt_fin]
    · rw [if_neg hj, dif_neg hj]

theorem kernel_dsc (k : Fin 1024) : G20 m c (ix2 0 k) = ((a.gain k * pp a k : ℝ) : EReal) := by
  rw [G20_last, ← outsAt0_sweep m c 31 last.isLt]
  obtain ⟨acc, e⟩ := outs_eq m c last
  refine (congrFun (congrArg (fun x : St => x.2.2.2.2.2.2.2.2.1) e) _).trans ((last_dsc h last acc rfl
    (P := fun k => pp a (kk k)) (fun y => ?_) k).trans (congrArg _ ?_))
  · rw [← e]; exact scratch_p h y
  · show pp a (kk k.val) * a.gain k = _
    rw [kk_fin, mul_comm]

theorem kernel_dg (k : Fin 1024) : G21 m c (ix2 0 k) = (((1 + a.scale k) * pp a k : ℝ) : EReal) := by
  rw [G21_last, ← outsAt0_sweep m c 31 last.isLt]
  obtain ⟨acc, e⟩ := outs_eq m c last
  refine (congrFun (congrArg (fun x : St => x.2.2.2.2.2.2.2.2.2.1) e) _).trans ((last_dg h last acc rfl
    (P := fun k => pp a (kk k)) (fun y => ?_) k).trans (congrArg _ ?_))
  · rw [← e]; exact scratch_p h y
  · show pp a (kk k.val) * (1 + a.scale k) = _
    rw [kk_fin, mul_comm]

end Cert.KernelIdeal.Hand
end
-- ==== Proof.BwdRef.lean ====
/- The reference's gradient of the chunked gated MLP sub-layer, value by value, over real numbers. -/
module

public import proofs.«01_k».proof.Proof.GmlpReal
public import proofs.«01_k».proof.Proof.Gen.ReferenceIdeal.Run
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.SL.Sem
open Cert.Lift Cert.Gmlp

section
variable {n0 n1 n2 n3 : Nat}
/-- The indices that drop to `(p, q)` when the outer two axes go. -/
theorem fiber_outer (h : (⟨4, ![n0, n1, n2, n3]⟩ : Shape).ReducesTo [0, 3] ⟨2, ![n1, n2]⟩) (p : Fin n1) (q : Fin n2)
    (i : (⟨4, ![n0, n1, n2, n3]⟩ : Shape).Idx) : h.drop i = ix2 p q ↔ ∃ k : Fin n0 × Fin n3, ix4 k.1 p q k.2 = i := by
  constructor
  · intro e
    refine ⟨(i 0, i 3), ?_⟩
    funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl
theorem reduce_outer (h : (⟨4, ![n0, n1, n2, n3]⟩ : Shape).ReducesTo [0, 3] ⟨2, ![n1, n2]⟩)
    (v : (⟨4, ![n0, n1, n2, n3]⟩ : Shape).Idx → EReal) (init : EReal) (p : Fin n1) (q : Fin n2) :
    Ideal.hostReduceAdd h v init (ix2 p q) = init + ∑ k : Fin n0, ∑ l : Fin n3, v (ix4 k p q l) := by
  refine congrArg (init + ·) ((Finset.sum_filter_eq_sum_of_fiber _ (fun k : Fin n0 × Fin n3 => ix4 k.1 p q k.2)
    (fun _ _ e => Prod.ext (congrFun e 0) (congrFun e 3)) (fiber_outer h p q) v).trans ?_)
  simp only [Fintype.sum_prod_type]
end

/-! ## The results that the run states in place -/

section
variable {F : FTy → Type} [FloatOps F] (V0 : Valuation τ sig (Elt F))
def res_dp : (Proc.devRef .tc main_v180 : DevRef τ sig).ty.Contents (Elt F) :=
  truncf .bf16 (res_main_v150 V0) bitsLt_bf16_f32
def res_y : (Proc.devRef .tc main_v181 : DevRef τ sig).ty.Contents (Elt F) :=
  truncf .bf16 (res_main_v80 V0) bitsLt_bf16_f32
def res_dx : (Proc.devRef .tc main_v182 : DevRef τ sig).ty.Contents (Elt F) :=
  addf (V0 (Proc.devRef .tc main_arg1)) (addf (addf (mulf (res_main_v163 V0) (broadcastInDim S8192x1024 ![0, 1] bcast_S8192x1_S8192x1024_0_1 (res_main_v7 V0))) (mulf (V0 (Proc.devRef .tc main_arg0)) (res_main_v173 V0))) (mulf (res_main_v173 V0) (V0 (Proc.devRef .tc main_arg0))))
def res_dws : (Proc.devRef .tc main_v103 : DevRef τ sig).ty.Contents (Elt F) :=
  select (res_main_v70_1 V0) (Host.dotGeneral dot_S8x64x256x128_S64x128x8x256_S8x128x128_12_03_3_1_0_2 none (res_main_v99 V0) (res_main_v65 V0)) (broadcastInDim S8x128x128 ![] bcast_S_S8x128x128 (constant S_ .f32 0x00000000#32))
def res_dbs : (Proc.devRef .tc main_v179 : DevRef τ sig).ty.Contents (Elt F) :=
  pad S128x128 ![0, 0] ![0, 120] ![0, 0] (transpose S128x8 [1, 0] (transpose S8x128 [1, 0] (Host.reduceAdd (shapeCast _ (Host.reduceAdd (res_main_v94 V0) (constant S_ .f32 0x00000000#32) reducesTo_S64x128x8x256_S128x8_d0_3 h_S_) shapeCasts_S128x8_S1x128x8x1) (constant S_ .f32 0x00000000#32) reducesTo_S1x128x8x1_S128x8_d0_3 h_S_) transposes_S128x8_S8x128_1_0) transposes_S8x128_S128x8_1_0) (sitofp .f32 (constantI S_ 32 0#32)) pads_S128x8_S128x128_000_01200 h_S_
def res_dlg : (Proc.devRef .tc main_v109 : DevRef τ sig).ty.Contents (Elt F) :=
  shapeCast _ (Host.reduceAdd (mulf (res_main_v60 V0) (res_main_v104 V0)) (constant S_ .f32 0x00000000#32) reducesTo_S8192x2048_S2048_d0 h_S_) shapeCasts_S2048_S1x2048
def res_dlb : (Proc.devRef .tc main_v106 : DevRef τ sig).ty.Contents (Elt F) :=
  shapeCast _ (Host.reduceAdd (res_main_v104 V0) (constant S_ .f32 0x00000000#32) reducesTo_S8192x2048_S2048_d0 h_S_) shapeCasts_S2048_S1x2048
def res_dsh : (Proc.devRef .tc main_v153 : DevRef τ sig).ty.Contents (Elt F) :=
  shapeCast _ (Host.reduceAdd (res_main_v151 V0) (constant S_ .f32 0x00000000#32) reducesTo_S8192x1024_S1024_d0 h_S_) shapeCasts_S1024_S1x1024
def res_dsc : (Proc.devRef .tc main_v156 : DevRef τ sig).ty.Contents (Elt F) :=
  shapeCast _ (Host.reduceAdd (mulf (res_main_v14 V0) (res_main_v151 V0)) (constant S_ .f32 0x00000000#32) reducesTo_S8192x1024_S1024_d0 h_S_) shapeCasts_S1024_S1x1024
def res_dg : (Proc.devRef .tc main_v161 : DevRef τ sig).ty.Contents (Elt F) :=
  shapeCast _ (Host.reduceAdd (mulf (res_main_v12 V0) (res_main_v158 V0)) (constant S_ .f32 0x00000000#32) reducesTo_S8192x1024_S1024_d0 h_S_) shapeCasts_S1024_S1x1024
end

/-- The arguments' arrays hold these real numbers. -/
structure Holds (V0 : Valuation τ sig (Elt Ideal)) (a : Args (Fin 64)) : Prop where
  h0 : ∀ n t k, V0 (Proc.devRef .tc main_arg0) (ix2 (row n t) k) = (a.X n t k : EReal)
  h1 : ∀ n t k, V0 (Proc.devRef .tc main_arg1) (ix2 (row n t) k) = (a.DX n t k : EReal)
  h2 : ∀ k, V0 (Proc.devRef .tc main_arg2) (ix2 0 k) = (a.gate k : EReal)
  h3 : ∀ k, V0 (Proc.devRef .tc main_arg3) (ix2 0 k) = (a.gain k : EReal)
  h4 : ∀ k, V0 (Proc.devRef .tc main_arg4) (ix2 0 k) = (a.scale k : EReal)
  h5 : ∀ k, V0 (Proc.devRef .tc main_arg5) (ix2 0 k) = (a.shift k : EReal)
  h6 : ∀ k p g c, V0 (Proc.devRef .tc main_arg6) (ix2 k (pcol p g c)) = (a.WI k p g c : EReal)
  h7 : ∀ g c, V0 (Proc.devRef .tc main_arg7) (ix2 0 (col g c)) = (a.LG g c : EReal)
  h8 : ∀ g c, V0 (Proc.devRef .tc main_arg8) (ix2 0 (col g c)) = (a.LB g c : EReal)
  h9 : ∀ g t s, V0 (Proc.devRef .tc main_arg9) (ix3 g t s) = (a.WS g t s : EReal)
  h10 : ∀ g t, V0 (Proc.devRef .tc main_arg10) (ix2 g t) = (a.BS g t : EReal)
  h11 : ∀ g c k, V0 (Proc.devRef .tc main_arg11) (ix2 (col g c) k) = (a.WO g c k : EReal)

variable {V0 : Valuation τ sig (Elt Ideal)} {a : Args (Fin 64)} (h : Holds V0 a) (n : Fin 64) (t : Fin 128)
include h

theorem r6 : res_main_v6 V0 (ix2 (row n t) 0) = (msq a n t : EReal) := by
  unfold res_main_v6
  clean_types
  pointwise
  simp only [h.h0, c_1024, c_eps, ← EReal.coe_one, ← EReal.coe_zero, ← EReal.coe_mul, ← EReal.coe_add,
    coe_sum, zero_add, div_real _ (show (1024 : ℝ) ≠ 0 by norm_num)]
  rfl
theorem r7 : res_main_v7 V0 (ix2 (row n t) 0) = (rr a n t : EReal) := by
  unfold res_main_v7
  clean_types
  pointwise
  rw [r6 h, rsqrt_real (msq_pos a n t)]; rfl
theorem r12 (k : Fin 1024) : res_main_v12 V0 (ix2 (row n t) k) = ((a.X n t k * rr a n t : ℝ) : EReal) := by
  unfold res_main_v12
  clean_types
  pointwise
  rw [r7 h, h.h0, ← EReal.coe_mul]
theorem r14 (k : Fin 1024) : res_main_v14 V0 (ix2 (row n t) k) = ((a.X n t k * rr a n t * a.gain k : ℝ) : EReal) := by
  unfold res_main_v14
  clean_types
  pointwise
  rw [r12 h, h.h3, ← EReal.coe_mul]
theorem r16 (k : Fin 1024) : res_main_v16 V0 (ix2 0 k) = ((1 + a.scale k : ℝ) : EReal) := by
  unfold res_main_v16
  clean_types
  pointwise
  simp only [h.h4, ← EReal.coe_one, ← EReal.coe_add]
theorem r21 (p : Fin 3) (g : Fin 8) (c : Fin 256) : res_main_v21 V0 (ix2 (row n t) (pcol p g c)) = (prj a n t p g c : EReal) := by
  unfold res_main_v21
  clean_types
  pointwise
  simp only [r14 h, r16 h, h.h5, h.h6, ← EReal.coe_mul, ← EReal.coe_add, coe_sum, zero_add]
  rfl
variable (p : Fin 2) (g : Fin 8) (c : Fin 256)
theorem r22 : res_main_v22 V0 (ix2 (row n t) (hcol p g c)) = (prj a n t p.castSucc g c : EReal) := by
  unfold res_main_v22
  clean_types
  rw [← r21 h]
  pointwise
  rfl
theorem r23 : res_main_v23 V0 (ix2 (row n t) (col g c)) = (prj a n t 2 g c : EReal) := by
  unfold res_main_v23
  clean_types
  rw [← r21 h]
  pointwise
  rfl
theorem r25 : res_main_v25 V0 (ix2 (row n t) (hcol p g c)) = ((1 / 2 * prj a n t p.castSucc g c : ℝ) : EReal) := by
  unfold res_main_v25
  clean_types
  pointwise
  rw [r22 h, c_half, ← EReal.coe_mul]
omit h in
theorem r28 : res_main_v28 V0 ix0 = (rt : EReal) := by
  unfold res_main_v28
  clean_types
  show Ideal.sqrt (Ideal.ofBits FTy.f32 0x3F000000#32) = _
  rw [c_half, sqrt_half]
theorem r30 : res_main_v30 V0 (ix2 (row n t) (hcol p g c)) = ((-prj a n t p.castSucc g c * rt : ℝ) : EReal) := by
  unfold res_main_v30
  clean_types
  pointwise
  rw [r22 h, r28, ← EReal.coe_neg, ← EReal.coe_mul]
theorem r31 : res_main_v31 V0 (ix2 (row n t) (hcol p g c)) = ((1 - erfR (-prj a n t p.castSucc g c * rt) : ℝ) : EReal) := by
  unfold res_main_v31
  clean_types
  pointwise
  rw [r30 h, erfc_real]
theorem r35 : res_main_v35 V0 (ix2 (row n t) (hcol p g c)) = (gel (prj a n t p.castSucc g c) : EReal) := by
  unfold res_main_v35
  clean_types
  pointwise
  rw [r25 h, r31 h, ← EReal.coe_mul, gel_erfc]
theorem r36 : res_main_v36 V0 (ix2 (row n t) (col g c)) = (uu a n t g c : EReal) := by
  unfold res_main_v36
  clean_types
  rw [uu, show (0 : Fin 3) = (0 : Fin 2).castSucc from rfl, ← r35 h]
  pointwise
  exact congrArg (fun j => res_main_v35 V0 (ix2 (row n t) j)) (Fin.ext (by simp [hcol, col]))
theorem r37 : res_main_v37 V0 (ix2 (row n t) (col g c)) = (va a n t g c : EReal) := by
  unfold res_main_v37
  clean_types
  rw [va, show (1 : Fin 3) = (1 : Fin 2).castSucc from rfl, ← r35 h]
  pointwise
  exact congrArg (fun j => res_main_v35 V0 (ix2 (row n t) j)) (Fin.ext (by simp [hcol, col]))
theorem r41 : res_main_v41 V0 (ix2 (row n t) 0) = (mu a n t : EReal) := by
  unfold res_main_v41
  clean_types
  pointwise
  simp only [sum_col, r37 h, c_2048, coe_sum, ← EReal.coe_zero, zero_add, ← EReal.coe_add, div_real _ (show (2048 : ℝ) ≠ 0 by norm_num)]
  rfl
theorem r43 : res_main_v43 V0 (ix2 (row n t) (col g c)) = ((va a n t g c - mu a n t : ℝ) : EReal) := by
  unfold res_main_v43
  clean_types
  pointwise
  rw [r37 h, r41 h, ← EReal.coe_sub]
theorem r52 : res_main_v52 V0 (ix2 (row n t) (col g c)) = ((va a n t g c - mu a n t : ℝ) : EReal) := r43 h n t g c
theorem r54 : res_main_v54 V0 (ix2 (row n t) 0) = (var a n t : EReal) := by
  unfold res_main_v54
  clean_types
  pointwise
  simp only [sum_col, r43 h, c_2048, c_lneps, ← EReal.coe_mul, coe_sum, ← EReal.coe_zero, zero_add, ← EReal.coe_add, div_real _ (show (2048 : ℝ) ≠ 0 by norm_num)]
  rfl
theorem r55 : res_main_v55 V0 (ix2 (row n t) 0) = (rs a n t : EReal) := by
  unfold res_main_v55
  clean_types
  pointwise
  rw [r54 h, rsqrt_real (var_pos a n t)]; rfl
theorem r60 : res_main_v60 V0 (ix2 (row n t) (col g c)) = (vh a n t g c : EReal) := by
  unfold res_main_v60
  clean_types
  pointwise
  rw [r52 h, r55 h, ← EReal.coe_mul]; rfl
theorem r65 : res_main_v65 V0 (ix4 n t g c) = (vn a n t g c : EReal) := by
  unfold res_main_v65
  clean_types
  trans (vh a n t g c : EReal) * a.LG g c + a.LB g c
  · rw [← r60 h, ← h.h7, ← h.h8]
    pointwise
    rfl
  · rw [← EReal.coe_mul, ← EReal.coe_add]; rfl
omit h in
theorem r70_1 (s : Fin 128) : res_main_v70_1 V0 (ix3 g t s) = if s ≤ t then (1 : BitVec 1) else 0 := by
  unfold res_main_v70_1
  clean_types
  pointwise
  have e : (IntOp.cmpi .sge (IntOp.addi (BitVec.ofNat 32 t.val) 0#32) (BitVec.ofNat 32 s.val)) = if s ≤ t then (1 : BitVec 1) else 0 := by
    revert t s; decide +kernel
  rw [e]; split <;> rfl
theorem r70 (s : Fin 128) : res_main_v70_0 V0 (ix3 g t s) = (wm a g t s : EReal) := by
  unfold res_main_v70_0
  clean_types
  pointwise
  rw [r70_1, h.h9, ← EReal.coe_zero, wm]
  split <;> rfl
theorem r77 : res_main_v77 V0 (ix2 (row n t) (col g c)) = (mx a n t g c : EReal) := by
  unfold res_main_v77
  clean_types
  pointwise
  simp only [row_div, row_mod, col_div, col_mod, r65 h, r70 h, h.h10, ← EReal.coe_mul, coe_sum, ← EReal.coe_add]
  rw [mx]
  simp only [mul_comm]
theorem r78 : res_main_v78 V0 (ix2 (row n t) (col g c)) = ((uu a n t g c * mx a n t g c : ℝ) : EReal) := by
  unfold res_main_v78
  clean_types
  pointwise
  rw [r36 h, r77 h, ← EReal.coe_mul]
theorem r79_2 : res_main_v79_2 V0 (ix2 (row n t) (col g c)) = (sg (prj a n t 2 g c) : EReal) := by
  unfold res_main_v79_2
  clean_types
  pointwise
  rw [r23 h, ← EReal.coe_one, ← EReal.coe_neg, exp_real, ← EReal.coe_add, div_real _ (one_add_exp _)]; rfl
theorem r79 : res_main_v79_0 V0 (ix2 (row n t) (col g c)) = (sz a n t g c : EReal) := by
  unfold res_main_v79_0
  clean_types
  pointwise
  rw [r23 h, r79_2 h, ← EReal.coe_mul]; rfl
theorem r80 : res_main_v80 V0 (ix2 (row n t) (col g c)) = (yy a n t g c : EReal) := by
  unfold res_main_v80
  clean_types
  pointwise
  rw [r79 h, r78 h, ← EReal.coe_mul]; rfl
theorem r88 : res_main_v88 V0 (ix2 (row n t) (col g c)) = (dy a n t g c : EReal) := by
  unfold res_main_v88
  clean_types
  pointwise
  simp only [h.h1, h.h2, h.h11, ← EReal.coe_mul, coe_sum]
  rw [dy]
  simp only [mul_comm]
theorem r89 : res_main_v89 V0 (ix2 (row n t) (col g c)) = (ds a n t g c : EReal) := by
  unfold res_main_v89
  clean_types
  pointwise
  rw [r79 h, r88 h, ← EReal.coe_mul, ds, mul_comm]
theorem r90 : res_main_v90 V0 (ix2 (row n t) (col g c)) = ((dy a n t g c * (uu a n t g c * mx a n t g c) : ℝ) : EReal) := by
  unfold res_main_v90
  clean_types
  pointwise
  rw [r88 h, r78 h, ← EReal.coe_mul]
theorem r94 : res_main_v94 V0 (ix4 n t g c) = (dm a n t g c : EReal) := by
  unfold res_main_v94
  clean_types
  rw [dm, mul_comm, EReal.coe_mul, ← r36 h, ← r89 h]
  pointwise
  rfl
theorem r99 : res_main_v99 V0 (ix4 g n c t) = (dm a n t g c : EReal) := by
  unfold res_main_v99
  clean_types
  rw [← r94 h]
  pointwise
theorem r104 : res_main_v104 V0 (ix2 (row n t) (col g c)) = (dvn a n t g c : EReal) := by
  unfold res_main_v104
  clean_types
  pointwise
  simp only [row_div, row_mod, col_div, col_mod, r99 h, r70 h, ← EReal.coe_mul, coe_sum]
  rw [dvn]
  simp only [mul_comm]
theorem r111 : res_main_v111 V0 (ix2 (row n t) (col g c)) = (dvh a n t g c : EReal) := by
  unfold res_main_v111
  clean_types
  pointwise
  rw [r104 h, h.h7, ← EReal.coe_mul]; rfl
theorem r116 : res_main_v116 V0 (ix2 (row n t) (col g c)) = ((dvh a n t g c * rs a n t : ℝ) : EReal) := by
  unfold res_main_v116
  clean_types
  pointwise
  rw [r111 h, r55 h, ← EReal.coe_mul]
theorem r125 : res_main_v125 V0 (ix2 (row n t) (col g c)) =
    (((∑ g, ∑ c, (va a n t g c - mu a n t) * dvh a n t g c) * (-(1 / 2) * (rs a n t / var a n t)) / 2048 * (2 * (va a n t g c - mu a n t)) : ℝ) : EReal) := by
  unfold res_main_v125
  clean_types
  pointwise
  simp only [sum_col, Finset.univ_unique, Finset.sum_singleton, Fin.default_eq_zero, r52 h, r111 h, r55 h, r54 h, r43 h, c_2048, c_neg_half, c_two,
    div_real _ (show (2048 : ℝ) ≠ 0 by norm_num), div_real _ (var_pos a n t).ne', ← EReal.coe_mul, coe_sum]
theorem r136u : res_main_v136 V0 (ix2 (row n t) (hcol 0 g c)) = ((ds a n t g c * mx a n t g c : ℝ) : EReal) := by
  unfold res_main_v136
  clean_types
  pointwise
  rw [dif_pos (hcol0_lt g c)]
  simp only [hcol0_col, r89 h, r77 h, ← EReal.coe_mul]
theorem r136v : res_main_v136 V0 (ix2 (row n t) (hcol 1 g c)) = (dva a n t g c : EReal) := by
  unfold res_main_v136
  clean_types
  pointwise
  rw [dif_neg (hcol1_ge g c)]
  simp only [hcol1_col, sum_col, Finset.univ_unique, Finset.sum_singleton, r116 h, r125 h, c_2048,
    div_real _ (show (2048 : ℝ) ≠ 0 by norm_num), ← EReal.coe_neg, ← EReal.coe_mul, coe_sum, ← EReal.coe_add]
  rw [dva_terms]
/-- What reaches the gelu's input. -/
def dact (a : Args (Fin 64)) (n : Fin 64) (t : Fin 128) (g : Fin 8) (c : Fin 256) : Fin 2 → ℝ := ![ds a n t g c * mx a n t g c, dva a n t g c]
theorem r136 : res_main_v136 V0 (ix2 (row n t) (hcol p g c)) = (dact a n t g c p : EReal) := by
  match p with
  | 0 => exact r136u h n t g c
  | 1 => exact r136v h n t g c
theorem r150a : res_main_v150 V0 (ix2 (row n t) (pcol p.castSucc g c)) = ((dact a n t g c p * dgel (prj a n t p.castSucc g c) : ℝ) : EReal) := by
  unfold res_main_v150
  clean_types
  pointwise
  rw [dif_neg (pcol_not p g c), dif_pos (pcol_lt p g c)]
  simp only [pcol_hcol, r25 h, r136 h, r30 h, r31 h, r28, c_erf', c_half, ← EReal.coe_neg, exp_real, ← EReal.coe_mul, ← EReal.coe_add, zero_add]
  rw [dgel_erfc]
theorem r150z : res_main_v150 V0 (ix2 (row n t) (pcol 2 g c)) = (dpz a n t g c : EReal) := by
  unfold res_main_v150
  clean_types
  pointwise
  rw [dif_pos (pcol2_ge g c), dif_neg (pcol2_not g c)]
  simp only [pcol2_col, r90 h, r79_2 h, r23 h, ← EReal.coe_one, ← EReal.coe_sub, ← EReal.coe_mul, ← EReal.coe_add, add_zero]
  rw [dsil_two]; rfl
theorem r150 (p : Fin 3) : res_main_v150 V0 (ix2 (row n t) (pcol p g c)) = (dp a n t p g c : EReal) := by
  match p with
  | 0 => exact r150a h n t 0 g c
  | 1 => exact r150a h n t 1 g c
  | 2 => exact r150z h n t g c
theorem r151 (k : Fin 1024) : res_main_v151 V0 (ix2 (row n t) k) = (dh a n t k : EReal) := by
  unfold res_main_v151
  clean_types
  pointwise
  simp only [sum_pcol, r150 h, h.h6, ← EReal.coe_mul, coe_sum]
  rfl
theorem r158 (k : Fin 1024) : res_main_v158 V0 (ix2 (row n t) k) = ((dh a n t k * (1 + a.scale k) : ℝ) : EReal) := by
  unfold res_main_v158
  clean_types
  pointwise
  rw [r151 h, r16 h, ← EReal.coe_mul]
theorem r163 (k : Fin 1024) : res_main_v163 V0 (ix2 (row n t) k) = (dxn a n t k : EReal) := by
  unfold res_main_v163
  clean_types
  pointwise
  rw [r158 h, h.h3, ← EReal.coe_mul, dxn]; congr 1; ring
theorem r173 (k : Fin 1024) : res_main_v173 V0 (ix2 (row n t) k) =
    (((∑ l, a.X n t l * dxn a n t l) * (-(1 / 2) * (rr a n t / msq a n t)) / 1024 : ℝ) : EReal) := by
  unfold res_main_v173
  clean_types
  pointwise
  simp only [Finset.univ_unique, Finset.sum_singleton, Fin.default_eq_zero, h.h0, r163 h, r7 h, r6 h, c_1024, c_neg_half,
    div_real _ (show (1024 : ℝ) ≠ 0 by norm_num), div_real _ (msq_pos a n t).ne', ← EReal.coe_mul, coe_sum]
theorem out_dp (p : Fin 3) : res_dp V0 (ix2 (row n t) (pcol p g c)) = (dp a n t p g c : EReal) := by
  unfold res_dp
  clean_types
  pointwise
  exact r150 h n t g c p
theorem out_y : res_y V0 (ix2 (row n t) (col g c)) = (yy a n t g c : EReal) := by
  unfold res_y
  clean_types
  pointwise
  exact r80 h n t g c
theorem out_dx (k : Fin 1024) : res_dx V0 (ix2 (row n t) k) = (dx a n t k : EReal) := by
  unfold res_dx
  clean_types
  pointwise
  simp only [h.h0, h.h1, r163 h, r7 h, r173 h, ← EReal.coe_mul, ← EReal.coe_add]
  rw [rr_div_msq, dx]
  have e : ∑ l, dxn a n t l * (a.X n t l * rr a n t) = (∑ l, a.X n t l * dxn a n t l) * rr a n t := by
    rw [Finset.sum_mul]; exact Finset.sum_congr rfl fun l _ => by ring
  rw [e]; congr 1; ring
theorem out_dws (s : Fin 128) : res_dws V0 (ix3 g t s) = (dws a g t s : EReal) := by
  unfold res_dws
  clean_types
  pointwise
  simp only [r70_1, r99 h, r65 h, ← EReal.coe_mul, coe_sum]
  rw [dws]; split <;> rfl
theorem out_dbs (j : Fin 128) : res_dbs V0 (ix2 t j) = ((if hj : j.val < 8 then dbs a ⟨j.val, hj⟩ t else 0 : ℝ) : EReal) := by
  unfold res_dbs
  clean_types
  pointwise
  by_cases hj : j.val < 8
  · rw [dif_pos hj, dif_pos hj]
    erw [reduce_outer]
    pointwise
    simp only [Finset.univ_unique, Finset.sum_singleton, zero_add]
    erw [reduce_outer]
    simp only [r94 h, coe_sum, zero_add]
    rfl
  · rw [dif_neg hj, dif_neg hj]
    show (((0#32 : BitVec 32).toInt : ℝ) : EReal) = _
    simp
theorem out_dlg : res_dlg V0 (ix2 0 (col g c)) = (dlg a g c : EReal) := by
  unfold res_dlg
  clean_types
  pointwise
  simp only [sum_row, r60 h, r104 h, ← EReal.coe_mul, coe_sum]
  rw [dlg]; simp only [mul_comm]
theorem out_dlb : res_dlb V0 (ix2 0 (col g c)) = (dlb a g c : EReal) := by
  unfold res_dlb
  clean_types
  pointwise
  simp only [sum_row, r104 h, coe_sum]
  rfl
theorem out_dsh (k : Fin 1024) : res_dsh V0 (ix2 0 k) = (dsh a k : EReal) := by
  unfold res_dsh
  clean_types
  pointwise
  simp only [sum_row, r151 h, coe_sum]
  rfl
theorem out_dsc (k : Fin 1024) : res_dsc V0 (ix2 0 k) = ((a.gain k * pp a k : ℝ) : EReal) := by
  unfold res_dsc
  clean_types
  pointwise
  simp only [sum_row, r151 h, r14 h, coe_sum, ← EReal.coe_mul]
  simp only [pp, Finset.mul_sum]
  congr 1; refine Finset.sum_congr rfl fun n _ => Finset.sum_congr rfl fun t _ => by ring
theorem out_dg (k : Fin 1024) : res_dg V0 (ix2 0 k) = (((1 + a.scale k) * pp a k : ℝ) : EReal) := by
  unfold res_dg
  clean_types
  pointwise
  simp only [sum_row, r158 h, r12 h, coe_sum, ← EReal.coe_mul]
  simp only [pp, Finset.mul_sum]
  congr 1; refine Finset.sum_congr rfl fun n _ => Finset.sum_congr rfl fun t _ => by ring

end Cert.ReferenceIdeal.Hand

end
-- ==== Proof.BwdMain.lean ====
/- The backward call's equality with the reference. -/
module

public import proofs.«01_k».proof.Defs
public import proofs.«01_k».proof.Proof.BwdSum
public import proofs.«01_k».proof.Proof.BwdRef
public import proofs.«01_k».proof.Proof.Gen.Pre_finite

@[expose] public section

set_option maxRecDepth 16384

noncomputable section

namespace Cert.Hand

open Idealize.ShloMosaic Idealize.ShloMosaic.TcCoe Idealize.SL.Sem Cert.Lift Cert.Gmlp
open Idealize.ShloMosaic.StableHlo (launchContents)

/-- The real numbers that the arguments' arrays hold. -/
def args (m : (ℓ : Loc Cert.KernelIdeal.nD Cert.KernelIdeal.τ Cert.KernelIdeal.sig) → Buf (Elt Ideal) ℓ) : Args (Fin 64) where
  X := fun n t k => EReal.toReal (m (0, Proc.devRef .tc Cert.KernelIdeal.main_arg0) (ix2 (row n t) k))
  DX := fun n t k => EReal.toReal (m (0, Proc.devRef .tc Cert.KernelIdeal.main_arg1) (ix2 (row n t) k))
  gate := fun k => EReal.toReal (m (0, Proc.devRef .tc Cert.KernelIdeal.main_arg2) (ix2 0 k))
  gain := fun k => EReal.toReal (m (0, Proc.devRef .tc Cert.KernelIdeal.main_arg3) (ix2 0 k))
  scale := fun k => EReal.toReal (m (0, Proc.devRef .tc Cert.KernelIdeal.main_arg4) (ix2 0 k))
  shift := fun k => EReal.toReal (m (0, Proc.devRef .tc Cert.KernelIdeal.main_arg5) (ix2 0 k))
  WI := fun k p g x => EReal.toReal (m (0, Proc.devRef .tc Cert.KernelIdeal.main_arg6) (ix2 k (pcol p g x)))
  LG := fun g x => EReal.toReal (m (0, Proc.devRef .tc Cert.KernelIdeal.main_arg7) (ix2 0 (col g x)))
  LB := fun g x => EReal.toReal (m (0, Proc.devRef .tc Cert.KernelIdeal.main_arg8) (ix2 0 (col g x)))
  WS := fun g t s => EReal.toReal (m (0, Proc.devRef .tc Cert.KernelIdeal.main_arg9) (ix3 g t s))
  BS := fun g t => EReal.toReal (m (0, Proc.devRef .tc Cert.KernelIdeal.main_arg10) (ix2 g t))
  WO := fun g x k => EReal.toReal (m (0, Proc.devRef .tc Cert.KernelIdeal.main_arg11) (ix2 (col g x) k))

/-- Finite arguments are arrays of reals. -/
theorem holds_of_pre (m : (ℓ : Loc Cert.KernelIdeal.nD Cert.KernelIdeal.τ Cert.KernelIdeal.sig) → Buf (Elt Ideal) ℓ) (hp : Cert.Pre_KernelIdeal_finite m)
    (c : Dev Cert.KernelIdeal.nD) : Cert.KernelIdeal.Hand.Holds m c (args m) := by
  obtain rfl : c = 0 := Subsingleton.elim (α := Fin 1) _ _
  obtain ⟨e0, e1, e2, e3, e4, e5, e6, e7, e8, e9, e10, e11⟩ := hp 0
  constructor
  · intro n t k; have e := congrFun e0 (ix2 (row n t) k); pointwise [Cert.Pre_finite.fn, Cert.Pre_finite.fn_part1] at e; exact real_of_bit e
  · intro n t k; have e := congrFun e1 (ix2 (row n t) k); pointwise [Cert.Pre_finite.fn, Cert.Pre_finite.fn_part1] at e; exact real_of_bit e
  · intro k; have e := congrFun e2 (ix2 0 k); pointwise [Cert.Pre_finite.fn, Cert.Pre_finite.fn_part1] at e; exact real_of_bit e
  · intro k; have e := congrFun e3 (ix2 0 k); pointwise [Cert.Pre_finite.fn, Cert.Pre_finite.fn_part1] at e; exact real_of_bit e
  · intro k; have e := congrFun e4 (ix2 0 k); pointwise [Cert.Pre_finite.fn, Cert.Pre_finite.fn_part1] at e; exact real_of_bit e
  · intro k; have e := congrFun e5 (ix2 0 k); pointwise [Cert.Pre_finite.fn, Cert.Pre_finite.fn_part1] at e; exact real_of_bit e
  · intro k p g x; have e := congrFun e6 (ix2 k (pcol p g x)); pointwise [Cert.Pre_finite.fn, Cert.Pre_finite.fn_part1] at e; exact real_of_bit e
  · intro g x; have e := congrFun e7 (ix2 0 (col g x)); pointwise [Cert.Pre_finite.fn, Cert.Pre_finite.fn_part1] at e; exact real_of_bit e
  · intro g x; have e := congrFun e8 (ix2 0 (col g x)); pointwise [Cert.Pre_finite.fn, Cert.Pre_finite.fn_part1] at e; exact real_of_bit e
  · intro g t s; have e := congrFun e9 (ix3 g t s); pointwise [Cert.Pre_finite.fn, Cert.Pre_finite.fn_part1] at e; exact real_of_bit e
  · intro g t; have e := congrFun e10 (ix2 g t); pointwise [Cert.Pre_finite.fn, Cert.Pre_finite.fn_part1] at e; exact real_of_bit e
  · intro g x k; have e := congrFun e11 (ix2 (col g x) k); pointwise [Cert.Pre_finite.fn, Cert.Pre_finite.fn_part1] at e; exact real_of_bit e

/-- Arrays are their values at the places of rows in chunks and columns in groups. -/
theorem ext_mat {e : EltTy} {v w : Vec Ideal Cert.KernelIdeal.S8192x6144 e} (h : ∀ n t p g x, v (ix2 (row n t) (pcol p g x)) = w (ix2 (row n t) (pcol p g x))) : v = w := by
  funext j; rw [eq_ix2 j]
  obtain ⟨n, t, hn⟩ := row_surj (j 0); obtain ⟨p, g, x, hx⟩ := pcol_surj (j 1)
  rw [hn, hx]; exact h _ _ _ _ _
theorem ext_half {e : EltTy} {v w : Vec Ideal Cert.KernelIdeal.S8192x2048 e} (h : ∀ n t g x, v (ix2 (row n t) (col g x)) = w (ix2 (row n t) (col g x))) : v = w := by
  funext j; rw [eq_ix2 j]
  obtain ⟨n, t, hn⟩ := row_surj (j 0); obtain ⟨g, x, hx⟩ := col_surj (j 1)
  rw [hn, hx]; exact h _ _ _ _
theorem ext_in {e : EltTy} {v w : Vec Ideal Cert.KernelIdeal.S8192x1024 e} (h : ∀ n t k, v (ix2 (row n t) k) = w (ix2 (row n t) k)) : v = w := by
  funext j; rw [eq_ix2 j]
  obtain ⟨n, t, hn⟩ := row_surj (j 0)
  rw [hn]; exact h _ _ _
theorem ext_cube {e : EltTy} {v w : Vec Ideal Cert.KernelIdeal.S8x128x128 e} (h : ∀ g t s, v (ix3 g t s) = w (ix3 g t s)) : v = w := by
  funext j; rw [eq_ix3 j]; exact h _ _ _
theorem ext_sq {e : EltTy} {v w : Vec Ideal Cert.KernelIdeal.S128x128 e} (h : ∀ t j, v (ix2 t j) = w (ix2 t j)) : v = w := by
  funext j; rw [eq_ix2 j]; exact h _ _
theorem ext_cols {e : EltTy} {v w : Vec Ideal Cert.KernelIdeal.S1x2048 e} (h : ∀ g x, v (ix2 0 (col g x)) = w (ix2 0 (col g x))) : v = w := by
  funext j; rw [eq_ix2 j]
  obtain ⟨g, x, hx⟩ := col_surj (j 1)
  rw [hx, show j 0 = (0 : Fin 1) from Subsingleton.elim (α := Fin 1) _ _]; exact h _ _
theorem ext_row {e : EltTy} {v w : Vec Ideal Cert.KernelIdeal.S1x1024 e} (h : ∀ k, v (ix2 0 k) = w (ix2 0 k)) : v = w := by
  funext j; rw [eq_ix2 j, show j 0 = (0 : Fin 1) from Subsingleton.elim (α := Fin 1) _ _]; exact h _

open Cert.KernelIdeal.Hand Cert.ReferenceIdeal.Hand in
theorem algebraic : Cert.algebraic_KernelIdeal_ReferenceIdeal_pre_finite := by
  intro m ρ m' ρ' hp hagree
  have hk := holds_of_pre m hp
  have hr : ∀ c, Cert.ReferenceIdeal.Hand.Holds (launchContents m' c) (args m) := fun c => by
    obtain ⟨a0, a1, a2, a3, a4, a5, a6, a7, a8, a9, a10, a11⟩ := hagree c
    have h := hk c
    exact ⟨fun n t k => (congrFun a0 _).trans (h.h0 n t k),
      fun n t k => (congrFun a1 _).trans (h.h1 n t k),
      fun k => (congrFun a2 _).trans (h.h2 k),
      fun k => (congrFun a3 _).trans (h.h3 k),
      fun k => (congrFun a4 _).trans (h.h4 k),
      fun k => (congrFun a5 _).trans (h.h5 k),
      fun k p g x => (congrFun a6 _).trans (h.h6 k p g x),
      fun g x => (congrFun a7 _).trans (h.h7 g x),
      fun g x => (congrFun a8 _).trans (h.h8 g x),
      fun g t s => (congrFun a9 _).trans (h.h9 g t s),
      fun g t => (congrFun a10 _).trans (h.h10 g t),
      fun g x k => (congrFun a11 _).trans (h.h11 g x k)⟩
  refine ⟨fun c => Cert.KernelIdeal.Value.G12 m c, fun c => Cert.KernelIdeal.Value.G13 m c, fun c => Cert.KernelIdeal.Value.G14 m c, fun c => Cert.KernelIdeal.Value.G15 m c, fun c => Cert.KernelIdeal.Value.G16 m c, fun c => Cert.KernelIdeal.Value.G17 m c, fun c => Cert.KernelIdeal.Value.G18 m c, fun c => Cert.KernelIdeal.Value.G19 m c, fun c => Cert.KernelIdeal.Value.G20 m c, fun c => Cert.KernelIdeal.Value.G21 m c, ?_, ?_⟩
  · exact (θ_run _ _ _).mono (fun r h c => h c) (Cert.KernelIdeal.Value.run m ρ)
  refine (θ_run _ _ _).mono (fun r h c => ?_) (Cert.ReferenceIdeal.Value.run m' ρ')
  have k := hk c
  have f := hr c
  obtain ⟨e0, e1, e2, e3, e4, e5, e6, e7, e8, e9, rest⟩ := h c
  have o0 : res_dp (launchContents m' c) = Cert.KernelIdeal.Value.G12 m c :=
    ext_mat fun n t p g x => (out_dp f n t g x p).trans (kernel_dp k n t p g x).symm
  have o1 : res_y (launchContents m' c) = Cert.KernelIdeal.Value.G13 m c :=
    ext_half fun n t g x => (out_y f n t g x).trans (kernel_y k n t g x).symm
  have o2 : res_dx (launchContents m' c) = Cert.KernelIdeal.Value.G14 m c :=
    ext_in fun n t i => (out_dx f n t i).trans (kernel_dx k n t i).symm
  have o3 : res_dws (launchContents m' c) = Cert.KernelIdeal.Value.G15 m c :=
    ext_cube fun g t s => (out_dws f t g s).trans (kernel_dws k g t s).symm
  have o4 : res_dbs (launchContents m' c) = Cert.KernelIdeal.Value.G16 m c :=
    ext_sq fun t j => (out_dbs f t j).trans (kernel_dbs k t j).symm
  have o5 : res_dlg (launchContents m' c) = Cert.KernelIdeal.Value.G17 m c :=
    ext_cols fun g x => (out_dlg f g x).trans (kernel_dlg k g x).symm
  have o6 : res_dlb (launchContents m' c) = Cert.KernelIdeal.Value.G18 m c :=
    ext_cols fun g x => (out_dlb f g x).trans (kernel_dlb k g x).symm
  have o7 : res_dsh (launchContents m' c) = Cert.KernelIdeal.Value.G19 m c :=
    ext_row fun i => (out_dsh f i).trans (kernel_dsh k i).symm
  have o8 : res_dsc (launchContents m' c) = Cert.KernelIdeal.Value.G20 m c :=
    ext_row fun i => (out_dsc f i).trans (kernel_dsc k i).symm
  have o9 : res_dg (launchContents m' c) = Cert.KernelIdeal.Value.G21 m c :=
    ext_row fun i => (out_dg f i).trans (kernel_dg k i).symm
  exact ⟨e0.trans o0, e1.trans o1, e2.trans o2, e3.trans o3, e4.trans o4, e5.trans o5, e6.trans o6, e7.trans o7, e8.trans o8, e9.trans o9, rest⟩

end Cert.Hand

end
-- ==== Proof.NormBwd.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise
public import Idealize.ShloMosaic.Lib.IdealHost
public import proofs.«01_k».proof.Proof.Lift

@[expose] public section

set_option maxRecDepth 16384

noncomputable section

namespace Cert.Kernel2Ideal.Hand

open Cert.Kernel2Ideal Cert.Kernel2Ideal.Gen Cert.Kernel2Ideal.Value
open Idealize.ShloMosaic Idealize.ShloMosaic.TcCoe Idealize.SL.Sem

variable (m : (ℓ : Loc nD τ sig) → Buf (Elt Ideal) ℓ) (c : Dev nD)

/-- What a point leaves in the four outputs and the carried row of sums. -/
abbrev St := Vec Ideal S512x1024 .f32 × Vec Ideal S1x1024 .f32 × Vec Ideal S1x1024 .f32 × Vec Ideal S1x1024 .f32 × Vec Ideal S1x1024 .f32

/-- The input's gradient at a point, whatever the point before left. -/
theorem st_dx (t : Fin cfg0.N) (acc : St) :
    (stAt0 m c t.val t.isLt acc).1 = k0_pay1 (k0_pay6 (iblk m c 0 t) (iblk m c 1 t)) (k0_pay7 (iblk m c 2 t)) (k0_pay8 (iblk m c 2 t)) (iblk m c 4 t) (iblk m c 5 t) (iblk m c 3 t) := by
  by_cases h0 : t.val % 16 = 0
  · rw [stAt0_A m c t acc h0 (by omega)]; dsimp only; frame_out
  · by_cases h1 : t.val % 16 = 15
    · rw [stAt0_C m c t acc h0 h1]; dsimp only; frame_out
    · rw [stAt0_B m c t acc h0 h1]; dsimp only; frame_out

/-- The first point's shift row starts from zero. -/
theorem st_dsh_first (t : Fin cfg0.N) (acc : St) (h0 : t.val % 16 = 0) :
    (stAt0 m c t.val t.isLt acc).2.1 = k0_pay9 (iblk m c 0 t) (iblk m c 1 t) (k0_pay4 (F := Ideal)) := by
  rw [stAt0_A m c t acc h0 (by omega)]; dsimp only; frame_out

/-- A later point's shift row starts from what the point before left. -/
theorem st_dsh_next (t : Fin cfg0.N) (acc : St) (h0 : ¬t.val % 16 = 0) :
    (stAt0 m c t.val t.isLt acc).2.1 = k0_pay9 (iblk m c 0 t) (iblk m c 1 t) acc.2.1 := by
  by_cases h1 : t.val % 16 = 15
  · rw [stAt0_C m c t acc h0 h1]; dsimp only; frame_out
  · rw [stAt0_B m c t acc h0 h1]; dsimp only; frame_out

/-- The first point's carried row starts from zero. -/
theorem st_p_first (t : Fin cfg0.N) (acc : St) (h0 : t.val % 16 = 0) :
    (stAt0 m c t.val t.isLt acc).2.2.2.2 = k0_pay10 (iblk m c 0 t) (iblk m c 1 t) (iblk m c 2 t) (k0_pay5 (F := Ideal)) := by
  rw [stAt0_A m c t acc h0 (by omega)]; dsimp only; frame_out

/-- A later point's carried row starts from what the point before left. -/
theorem st_p_next (t : Fin cfg0.N) (acc : St) (h0 : ¬t.val % 16 = 0) :
    (stAt0 m c t.val t.isLt acc).2.2.2.2 = k0_pay10 (iblk m c 0 t) (iblk m c 1 t) (iblk m c 2 t) acc.2.2.2.2 := by
  by_cases h1 : t.val % 16 = 15
  · rw [stAt0_C m c t acc h0 h1]; dsimp only; frame_out
    simp only [read_unread_whole]
  · rw [stAt0_B m c t acc h0 h1]; dsimp only; frame_out
    simp only [read_unread_whole]

/-- The last point's two other rows are the carried row times a weight. -/
theorem st_last (t : Fin cfg0.N) (acc : St) (h1 : t.val % 16 = 15) :
    (stAt0 m c t.val t.isLt acc).2.2.1 = k0_pay2 (stAt0 m c t.val t.isLt acc).2.2.2.2 (iblk m c 4 t)
    ∧ (stAt0 m c t.val t.isLt acc).2.2.2.1 = k0_pay3 (stAt0 m c t.val t.isLt acc).2.2.2.2 (iblk m c 5 t) := by
  have h0 : ¬t.val % 16 = 0 := by omega
  rw [st_p_next m c t acc h0, stAt0_C m c t acc h0 h1]; dsimp only
  constructor
  · frame_out
    simp only [read_unread_whole]
  · frame_out
    simp only [read_unread_whole]

/-- The point that writes row `i` back. -/
theorem N16 : cfg0.N = 16 := N_0

theorem outs_eq (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

theorem outs_next (t : Fin cfg0.N) (h : ¬ t.val % 16 = 0) :
    outsAt0 m c t.val t.isLt = stAt0 m c t.val t.isLt (outsAt0 m c (t.val - 1) (Nat.lt_of_le_of_lt (Nat.sub_le _ _) t.isLt)) := by
  obtain ⟨n, hn⟩ := t
  cases n with
  | zero => exact absurd rfl h
  | succ n => exact outsAt0_succ m c n hn

/-- The index maps, at a point: the row blocks advance, the others stay. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] :=
  (by decide +kernel : ∀ t : Fin grid0.N, _)

theorem row_lt (t : Fin cfg0.N) (r : Fin 512) : t.val * 512 + r.val < 8192 := by
  have := t.isLt; have := N16; omega

theorem ib0 (t : Fin cfg0.N) (r : Fin 512) (n : Fin 8192) :
    iblk m c 0 t (ix2 r n) = m ((c : Thread nD τ).loc main_arg0) (ix2 ⟨t.val * 512 + r.val, row_lt t r⟩ n) := by
  blk_ext [iblk, V, idx t]
theorem ib1 (t : Fin cfg0.N) (k : Fin 1024) (n : Fin 8192) :
    iblk m c 1 t (ix2 k n) = m ((c : Thread nD τ).loc main_arg1) (ix2 k n) := by
  blk_ext! [iblk, V, idx t]
theorem ib2 (t : Fin cfg0.N) (r : Fin 512) (n : Fin 1024) :
    iblk m c 2 t (ix2 r n) = m ((c : Thread nD τ).loc main_arg2) (ix2 ⟨t.val * 512 + r.val, row_lt t r⟩ n) := by
  blk_ext [iblk, V, idx t]
theorem ib3 (t : Fin cfg0.N) (r : Fin 512) (n : Fin 1024) :
    iblk m c 3 t (ix2 r n) = m ((c : Thread nD τ).loc main_arg3) (ix2 ⟨t.val * 512 + r.val, row_lt t r⟩ n) := by
  blk_ext [iblk, V, idx t]
theorem ib4 (t : Fin cfg0.N) (n : Fin 1024) :
    iblk m c 4 t (ix2 0 n) = m ((c : Thread nD τ).loc main_arg4) (ix2 0 n) := by
  blk_ext [iblk, V, idx t]
theorem ib5 (t : Fin cfg0.N) (n : Fin 1024) :
    iblk m c 5 t (ix2 0 n) = m ((c : Thread nD τ).loc main_arg5) (ix2 0 n) := by
  blk_ext [iblk, V, idx t]

/-! ## A block's values over real numbers -/

section Real

open Cert.Lift

variable {ι : Type*} (D : ι → Fin 8192 → ℝ) (W : Fin 1024 → Fin 8192 → ℝ) (X R : ι → Fin 1024 → ℝ) (g s : Fin 1024 → ℝ)

/-- The gradient of the projection's input: the product with the transposed weight. -/
def dh (i : ι) (k : Fin 1024) : ℝ := ∑ n, D i n * W k n
/-- The mean square of a row, and the small constant. -/
def msq (i : ι) : ℝ := (∑ k, X i k * X i k) / 1024 + eps
/-- The reciprocal root of it. -/
def rr (i : ι) : ℝ := (Real.sqrt (msq X i))⁻¹

theorem msq_pos (i : ι) : 0 < msq X i :=
  add_pos_of_nonneg_of_pos (div_nonneg (Finset.sum_nonneg fun k _ => mul_self_nonneg _) (by norm_num)) eps_pos

/-- The gradient of the normalised row. -/
def dxn (i : ι) (k : Fin 1024) : ℝ := dh D W i k * (g k * (1 + s k))
/-- The gradient of the row, the residual's added. -/
def dxr (i : ι) (k : Fin 1024) : ℝ :=
  rr X i * (dxn D W g s i k - X i k * rr X i * ((∑ l, dxn D W g s i l * (X i l * rr X i)) / 1024)) + R i k

end Real

section Blocks

open Cert.Lift

variable {D : Fin 512 → Fin 8192 → ℝ} {W : Fin 1024 → Fin 8192 → ℝ} {X R : Fin 512 → Fin 1024 → ℝ} {g s : Fin 1024 → ℝ}
  {x0 : Vec Ideal S512x8192 .bf16} {x1 : Vec Ideal S1024x8192 .bf16} {x2 x3 : Vec Ideal S512x1024 .f32} {x4 x5 : Vec Ideal S1x1024 .f32}

theorem pay6_real (h0 : ∀ r n, x0 (ix2 r n) = (D r n : EReal)) (h1 : ∀ k n, x1 (ix2 k n) = (W k n : EReal)) (r : Fin 512) (k : Fin 1024) :
    k0_pay6 x0 x1 (ix2 r k) = (dh D W r k : EReal) := by
  pointwise [k0_pay6]
  simp only [h0, h1, ← EReal.coe_mul, coe_sum, zero_add]
  rfl

theorem pay7_real (h2 : ∀ r n, x2 (ix2 r n) = (X r n : EReal)) (r : Fin 512) :
    k0_pay7 x2 (ix2 r 0) = (rr X r : EReal) := by
  pointwise [k0_pay7]
  simp only [h2, ← EReal.coe_mul, coe_sum, zero_add, c_1024, c_eps, div_real _ (show (1024 : ℝ) ≠ 0 by norm_num), ← EReal.coe_add]
  exact rsqrt_real (msq_pos X r)

theorem pay8_real (h2 : ∀ r n, x2 (ix2 r n) = (X r n : EReal)) (r : Fin 512) (k : Fin 1024) :
    k0_pay8 x2 (ix2 r k) = (X r k * rr X r : ℝ) := by
  unfold k0_pay8
  generalize h : k0_pay7 x2 = y
  pointwise
  rw [← h, pay7_real h2, h2, ← EReal.coe_mul]

theorem pay9_real (h0 : ∀ r n, x0 (ix2 r n) = (D r n : EReal)) (h1 : ∀ k n, x1 (ix2 k n) = (W k n : EReal)) (v : Vec Ideal S1x1024 .f32) (k : Fin 1024) :
    k0_pay9 x0 x1 v (ix2 0 k) = v (ix2 0 k) + ((∑ r, dh D W r k : ℝ) : EReal) := by
  unfold k0_pay9
  generalize h : k0_pay6 x0 x1 = y
  pointwise
  simp only [← h, pay6_real h0 h1, coe_sum, zero_add]

theorem pay10_real (h0 : ∀ r n, x0 (ix2 r n) = (D r n : EReal)) (h1 : ∀ k n, x1 (ix2 k n) = (W k n : EReal)) (h2 : ∀ r n, x2 (ix2 r n) = (X r n : EReal))
    (v : Vec Ideal S1x1024 .f32) (k : Fin 1024) :
    k0_pay10 x0 x1 x2 v (ix2 0 k) = v (ix2 0 k) + ((∑ r, dh D W r k * (X r k * rr X r) : ℝ) : EReal) := by
  unfold k0_pay10
  generalize h : k0_pay6 x0 x1 = y
  generalize h' : k0_pay8 x2 = z
  pointwise
  simp only [← h, ← h', pay6_real h0 h1, pay8_real h2, ← EReal.coe_mul, coe_sum, zero_add]

theorem pay1_real (h0 : ∀ r n, x0 (ix2 r n) = (D r n : EReal)) (h1 : ∀ k n, x1 (ix2 k n) = (W k n : EReal)) (h2 : ∀ r n, x2 (ix2 r n) = (X r n : EReal))
    (h3 : ∀ r n, x3 (ix2 r n) = (R r n : EReal)) (h4 : ∀ n, x4 (ix2 0 n) = (g n : EReal)) (h5 : ∀ n, x5 (ix2 0 n) = (s n : EReal)) (r : Fin 512) (k : Fin 1024) :
    k0_pay1 (k0_pay6 x0 x1) (k0_pay7 x2) (k0_pay8 x2) x4 x5 x3 (ix2 r k) = (dxr D W X R g s r k : EReal) := by
  generalize ha : k0_pay6 x0 x1 = a
  generalize hb : k0_pay7 x2 = b
  generalize hc : k0_pay8 x2 = d
  pointwise [k0_pay1]
  simp only [← ha, ← hb, ← hc, pay6_real h0 h1, pay7_real h2, pay8_real h2, h3, h4, h5, c_1024, ← EReal.coe_one, ← EReal.coe_mul, ← EReal.coe_add,
    ← EReal.coe_sub, coe_sum, zero_add, div_real _ (show (1024 : ℝ) ≠ 0 by norm_num)]
  rfl

theorem pay2_real (v : Vec Ideal S1x1024 .f32) (h4 : ∀ n, x4 (ix2 0 n) = (g n : EReal)) (k : Fin 1024) :
    k0_pay2 v x4 (ix2 0 k) = v (ix2 0 k) * (g k : EReal) := by
  pointwise [k0_pay2]
  rw [h4]

theorem pay3_real (v : Vec Ideal S1x1024 .f32) (h5 : ∀ n, x5 (ix2 0 n) = (s n : EReal)) (k : Fin 1024) :
    k0_pay3 v x5 (ix2 0 k) = v (ix2 0 k) * ((1 + s k : ℝ) : EReal) := by
  pointwise [k0_pay3]
  rw [h5, EReal.coe_add, EReal.coe_one]

end Blocks

/-! ## The kernel's four results over finite arguments -/

section Whole

open Cert.Lift

/-- The arguments' arrays hold these real numbers. -/
structure Holds (D : Fin 8192 → Fin 8192 → ℝ) (W : Fin 1024 → Fin 8192 → ℝ) (X R : Fin 8192 → Fin 1024 → ℝ) (g s : Fin 1024 → ℝ) : Prop where
  h0 : ∀ i n, m ((c : Thread nD τ).loc main_arg0) (ix2 i n) = (D i n : EReal)
  h1 : ∀ k n, m ((c : Thread nD τ).loc main_arg1) (ix2 k n) = (W k n : EReal)
  h2 : ∀ i n, m ((c : Thread nD τ).loc main_arg2) (ix2 i n) = (X i n : EReal)
  h3 : ∀ i n, m ((c : Thread nD τ).loc main_arg3) (ix2 i n) = (R i n : EReal)
  h4 : ∀ n, m ((c : Thread nD τ).loc main_arg4) (ix2 0 n) = (g n : EReal)
  h5 : ∀ n, m ((c : Thread nD τ).loc main_arg5) (ix2 0 n) = (s n : EReal)

variable {m c}
variable {D : Fin 8192 → Fin 8192 → ℝ} {W : Fin 1024 → Fin 8192 → ℝ} {X R : Fin 8192 → Fin 1024 → ℝ} {g s : Fin 1024 → ℝ}

/-- The array's row that a block's row is. -/
def row (t : Fin cfg0.N) (r : Fin 512) : Fin 8192 := ⟨t.val * 512 + r.val, row_lt t r⟩

theorem kernel_dx (h : Holds m c D W X R g s) (i : Fin 8192) (k : Fin 1024) :
    G6 m c (ix2 i k) = (dxr D W X R g s i k : EReal) := by
  have hp : pt6Of (ix2 i k) = i.val / 512 := by
    show 1 * (i.val / 512 - 0) + 1 * (k.val / 1024 - 0) = i.val / 512
    omega
  have hN : pt6Of (ix2 i k) < cfg0.N := by rw [hp, N16]; omega
  unfold G6
  rw [dif_pos hN, ← outsAt0_sweep m c _ hN]
  obtain ⟨acc, e⟩ := outs_eq m c ⟨_, hN⟩
  have hl : loc6Of (ix2 i k) = ix2 ⟨i.val % 512, Nat.mod_lt _ (by decide)⟩ k := by
    funext a; apply Fin.ext
    match a with
    | ⟨0, _⟩ => rfl
    | ⟨1, _⟩ => exact Nat.mod_eq_of_lt k.isLt
  rw [hl]
  refine (congrFun (congrArg Prod.fst e) _).trans ?_
  rw [st_dx]
  have hr : row ⟨_, hN⟩ ⟨i.val % 512, Nat.mod_lt _ (by decide)⟩ = i := by
    apply Fin.ext
    show pt6Of (ix2 i k) * 512 + i.val % 512 = i.val
    rw [hp]; omega
  refine (pay1_real (D := fun r => D (row ⟨_, hN⟩ r)) (X := fun r => X (row ⟨_, hN⟩ r)) (R := fun r => R (row ⟨_, hN⟩ r))
    (fun r n => (ib0 m c _ r n).trans (h.h0 _ n)) (fun r n => (ib1 m c _ r n).trans (h.h1 _ n)) (fun r n => (ib2 m c _ r n).trans (h.h2 _ n))
    (fun r n => (ib3 m c _ r n).trans (h.h3 _ n)) (fun n => (ib4 m c _ n).trans (h.h4 n)) (fun n => (ib5 m c _ n).trans (h.h5 n)) _ k).trans ?_
  show ((dxr D W X R g s (row ⟨_, hN⟩ _) k : ℝ) : EReal) = _
  rw [hr]

/-- The last point. -/
def last : Fin cfg0.N := ⟨15, by rw [N16]; decide⟩

/-- Sums over the points' rows are the sums over the array's. -/
theorem sum_rows (f : Fin 8192 → ℝ) : ∑ t : Fin cfg0.N, ∑ r : Fin 512, f (row t r) = ∑ i, f i :=
  Fin.sum_mul_add_congr (fun _ _ _ => rfl) (by rw [N16])

theorem kernel_dsh (h : Holds m c D W X R g s) (k : Fin 1024) :
    G7 m c (ix2 0 k) = ((∑ i, dh D W i k : ℝ) : EReal) := by
  rw [G7_last, ← outsAt0_sweep m c 15 last.isLt]
  refine (Pipeline.eq_sum_fin_of_reset_step_apply_last (fun n h => (outsAt0 m c n h).2.1) 16 (fun _ => 0)
    (fun t j => ((∑ r, dh D W (row t r) (j 1) : ℝ) : EReal)) (fun t h0 j => ?_) (fun t h0 j => ?_) N16.le last N16.symm (ix2 0 k)).trans ?_
  · obtain ⟨acc, e⟩ := outs_eq m c t
    obtain ⟨k, rfl⟩ : ∃ k, j = ix2 0 k := ⟨j 1, by rw [eq_ix2 j]; congr 1; exact Subsingleton.elim (α := Fin 1) _ _⟩
    rw [e, st_dsh_first m c t acc h0]
    rw [pay9_real (D := fun r => D (row t r)) (fun r n => (ib0 m c _ r n).trans (h.h0 _ n)) (fun r n => (ib1 m c _ r n).trans (h.h1 _ n))]
    congr 1
    pointwise [k0_pay4]
  · obtain ⟨k, rfl⟩ : ∃ k, j = ix2 0 k := ⟨j 1, by rw [eq_ix2 j]; congr 1; exact Subsingleton.elim (α := Fin 1) _ _⟩
    rw [outs_next m c t h0, st_dsh_next m c t _ h0]
    rw [pay9_real (D := fun r => D (row t r)) (fun r n => (ib0 m c _ r n).trans (h.h0 _ n)) (fun r n => (ib1 m c _ r n).trans (h.h1 _ n))]
    rfl
  · rw [coe_sum, zero_add]
    exact congrArg _ (sum_rows fun i => dh D W i k)

theorem kernel_p (h : Holds m c D W X R g s) (k : Fin 1024) :
    (outsAt0 m c last.val last.isLt).2.2.2.2 (ix2 0 k) = ((∑ i, dh D W i k * (X i k * rr X i) : ℝ) : EReal) := by
  refine (Pipeline.eq_sum_fin_of_reset_step_apply_last (fun n h => (outsAt0 m c n h).2.2.2.2) 16 (fun _ => 0)
    (fun t j => ((∑ r, dh D W (row t r) (j 1) * (X (row t r) (j 1) * rr X (row t r)) : ℝ) : EReal)) (fun t h0 j => ?_) (fun t h0 j => ?_) N16.le last N16.symm (ix2 0 k)).trans ?_
  · obtain ⟨acc, e⟩ := outs_eq m c t
    obtain ⟨k, rfl⟩ : ∃ k, j = ix2 0 k := ⟨j 1, by rw [eq_ix2 j]; congr 1; exact Subsingleton.elim (α := Fin 1) _ _⟩
    rw [e, st_p_first m c t acc h0]
    rw [pay10_real (D := fun r => D (row t r)) (X := fun r => X (row t r)) (fun r n => (ib0 m c _ r n).trans (h.h0 _ n)) (fun r n => (ib1 m c _ r n).trans (h.h1 _ n)) (fun r n => (ib2 m c _ r n).trans (h.h2 _ n))]
    congr 1
    pointwise [k0_pay5]
  · obtain ⟨k, rfl⟩ : ∃ k, j = ix2 0 k := ⟨j 1, by rw [eq_ix2 j]; congr 1; exact Subsingleton.elim (α := Fin 1) _ _⟩
    rw [outs_next m c t h0, st_p_next m c t _ h0]
    rw [pay10_real (D := fun r => D (row t r)) (X := fun r => X (row t r)) (fun r n => (ib0 m c _ r n).trans (h.h0 _ n)) (fun r n => (ib1 m c _ r n).trans (h.h1 _ n)) (fun r n => (ib2 m c _ r n).trans (h.h2 _ n))]
    rfl
  · rw [coe_sum, zero_add]
    exact congrArg _ (sum_rows fun i => dh D W i k * (X i k * rr X i))

theorem kernel_dsc (h : Holds m c D W X R g s) (k : Fin 1024) :
    G8 m c (ix2 0 k) = (((∑ i, dh D W i k * (X i k * rr X i)) * g k : ℝ) : EReal) := by
  rw [G8_last, ← outsAt0_sweep m c 15 last.isLt]
  have hp := kernel_p h k
  obtain ⟨acc, e⟩ := outs_eq m c last
  have e' := (st_last m c last acc rfl).1
  rw [← e] at e'
  refine (congrFun e' (ix2 0 k)).trans ?_
  rw [pay2_real _ (fun n => (ib4 m c last n).trans (h.h4 n)), hp, EReal.coe_mul]

theorem kernel_dg (h : Holds m c D W X R g s) (k : Fin 1024) :
    G9 m c (ix2 0 k) = (((∑ i, dh D W i k * (X i k * rr X i)) * (1 + s k) : ℝ) : EReal) := by
  rw [G9_last, ← outsAt0_sweep m c 15 last.isLt]
  have hp := kernel_p h k
  obtain ⟨acc, e⟩ := outs_eq m c last
  have e' := (st_last m c last acc rfl).2
  rw [← e] at e'
  refine (congrFun e' (ix2 0 k)).trans ?_
  rw [pay3_real _ (fun n => (ib5 m c last n).trans (h.h5 n)), hp, EReal.coe_mul]

end Whole
end Cert.Kernel2Ideal.Hand
end
-- ==== Proof.NormBwdRef.lean ====
module

public import proofs.«01_k».proof.Defs
public import proofs.«01_k».proof.Proof.NormBwd
public import proofs.«01_k».proof.Proof.Gen.Reference2Ideal.Run
public import proofs.«01_k».proof.Proof.Gen.Pre_finite2
public import Idealize.ShloMosaic.Lib.Tactic.CleanTypes

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Idealize.SL.Sem
open Cert.Lift
open Cert.Kernel2Ideal.Hand (dh msq rr msq_pos dxn dxr)

variable {D : Fin 8192 → Fin 8192 → ℝ} {W : Fin 1024 → Fin 8192 → ℝ} {X R : Fin 8192 → Fin 1024 → ℝ} {g s : Fin 1024 → ℝ}

variable (m : (ℓ : Loc nD τ sig) → Buf (Elt Ideal) ℓ) (c : Dev nD)

/-- The arguments' arrays hold these real numbers. -/
structure Holds (D : Fin 8192 → Fin 8192 → ℝ) (W : Fin 1024 → Fin 8192 → ℝ) (X R : Fin 8192 → Fin 1024 → ℝ) (g s : Fin 1024 → ℝ) : Prop where
  h0 : ∀ i n, m ((c.tc : Thread nD τ).loc main_arg0) (ix2 i n) = (D i n : EReal)
  h1 : ∀ k n, m ((c.tc : Thread nD τ).loc main_arg1) (ix2 k n) = (W k n : EReal)
  h2 : ∀ i n, m ((c.tc : Thread nD τ).loc main_arg2) (ix2 i n) = (X i n : EReal)
  h3 : ∀ i n, m ((c.tc : Thread nD τ).loc main_arg3) (ix2 i n) = (R i n : EReal)
  h4 : ∀ n, m ((c.tc : Thread nD τ).loc main_arg4) (ix2 0 n) = (g n : EReal)
  h5 : ∀ n, m ((c.tc : Thread nD τ).loc main_arg5) (ix2 0 n) = (s n : EReal)

variable {m c}

/-- The transposed derivative of the normalisation, as the reference computes it, is the kernel's. -/
theorem dx_eq (i : Fin 8192) (k : Fin 1024) :
    R i k + dh D W i k * (1 + s k) * g k * rr X i
      + X i k * ((∑ l, X i l * (dh D W i l * (1 + s l) * g l)) * (-(1 / 2) * (rr X i / msq X i)) / 1024)
      + (∑ l, X i l * (dh D W i l * (1 + s l) * g l)) * (-(1 / 2) * (rr X i / msq X i)) / 1024 * X i k
    = dxr D W X R g s i k := by
  have hp := msq_pos X i
  have hr : rr X i / msq X i = rr X i * rr X i * rr X i := by
    unfold rr
    have h1 : Real.sqrt (msq X i) ≠ 0 := (Real.sqrt_pos.mpr hp).ne'
    have h2 : msq X i = Real.sqrt (msq X i) * Real.sqrt (msq X i) := (Real.mul_self_sqrt hp.le).symm
    generalize Real.sqrt (msq X i) = q at *
    rw [h2]; field_simp
  rw [hr]
  have hs : ∑ l, dxn D W g s i l * (X i l * rr X i) = (∑ l, X i l * (dh D W i l * (1 + s l) * g l)) * rr X i := by
    rw [Finset.sum_mul]
    refine Finset.sum_congr rfl fun l _ => ?_
    unfold dxn; ring
  unfold dxr
  rw [hs]; unfold dxn
  generalize ∑ l, X i l * (dh D W i l * (1 + s l) * g l) = z
  ring

theorem rsqrt_msq (i : Fin 8192) : Ideal.rsqrt (((∑ k, X i k * X i k) / 1024 + eps : ℝ) : EReal) = (rr X i : EReal) :=
  rsqrt_real (msq_pos X i)
theorem div_msq (a : ℝ) (i : Fin 8192) : Ideal.div (a : EReal) (((∑ k, X i k * X i k) / 1024 + eps : ℝ) : EReal) = ((a / msq X i : ℝ) : EReal) :=
  div_real a (msq_pos X i).ne'

theorem ref_dx (h : Holds m c D W X R g s) (i : Fin 8192) (k : Fin 1024) :
    res_out0 m c (ix2 i k) = (dxr D W X R g s i k : EReal) := by
  rw [← dx_eq]
  unfold res_out0 res_main_v51
  clean_types
  pointwise
  simp only [h.h0, h.h1, h.h2, h.h3, h.h4, h.h5, c_1024, c_eps, c_neg_half, ← EReal.coe_one, ← EReal.coe_zero, ← EReal.coe_mul, ← EReal.coe_add,
    ← EReal.coe_sub, coe_sum, zero_add, div_real _ (show (1024 : ℝ) ≠ 0 by norm_num), rsqrt_msq, div_msq, Finset.univ_unique, Finset.sum_singleton]
  rfl

/-- What the reference leaves over finite arguments. -/
def Out (D : Fin 8192 → Fin 8192 → ℝ) (W : Fin 1024 → Fin 8192 → ℝ) (X R : Fin 8192 → Fin 1024 → ℝ) (g s : Fin 1024 → ℝ)
    (v0 : Vec Ideal S8192x1024 .f32) (v1 v2 v3 : Vec Ideal S1x1024 .f32) : Prop :=
  (∀ i k, v0 (ix2 i k) = (dxr D W X R g s i k : EReal))
  ∧ (∀ k, v1 (ix2 0 k) = ((∑ i, dh D W i k : ℝ) : EReal))
  ∧ (∀ k, v2 (ix2 0 k) = (((∑ i, dh D W i k * (X i k * rr X i)) * g k : ℝ) : EReal))
  ∧ (∀ k, v3 (ix2 0 k) = (((∑ i, dh D W i k * (X i k * rr X i)) * (1 + s k) : ℝ) : EReal))

section Results

variable {F : FTy → Type} [FloatOps F]

/-- The reference's shift row, as a term of the arguments. -/
def res_shift (m : (ℓ : Loc nD τ sig) → Buf (Elt F) ℓ) (c : Dev nD) : Buf (Elt F) ((c.tc : Thread nD τ).loc main_v26) :=
  shapeCast _ (Host.reduceAdd (Host.dotGeneral dot_S8192x8192_S1024x8192_S8192x1024_1_1_0_0_n_n none (extf .f32 (m ((c.tc : Thread nD τ).loc main_arg0)) bitsLt_bf16_f32) (m ((c.tc : Thread nD τ).loc main_arg1))) (constant S_ .f32 0x00000000#32) reducesTo_S8192x1024_S1024_d0 h_S_) shapeCasts_S1024_S1x1024

/-- The reference's scale row, as a term of the arguments. -/
def res_scale (m : (ℓ : Loc nD τ sig) → Buf (Elt F) ℓ) (c : Dev nD) : Buf (Elt F) ((c.tc : Thread nD τ).loc main_v29) :=
  shapeCast _ (Host.reduceAdd (mulf (mulf (mulf (m ((c.tc : Thread nD τ).loc main_arg2)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg2)) (m ((c.tc : Thread nD τ).loc main_arg2))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (m ((c.tc : Thread nD τ).loc main_arg4)))) (Host.dotGeneral dot_S8192x8192_S1024x8192_S8192x1024_1_1_0_0_n_n none (extf .f32 (m ((c.tc : Thread nD τ).loc main_arg0)) bitsLt_bf16_f32) (m ((c.tc : Thread nD τ).loc main_arg1)))) (constant S_ .f32 0x00000000#32) reducesTo_S8192x1024_S1024_d0 h_S_) shapeCasts_S1024_S1x1024

/-- The reference's gain row, as a term of the arguments. -/
def res_gain (m : (ℓ : Loc nD τ sig) → Buf (Elt F) ℓ) (c : Dev nD) : Buf (Elt F) ((c.tc : Thread nD τ).loc main_v34) :=
  shapeCast _ (Host.reduceAdd (mulf (mulf (m ((c.tc : Thread nD τ).loc main_arg2)) (broadcastInDim S8192x1024 ![0, 1] bcast_S8192x1_S8192x1024_0_1 (Host.rsqrt (addf (Host.divf (broadcastInDim S8192x1 ![0] bcast_S8192_S8192x1_0 (Host.reduceAdd (mulf (m ((c.tc : Thread nD τ).loc main_arg2)) (m ((c.tc : Thread nD τ).loc main_arg2))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (mulf (Host.dotGeneral dot_S8192x8192_S1024x8192_S8192x1024_1_1_0_0_n_n none (extf .f32 (m ((c.tc : Thread nD τ).loc main_arg0)) bitsLt_bf16_f32) (m ((c.tc : Thread nD τ).loc main_arg1))) (broadcastInDim S8192x1024 ![0, 1] bcast_S1x1024_S8192x1024_0_1 (addf (broadcastInDim S1x1024 ![] bcast_S_S1x1024 (constant S_ .f32 0x3F800000#32)) (m ((c.tc : Thread nD τ).loc main_arg5)))))) (constant S_ .f32 0x00000000#32) reducesTo_S8192x1024_S1024_d0 h_S_) shapeCasts_S1024_S1x1024

end Results

theorem out_of (h : Holds m c D W X R g s) {v0 : Vec Ideal S8192x1024 .f32} {v1 v2 v3 : Vec Ideal S1x1024 .f32}
    (e0 : v0 = res_out0 m c) (e1 : v1 = res_shift m c) (e2 : v2 = res_scale m c) (e3 : v3 = res_gain m c) :
    Out D W X R g s v0 v1 v2 v3 := by
  refine ⟨fun i k => ?_, fun k => ?_, fun k => ?_, fun k => ?_⟩
  · exact (congrFun e0 (ix2 i k)).trans (ref_dx h i k)
  · refine (congrFun e1 (ix2 0 k)).trans ?_
    unfold res_shift
    clean_types
    pointwise
    simp only [h.h0, h.h1, h.h2, h.h3, h.h4, h.h5, ← EReal.coe_mul, coe_sum, zero_add]
    rfl
  · refine (congrFun e2 (ix2 0 k)).trans ?_
    unfold res_scale
    clean_types
    pointwise
    simp only [h.h0, h.h1, h.h2, h.h3, h.h4, h.h5, c_1024, c_eps, ← EReal.coe_one, ← EReal.coe_mul, ← EReal.coe_add, coe_sum, zero_add,
      div_real _ (show (1024 : ℝ) ≠ 0 by norm_num), rsqrt_msq, EReal.coe_eq_coe_iff]
    rw [Finset.sum_mul]
    refine Finset.sum_congr rfl fun i _ => ?_
    show _ * dh D W i k = _
    ring
  · refine (congrFun e3 (ix2 0 k)).trans ?_
    unfold res_gain
    clean_types
    pointwise
    simp only [h.h0, h.h1, h.h2, h.h3, h.h4, h.h5, c_1024, c_eps, ← EReal.coe_one, ← EReal.coe_mul, ← EReal.coe_add, coe_sum, zero_add,
      div_real _ (show (1024 : ℝ) ≠ 0 by norm_num), rsqrt_msq, EReal.coe_eq_coe_iff]
    rw [Finset.sum_mul]
    refine Finset.sum_congr rfl fun i _ => ?_
    show _ * (dh D W i k * _) = _
    ring

end Cert.Reference2Ideal.Hand

namespace Cert.Hand2

open Idealize.ShloMosaic Idealize.ShloMosaic.TcCoe Idealize.SL.Sem Cert.Lift

/-- Finite arguments are arrays of reals. -/
theorem holds_of_pre (m : (ℓ : Loc Cert.Kernel2Ideal.nD Cert.Kernel2Ideal.τ Cert.Kernel2Ideal.sig) → Buf (Elt Ideal) ℓ) (hp : Cert.Pre_Kernel2Ideal_finite2 m) :
    ∃ D W X R g s, ∀ c, Cert.Kernel2Ideal.Hand.Holds m c D W X R g s := by
  have key := hp 0
  refine ⟨fun i n => EReal.toReal (m (((0 : Dev Cert.Kernel2Ideal.nD).tc : Thread Cert.Kernel2Ideal.nD Cert.Kernel2Ideal.τ).loc Cert.Kernel2Ideal.main_arg0) (ix2 i n)),
    fun i n => EReal.toReal (m (((0 : Dev Cert.Kernel2Ideal.nD).tc : Thread Cert.Kernel2Ideal.nD Cert.Kernel2Ideal.τ).loc Cert.Kernel2Ideal.main_arg1) (ix2 i n)),
    fun i n => EReal.toReal (m (((0 : Dev Cert.Kernel2Ideal.nD).tc : Thread Cert.Kernel2Ideal.nD Cert.Kernel2Ideal.τ).loc Cert.Kernel2Ideal.main_arg2) (ix2 i n)),
    fun i n => EReal.toReal (m (((0 : Dev Cert.Kernel2Ideal.nD).tc : Thread Cert.Kernel2Ideal.nD Cert.Kernel2Ideal.τ).loc Cert.Kernel2Ideal.main_arg3) (ix2 i n)),
    fun n => EReal.toReal (m (((0 : Dev Cert.Kernel2Ideal.nD).tc : Thread Cert.Kernel2Ideal.nD Cert.Kernel2Ideal.τ).loc Cert.Kernel2Ideal.main_arg4) (ix2 0 n)),
    fun n => EReal.toReal (m (((0 : Dev Cert.Kernel2Ideal.nD).tc : Thread Cert.Kernel2Ideal.nD Cert.Kernel2Ideal.τ).loc Cert.Kernel2Ideal.main_arg5) (ix2 0 n)), fun c => ?_⟩
  obtain rfl : c = 0 := Subsingleton.elim (α := Fin 1) _ _
  obtain ⟨e0, e1, e2, e3, e4, e5⟩ := key
  refine ⟨fun i n => ?_, fun i n => ?_, fun i n => ?_, fun i n => ?_, fun n => ?_, fun n => ?_⟩
  · have e := congrFun e0 (ix2 i n)
    pointwise [Cert.Pre_finite2.fn, Cert.Pre_finite2.fn_part1] at e
    exact real_of_bit e
  · have e := congrFun e1 (ix2 i n)
    pointwise [Cert.Pre_finite2.fn, Cert.Pre_finite2.fn_part1] at e
    exact real_of_bit e
  · have e := congrFun e2 (ix2 i n)
    pointwise [Cert.Pre_finite2.fn, Cert.Pre_finite2.fn_part1] at e
    exact real_of_bit e
  · have e := congrFun e3 (ix2 i n)
    pointwise [Cert.Pre_finite2.fn, Cert.Pre_finite2.fn_part1] at e
    exact real_of_bit e
  · have e := congrFun e4 (ix2 0 n)
    pointwise [Cert.Pre_finite2.fn, Cert.Pre_finite2.fn_part1] at e
    exact real_of_bit e
  · have e := congrFun e5 (ix2 0 n)
    pointwise [Cert.Pre_finite2.fn, Cert.Pre_finite2.fn_part1] at e
    exact real_of_bit e

/-- An array over rows of one block and lanes is its values at the indices. -/
theorem ext_row {v w : Vec Ideal Cert.Kernel2Ideal.S1x1024 .f32} (h : ∀ k, v (ix2 0 k) = w (ix2 0 k)) : v = w := by
  funext j
  obtain ⟨k, rfl⟩ : ∃ k, j = ix2 0 k := ⟨j 1, by rw [eq_ix2 j]; congr 1; exact Subsingleton.elim (α := Fin 1) _ _⟩
  exact h k
theorem ext_mat {v w : Vec Ideal Cert.Kernel2Ideal.S8192x1024 .f32} (h : ∀ i k, v (ix2 i k) = w (ix2 i k)) : v = w := by
  funext j; rw [eq_ix2 j]; exact h _ _

theorem algebraic : Cert.algebraic_Kernel2Ideal_Reference2Ideal_pre_finite2 := by
  intro m ρ m' ρ' hp hagree
  obtain ⟨D, W, X, R, g, s, hk⟩ := holds_of_pre m hp
  have hr : ∀ c, Cert.Reference2Ideal.Hand.Holds m' c D W X R g s := fun c => by
    obtain ⟨a0, a1, a2, a3, a4, a5⟩ := hagree c
    have h := hk c
    exact ⟨fun i n => (congrFun a0 _).trans (h.h0 i n), fun i n => (congrFun a1 _).trans (h.h1 i n), fun i n => (congrFun a2 _).trans (h.h2 i n),
      fun i n => (congrFun a3 _).trans (h.h3 i n), fun n => (congrFun a4 _).trans (h.h4 n), fun n => (congrFun a5 _).trans (h.h5 n)⟩
  refine ⟨fun c => Cert.Kernel2Ideal.Value.G6 m c, fun c => Cert.Kernel2Ideal.Value.G7 m c, fun c => Cert.Kernel2Ideal.Value.G8 m c,
    fun c => Cert.Kernel2Ideal.Value.G9 m c, Cert.Kernel2Ideal.Value.run m ρ, ?_⟩
  refine (θ_run _ _ _).mono (fun r h c => ?_) (Cert.Reference2Ideal.Value.run m' ρ')
  have ho := Cert.Reference2Ideal.Hand.out_of (hr c) (h c).1 (h c).2.1 (h c).2.2.1 (h c).2.2.2.1
  obtain ⟨o0, o1, o2, o3⟩ := ho
  exact ⟨ext_mat fun i k => (o0 i k).trans (Cert.Kernel2Ideal.Hand.kernel_dx (hk c) i k).symm,
    ext_row fun k => (o1 k).trans (Cert.Kernel2Ideal.Hand.kernel_dsh (hk c) k).symm,
    ext_row fun k => (o2 k).trans (Cert.Kernel2Ideal.Hand.kernel_dsc (hk c) k).symm,
    ext_row fun k => (o3 k).trans (Cert.Kernel2Ideal.Hand.kernel_dg (hk c) k).symm, (h c).2.2.2.2⟩

end Cert.Hand2

end
-- ==== Proof.TnGrad.lean ====
/- The gradient of a sub-layer's first weight: each block of columns is the two row blocks' products added, which is the
   product over all the rows. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.IdealHost
public import Idealize.ShloMosaic.Lib.Tactic.CleanTypes
public import proofs.«01_k».proof.Proof.Lift

@[expose] public section

set_option maxRecDepth 16384

noncomputable section

namespace Cert.Kernel3Ideal.Hand

open Cert.Kernel3Ideal Cert.Kernel3Ideal.Gen Cert.Kernel3Ideal.Value
open Idealize.ShloMosaic Idealize.ShloMosaic.TcCoe Idealize.SL.Sem

variable (m : (ℓ : Loc nD τ sig) → Buf (Elt Ideal) ℓ) (c : Dev nD)

/-- What a point leaves in the output and the carried sum. -/
abbrev St := Vec Ideal S1x1024x768 .bf16 × Vec Ideal S1024x768 .f32

/-- The first of a block's two points carries its product. -/
theorem st_first (t : Fin cfg0.N) (acc : St) (h0 : t.val % 2 = 0) :
    (stAt0 m c t.val t.isLt acc).2 = k0_pay2 (iblk m c 0 t) (iblk m c 1 t) := by
  rw [stAt0_A m c t acc h0 (by omega)]; dsimp only; frame_out

/-- The second writes the sum. -/
theorem st_second (t : Fin cfg0.N) (acc : St) (h1 : t.val % 2 = 1) :
    (stAt0 m c t.val t.isLt acc).1 = k0_pay4 (iblk m c 0 t) (iblk m c 1 t) acc.2 (iblk m c 2 t) := by
  rw [stAt0_B m c t acc (by omega) h1]; dsimp only; frame_out
  simp only [read_unread_whole]

theorem N16 : cfg0.N = 16 := N_0

theorem outs_eq (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- The index maps, at a point: the row blocks alternate, the column blocks advance at every second point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

theorem row_lt (t : Fin cfg0.N) (r : Fin 4096) : t.val % 2 * 4096 + r.val < 8192 := by omega
theorem col_lt (t : Fin cfg0.N) (b : Fin 768) : t.val / 2 * 768 + b.val < 6144 := by
  have := t.isLt; have := N16; omega

theorem ib0 (t : Fin cfg0.N) (r : Fin 4096) (k : Fin 1024) :
    iblk m c 0 t (ix2 r k) = m ((c : Thread nD τ).loc main_arg0) (ix2 ⟨t.val % 2 * 4096 + r.val, row_lt t r⟩ k) := by
  blk_ext [iblk, V, idx t]
theorem ib1 (t : Fin cfg0.N) (r : Fin 4096) (b : Fin 768) :
    iblk m c 1 t (ix2 r b) = m ((c : Thread nD τ).loc main_arg1) (ix2 ⟨t.val % 2 * 4096 + r.val, row_lt t r⟩ ⟨t.val / 2 * 768 + b.val, col_lt t b⟩) := by
  blk_ext [iblk, V, idx t]
theorem host_one (b : Fin 6144) : V m c main_v0 (ix2 0 b) = (1 : EReal) := by
  unfold V
  after_reads_at
theorem ib2 (t : Fin cfg0.N) (b : Fin 768) : iblk m c 2 t (ix2 0 b) = (1 : EReal) := by
  refine Eq.trans ?_ (host_one m c ⟨t.val / 2 * 768 + b.val, col_lt t b⟩)
  blk_ext [iblk, idx t]

section Blocks

variable (x0 : Vec Ideal S4096x1024 .bf16) (x1 : Vec Ideal S4096x768 .bf16)

theorem pay1_at (a : Fin 1024) (b : Fin 768) :
    k0_pay1 x0 x1 (ix2 a b) = (∑ r : Fin 4096, x0 (ix2 r a) * x1 (ix2 r b) : EReal) := by
  pointwise [k0_pay1]

theorem pay2_at (a : Fin 1024) (b : Fin 768) :
    k0_pay2 x0 x1 (ix2 a b) = (∑ r : Fin 4096, x0 (ix2 r a) * x1 (ix2 r b) : EReal) := by
  unfold k0_pay2
  generalize h : k0_pay1 x0 x1 = y
  pointwise
  rw [← h, pay1_at]

theorem pay4_at (v : Vec Ideal S1024x768 .f32) (s : Vec Ideal S1x768 .f32) (a : Fin 1024) (b : Fin 768) :
    k0_pay4 x0 x1 v s (ix3 0 a b) = (v (ix2 a b) + ∑ r : Fin 4096, x0 (ix2 r a) * x1 (ix2 r b) : EReal) * s (ix2 0 b) := by
  unfold k0_pay4
  generalize h : k0_pay1 x0 x1 = y
  pointwise
  rw [← h, pay1_at]

end Blocks

/-- A sum over all the rows is the two halves' sums. -/
theorem sum_rows (f : Fin 8192 → EReal) :
    ∑ r : Fin 4096, f ⟨r.val, by omega⟩ + ∑ r : Fin 4096, f ⟨4096 + r.val, by omega⟩ = ∑ i, f i :=
  (Fin.sum_univ_add (a := 4096) (b := 4096) f).symm

/-- The column of the whole product that block `d`'s column `b` is. -/
def col (d : Fin 8) (b : Fin 768) : Fin 6144 := ⟨d.val * 768 + b.val, by omega⟩

/-- An entry of the whole product. -/
def whole (x : Vec Ideal S8192x1024 .bf16) (y : Vec Ideal S8192x6144 .bf16) (d : Fin 8) (a : Fin 1024) (b : Fin 768) : EReal :=
  ∑ i : Fin 8192, (x (ix2 i a) * y (ix2 i (col d b)) : EReal)

theorem kernel_out (d : Fin 8) (a : Fin 1024) (b : Fin 768) :
    G3 m c (ix3 d a b) = whole (m ((c : Thread nD τ).loc main_arg0)) (m ((c : Thread nD τ).loc main_arg1)) d a b := by
  have hp : pt3Of (ix3 d a b) = 2 * d.val + 1 := by
    show 2 * (1 * (d.val / 1 - 0) + 1 * (a.val / 1024 - 0) + 1 * (b.val / 768 - 0)) + 1 = _
    omega
  have hl : loc3Of (ix3 d a b) = ix3 0 a b := by
    funext x; apply Fin.ext
    match x with
    | ⟨0, _⟩ => exact Nat.mod_one _
    | ⟨1, _⟩ => exact Nat.mod_eq_of_lt a.isLt
    | ⟨2, _⟩ => exact Nat.mod_eq_of_lt b.isLt
  have hN : 2 * d.val + 1 < cfg0.N := by rw [N16]; omega
  have hM : 2 * d.val < cfg0.N := Nat.lt_of_succ_lt hN
  have hN' : pt3Of (ix3 d a b) < cfg0.N := by rw [hp]; exact hN
  unfold G3
  rw [dif_pos hN', fold0_congr m c _ _ _ (by rw [Nat.zero_add]; exact hN) hp, ← outsAt0_sweep m c _ hN, hl, outsAt0_succ m c _ hN,
    st_second m c ⟨2 * d.val + 1, hN⟩ _ (by show (2 * d.val + 1) % 2 = 1; omega), pay4_at, ib2, mul_one]
  obtain ⟨acc, e⟩ := outs_eq m c ⟨2 * d.val, hM⟩
  rw [show outsAt0 m c (2 * d.val) _ = _ from e, st_first m c ⟨2 * d.val, hM⟩ _ (by show 2 * d.val % 2 = 0; omega), pay2_at]
  simp only [ib0, ib1]
  unfold whole
  generalize m ((c : Thread nD τ).loc main_arg0) = x
  generalize m ((c : Thread nD τ).loc main_arg1) = y
  refine Eq.trans ?_ (sum_rows fun i => (show EReal from x (ix2 i a)) * (show EReal from y (ix2 i (col d b))))
  refine congrArg₂ _ (Finset.sum_congr rfl fun r _ => ?_) (Finset.sum_congr rfl fun r _ => ?_)
  · have e1 : (⟨2 * d.val % 2 * 4096 + r.val, by omega⟩ : Fin 8192) = ⟨r.val, by omega⟩ := Fin.ext (by show 2 * d.val % 2 * 4096 + r.val = r.val; omega)
    have e2 : (⟨2 * d.val / 2 * 768 + b.val, by omega⟩ : Fin 6144) = col d b := Fin.ext (by show 2 * d.val / 2 * 768 + b.val = d.val * 768 + b.val; omega)
    rw [e1, e2]
  · have e1 : (⟨(2 * d.val + 1) % 2 * 4096 + r.val, by omega⟩ : Fin 8192) = ⟨4096 + r.val, by omega⟩ := Fin.ext (by show (2 * d.val + 1) % 2 * 4096 + r.val = 4096 + r.val; omega)
    have e2 : (⟨(2 * d.val + 1) / 2 * 768 + b.val, by omega⟩ : Fin 6144) = col d b := Fin.ext (by show (2 * d.val + 1) / 2 * 768 + b.val = d.val * 768 + b.val; omega)
    rw [e1, e2]

end Cert.Kernel3Ideal.Hand

namespace Cert.Hand3

open Idealize.ShloMosaic Idealize.ShloMosaic.TcCoe Idealize.SL.Sem
open Cert.Reference3Ideal Cert.Reference3Ideal.Gen
open Cert.Kernel3Ideal.Hand (col whole)

/-- The reference's result, as a term of its arguments. -/
def ref {F : FTy → Type} [FloatOps F] (x : FVec F S8192x1024 .bf16) (y : FVec F S8192x6144 .bf16) : FVec F S8x1024x768 .bf16 :=
  truncf .bf16 (transpose S8x1024x768 [1, 0, 2] (shapeCast _ (transpose S1024x6144 [1, 0] (Host.dotGeneral dot_S8192x6144_S8192x1024_S6144x1024_0_0_1_1_n_n none (extf .f32 y bitsLt_bf16_f32) (extf .f32 x bitsLt_bf16_f32)) transposes_S6144x1024_S1024x6144_1_0) shapeCasts_S1024x6144_S1024x8x768) transposes_S1024x8x768_S8x1024x768_1_0_2) bitsLt_bf16_f32

theorem ref_at (x : Vec Ideal S8192x1024 .bf16) (y : Vec Ideal S8192x6144 .bf16) (d : Fin 8) (a : Fin 1024) (b : Fin 768) :
    ref (F := Ideal) x y (ix3 d a b) = whole x y d a b := by
  pointwise [ref]
  exact Finset.sum_congr rfl fun i _ => mul_comm _ _

theorem ext_blocks {v w : Vec Ideal S8x1024x768 .bf16} (h : ∀ d a b, v (ix3 d a b) = w (ix3 d a b)) : v = w := by
  funext j; rw [eq_ix3 j]; exact h _ _ _

theorem algebraic : Cert.algebraic_Kernel3Ideal_Reference3Ideal := by
  intro m ρ m' ρ' _ hagree
  refine ⟨fun c => Cert.Kernel3Ideal.Value.G3 m c, Cert.Kernel3Ideal.Value.run m ρ, ?_⟩
  refine (θ_run _ _ _).mono (fun r h c => ⟨?_, (h c).2⟩) (Cert.Reference3Ideal.Value.run m' ρ')
  refine (h c).1.trans ?_
  obtain ⟨a0, a1⟩ := hagree c
  refine ext_blocks fun d a b => (ref_at _ _ d a b).trans (Eq.trans ?_ (Cert.Kernel3Ideal.Hand.kernel_out m c d a b).symm)
  rw [a0, a1]

end Cert.Hand3

end
-- ==== Proof.OutGrad.lean ====
/- The gradient of a sub-layer's second weight: the eight row blocks' products added and then gated, which is the product with
   the gated gradient over all the rows. -/
module

public import proofs.«01_k».proof.Defs
public import proofs.«01_k».proof.Proof.Gen.Kernel4Ideal.Value
public import proofs.«01_k».proof.Proof.Gen.Reference4Ideal.Run
public import proofs.«01_k».proof.Proof.Gen.Pre_finite4
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes
public import proofs.«01_k».proof.Proof.Lift

@[expose] public section

set_option maxRecDepth 16384

noncomputable section

namespace Cert.Kernel4Ideal.Hand

open Cert.Kernel4Ideal Cert.Kernel4Ideal.Gen Cert.Kernel4Ideal.Value
open Idealize.ShloMosaic Idealize.ShloMosaic.TcCoe Idealize.SL.Sem
open Cert.Lift

variable (m : (ℓ : Loc nD τ sig) → Buf (Elt Ideal) ℓ) (c : Dev nD)

/-- What a point leaves in the output and the carried sum. -/
abbrev St := Vec Ideal S1x2048x1024 .bf16 × Vec Ideal S2048x1024 .f32

theorem N8 : cfg0.N = 8 := N_0

/-- The first point carries its product. -/
theorem st_first (t : Fin cfg0.N) (acc : St) (h : t.val = 0) :
    (stAt0 m c t.val t.isLt acc).2 = k0_pay2 (iblk m c 0 t) (iblk m c 1 t) := by
  rw [stAt0_A m c t acc (by omega) (by omega) (by omega)]; dsimp only; frame_out

/-- A later point adds its own. -/
theorem st_next (t : Fin cfg0.N) (acc : St) (h : 0 < t.val) (h' : t.val < 7) :
    (stAt0 m c t.val t.isLt acc).2 = k0_pay3 (iblk m c 0 t) (iblk m c 1 t) acc.2 := by
  rw [stAt0_B m c t acc (by omega) (by omega) (by omega)]; dsimp only; frame_out
  simp only [read_unread_whole]

/-- The last writes the gated sum. -/
theorem st_last (t : Fin cfg0.N) (acc : St) (h : t.val = 7) :
    (stAt0 m c t.val t.isLt acc).1 = k0_pay4 (iblk m c 0 t) (iblk m c 1 t) acc.2 (iblk m c 2 t) := by
  rw [stAt0_C m c t acc (by omega) (by omega) (by omega)]; dsimp only; frame_out
  simp only [read_unread_whole]

/-- The index maps, at a point: the row blocks advance. -/
theorem idx : ∀ t : Fin cfg0.N, win0_0.index t = ![t.val, 0] ∧ win0_1.index t = ![t.val, 0] ∧ win0_2.index t = ![0, 0] :=
  (by decide +kernel : ∀ t : Fin grid0.N, _)

/-- The array's row that a block's row is. -/
def row (t : Fin cfg0.N) (r : Fin 1024) : Fin 8192 := ⟨t.val * 1024 + r.val, by have := t.isLt; have := N8; omega⟩

theorem ib0 (t : Fin cfg0.N) (r : Fin 1024) (a : Fin 2048) :
    iblk m c 0 t (ix2 r a) = m ((c : Thread nD τ).loc main_arg0) (ix2 (row t r) a) := by
  unfold row; blk_ext [iblk, V, idx t]
theorem ib1 (t : Fin cfg0.N) (r : Fin 1024) (b : Fin 1024) :
    iblk m c 1 t (ix2 r b) = m ((c : Thread nD τ).loc main_arg1) (ix2 (row t r) b) := by
  unfold row; blk_ext [iblk, V, idx t]
theorem ib2 (t : Fin cfg0.N) (b : Fin 1024) :
    iblk m c 2 t (ix2 0 b) = m ((c : Thread nD τ).loc main_arg2) (ix2 0 b) := by
  blk_ext! [iblk, V, idx t]

section Blocks

variable (x0 : Vec Ideal S1024x2048 .bf16) (x1 : Vec Ideal S1024x1024 .f32)

/-- An entry of a block's product. -/
def prod (x0 : Vec Ideal S1024x2048 .bf16) (x1 : Vec Ideal S1024x1024 .f32) (a : Fin 2048) (b : Fin 1024) : EReal :=
  ∑ r : Fin 1024, (x0 (ix2 r a) * x1 (ix2 r b) : EReal)

theorem pay1_at (a : Fin 2048) (b : Fin 1024) :
    k0_pay1 x0 x1 (ix2 a b) = prod x0 x1 a b := by
  pointwise [k0_pay1]
  rfl

theorem pay2_at (a : Fin 2048) (b : Fin 1024) :
    k0_pay2 x0 x1 (ix2 a b) = prod x0 x1 a b := by
  unfold k0_pay2
  generalize h : k0_pay1 x0 x1 = y
  pointwise
  rw [← h, pay1_at]

theorem pay3_at (v : Vec Ideal S2048x1024 .f32) (a : Fin 2048) (b : Fin 1024) :
    k0_pay3 x0 x1 v (ix2 a b) = (v (ix2 a b) + prod x0 x1 a b : EReal) := by
  unfold k0_pay3
  generalize h : k0_pay1 x0 x1 = y
  pointwise
  rw [← h, pay1_at]

theorem pay4_at (v : Vec Ideal S2048x1024 .f32) (s : Vec Ideal S1x1024 .f32) (a : Fin 2048) (b : Fin 1024) :
    k0_pay4 x0 x1 v s (ix3 0 a b) = (v (ix2 a b) + prod x0 x1 a b : EReal) * s (ix2 0 b) := by
  unfold k0_pay4
  generalize h : k0_pay1 x0 x1 = y
  pointwise
  rw [← h, pay1_at]

end Blocks

/-- The arguments' arrays hold these real numbers. -/
structure Holds (Y : Fin 8192 → Fin 2048 → ℝ) (D : Fin 8192 → Fin 1024 → ℝ) (g : Fin 1024 → ℝ) : Prop where
  h0 : ∀ i a, m ((c : Thread nD τ).loc main_arg0) (ix2 i a) = (Y i a : EReal)
  h1 : ∀ i b, m ((c : Thread nD τ).loc main_arg1) (ix2 i b) = (D i b : EReal)
  h2 : ∀ b, m ((c : Thread nD τ).loc main_arg2) (ix2 0 b) = (g b : EReal)

variable {m c}
variable {Y : Fin 8192 → Fin 2048 → ℝ} {D : Fin 8192 → Fin 1024 → ℝ} {g : Fin 1024 → ℝ}

/-- A point's product. -/
def part (Y : Fin 8192 → Fin 2048 → ℝ) (D : Fin 8192 → Fin 1024 → ℝ) (t : Fin cfg0.N) (a : Fin 2048) (b : Fin 1024) : ℝ :=
  ∑ r : Fin 1024, Y (row t r) a * D (row t r) b

theorem part_at (h : Holds m c Y D g) (t : Fin cfg0.N) (a : Fin 2048) (b : Fin 1024) :
    prod (iblk m c 0 t) (iblk m c 1 t) a b = (part Y D t a b : EReal) := by
  unfold prod
  simp only [ib0, ib1, h.h0, h.h1, ← EReal.coe_mul, coe_sum]; rfl

theorem lt_N {n : ℕ} (hn : n < 8) : n < cfg0.N := by rw [N8]; exact hn
/-- The point `n`. -/
def pt (n : ℕ) (hn : n < 8) : Fin cfg0.N := ⟨n, lt_N hn⟩

theorem carried (h : Holds m c Y D g) (a : Fin 2048) (b : Fin 1024) : ∀ (n : ℕ) (hn : n < 7),
    (outsAt0 m c n (lt_N (by omega))).2 (ix2 a b) = ((∑ k : Fin (n + 1), part Y D (pt k.val (by omega)) a b : ℝ) : EReal)
  | 0, hn => by
    rw [outsAt0_zero]
    refine (congrFun (st_first m c (pt 0 (by omega)) _ rfl) _).trans ?_
    rw [pay2_at, part_at h, Fin.sum_univ_one]; rfl
  | n + 1, hn => by
    rw [outsAt0_succ]
    refine (congrFun (st_next m c (pt (n + 1) (by omega)) _ (Nat.succ_pos n) hn) _).trans ?_
    rw [pay3_at, part_at h, Fin.sum_univ_castSucc, EReal.coe_add]
    exact congrArg (· + _) (carried h a b n (by omega))

theorem sum_rows (f : Fin 8192 → ℝ) : ∑ t : Fin cfg0.N, ∑ r : Fin 1024, f (row t r) = ∑ i, f i :=
  Fin.sum_mul_add_congr (fun _ _ _ => rfl) (by rw [N8])

theorem parts (a : Fin 2048) (b : Fin 1024) : ∑ k : Fin 8, part Y D (pt k.val k.isLt) a b = ∑ i, Y i a * D i b := by
  rw [← sum_rows fun i => Y i a * D i b]
  exact Fintype.sum_equiv (finCongr N8.symm) _ _ fun k => rfl

theorem kernel_out (h : Holds m c Y D g) (a : Fin 2048) (b : Fin 1024) :
    G3 m c (ix3 0 a b) = (((∑ i, Y i a * D i b) * g b : ℝ) : EReal) := by
  rw [G3_last, ← outsAt0_sweep m c 7 (lt_N (by omega)), outsAt0_succ]
  refine (congrFun (st_last m c (pt 7 (by omega)) _ rfl) _).trans ?_
  rw [pay4_at, part_at h, ib2, h.h2, carried h a b 6 (by omega), ← parts, ← EReal.coe_add, ← EReal.coe_mul]
  refine congrArg (fun x : ℝ => ((x * g b : ℝ) : EReal)) ?_
  rw [Fin.sum_univ_castSucc (n := 7)]
  rfl

end Cert.Kernel4Ideal.Hand

namespace Cert.Hand4

open Idealize.ShloMosaic Idealize.ShloMosaic.TcCoe Idealize.SL.Sem
open Cert.Reference4Ideal Cert.Reference4Ideal.Gen
open Cert.Kernel4Ideal.Hand (Holds)
open Cert.Lift

/-- The reference's result, as a term of its arguments. -/
def ref {F : FTy → Type} [FloatOps F] (x : FVec F S8192x2048 .bf16) (y : FVec F S8192x1024 .f32) (s : FVec F S1x1024 .f32) : FVec F S1x2048x1024 .bf16 :=
  truncf .bf16 (shapeCast _ (transpose S2048x1024 [1, 0] (Host.dotGeneral dot_S8192x1024_S8192x2048_S1024x2048_0_0_1_1_n_n none (mulf (broadcastInDim S8192x1024 ![0, 1] bcast_S1x1024_S8192x1024_0_1 s) y) (extf .f32 x bitsLt_bf16_f32)) transposes_S1024x2048_S2048x1024_1_0) shapeCasts_S2048x1024_S1x2048x1024) bitsLt_bf16_f32

theorem ref_at {x : Vec Ideal S8192x2048 .bf16} {y : Vec Ideal S8192x1024 .f32} {s : Vec Ideal S1x1024 .f32}
    {Y : Fin 8192 → Fin 2048 → ℝ} {D : Fin 8192 → Fin 1024 → ℝ} {g : Fin 1024 → ℝ}
    (h0 : ∀ i a, x (ix2 i a) = (Y i a : EReal)) (h1 : ∀ i b, y (ix2 i b) = (D i b : EReal)) (h2 : ∀ b, s (ix2 0 b) = (g b : EReal))
    (a : Fin 2048) (b : Fin 1024) :
    ref (F := Ideal) x y s (ix3 0 a b) = (((∑ i, Y i a * D i b) * g b : ℝ) : EReal) := by
  pointwise [ref]
  simp only [h0, h1, h2, ← EReal.coe_mul, coe_sum]
  rw [Finset.sum_mul]
  refine congrArg _ (Finset.sum_congr rfl fun i _ => ?_)
  ring

/-- Finite arguments are arrays of reals. -/
theorem holds_of_pre (m : (ℓ : Loc Cert.Kernel4Ideal.nD Cert.Kernel4Ideal.τ Cert.Kernel4Ideal.sig) → Buf (Elt Ideal) ℓ) (hp : Cert.Pre_Kernel4Ideal_finite4 m) :
    ∃ Y D g, ∀ c, Holds m c Y D g := by
  obtain ⟨e0, e1, e2⟩ := hp 0
  refine ⟨fun i n => EReal.toReal (m (((0 : Dev Cert.Kernel4Ideal.nD).tc : Thread Cert.Kernel4Ideal.nD Cert.Kernel4Ideal.τ).loc Cert.Kernel4Ideal.main_arg0) (ix2 i n)),
    fun i n => EReal.toReal (m (((0 : Dev Cert.Kernel4Ideal.nD).tc : Thread Cert.Kernel4Ideal.nD Cert.Kernel4Ideal.τ).loc Cert.Kernel4Ideal.main_arg1) (ix2 i n)),
    fun n => EReal.toReal (m (((0 : Dev Cert.Kernel4Ideal.nD).tc : Thread Cert.Kernel4Ideal.nD Cert.Kernel4Ideal.τ).loc Cert.Kernel4Ideal.main_arg2) (ix2 0 n)), fun c => ?_⟩
  obtain rfl : c = 0 := Subsingleton.elim (α := Fin 1) _ _
  refine ⟨fun i n => ?_, fun i n => ?_, fun n => ?_⟩
  · have e := congrFun e0 (ix2 i n)
    pointwise [Cert.Pre_finite4.fn] at e
    exact real_of_bit e
  · have e := congrFun e1 (ix2 i n)
    pointwise [Cert.Pre_finite4.fn] at e
    exact real_of_bit e
  · have e := congrFun e2 (ix2 0 n)
    pointwise [Cert.Pre_finite4.fn] at e
    exact real_of_bit e

theorem ext_block {v w : Vec Ideal S1x2048x1024 .bf16} (h : ∀ a b, v (ix3 0 a b) = w (ix3 0 a b)) : v = w := by
  funext j
  obtain ⟨a, b, rfl⟩ : ∃ a b, j = ix3 0 a b := ⟨j 1, j 2, by rw [eq_ix3 j]; congr 1; exact Subsingleton.elim (α := Fin 1) _ _⟩
  exact h a b

theorem algebraic : Cert.algebraic_Kernel4Ideal_Reference4Ideal_pre_finite4 := by
  intro m ρ m' ρ' hp hagree
  obtain ⟨Y, D, g, hk⟩ := holds_of_pre m hp
  refine ⟨fun c => Cert.Kernel4Ideal.Value.G3 m c, Cert.Kernel4Ideal.Value.run m ρ, ?_⟩
  refine (θ_run _ _ _).mono (fun r h c => ⟨?_, (h c).2⟩) (Cert.Reference4Ideal.Value.run m' ρ')
  refine (h c).1.trans ?_
  obtain ⟨a0, a1, a2⟩ := hagree c
  refine ext_block fun a b => (ref_at (fun i n => (congrFun a0 _).trans ((hk c).h0 i n)) (fun i n => (congrFun a1 _).trans ((hk c).h1 i n))
    (fun n => (congrFun a2 _).trans ((hk c).h2 n)) a b).trans (Cert.Kernel4Ideal.Hand.kernel_out (hk c) a b).symm

end Cert.Hand4

end
-- ==== Proof.OutGradA.lean ====
/- The gradient of a sub-layer's second weight: the eight row blocks' products added and then gated, which is the product with
   the gated gradient over all the rows. -/
module

public import proofs.«01_k».proof.Defs
public import proofs.«01_k».proof.Proof.Gen.Kernel5Ideal.Value
public import proofs.«01_k».proof.Proof.Gen.Reference5Ideal.Run
public import proofs.«01_k».proof.Proof.Gen.Pre_finite4
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes
public import proofs.«01_k».proof.Proof.Lift

@[expose] public section

set_option maxRecDepth 16384

noncomputable section

namespace Cert.Kernel5Ideal.Hand

open Cert.Kernel5Ideal Cert.Kernel5Ideal.Gen Cert.Kernel5Ideal.Value
open Idealize.ShloMosaic Idealize.ShloMosaic.TcCoe Idealize.SL.Sem
open Cert.Lift

variable (m : (ℓ : Loc nD τ sig) → Buf (Elt Ideal) ℓ) (c : Dev nD)

/-- What a point leaves in the output and the carried sum. -/
abbrev St := Vec Ideal S1x2048x1024 .bf16 × Vec Ideal S2048x1024 .f32

theorem N8 : cfg0.N = 8 := N_0

/-- The first point carries its product. -/
theorem st_first (t : Fin cfg0.N) (acc : St) (h : t.val = 0) :
    (stAt0 m c t.val t.isLt acc).2 = k0_pay2 (iblk m c 0 t) (iblk m c 1 t) := by
  rw [stAt0_A m c t acc (by omega) (by omega) (by omega)]; dsimp only; frame_out

/-- A later point adds its own. -/
theorem st_next (t : Fin cfg0.N) (acc : St) (h : 0 < t.val) (h' : t.val < 7) :
    (stAt0 m c t.val t.isLt acc).2 = k0_pay3 (iblk m c 0 t) (iblk m c 1 t) acc.2 := by
  rw [stAt0_B m c t acc (by omega) (by omega) (by omega)]; dsimp only; frame_out
  simp only [read_unread_whole]

/-- The last writes the gated sum. -/
theorem st_last (t : Fin cfg0.N) (acc : St) (h : t.val = 7) :
    (stAt0 m c t.val t.isLt acc).1 = k0_pay4 (iblk m c 0 t) (iblk m c 1 t) acc.2 (iblk m c 2 t) := by
  rw [stAt0_C m c t acc (by omega) (by omega) (by omega)]; dsimp only; frame_out
  simp only [read_unread_whole]

/-- The index maps, at a point: the row blocks advance. -/
theorem idx : ∀ t : Fin cfg0.N, win0_0.index t = ![t.val, 0] ∧ win0_1.index t = ![t.val, 0] ∧ win0_2.index t = ![0, 0] :=
  (by decide +kernel : ∀ t : Fin grid0.N, _)

/-- The array's row that a block's row is. -/
def row (t : Fin cfg0.N) (r : Fin 1024) : Fin 8192 := ⟨t.val * 1024 + r.val, by have := t.isLt; have := N8; omega⟩

theorem ib0 (t : Fin cfg0.N) (r : Fin 1024) (a : Fin 2048) :
    iblk m c 0 t (ix2 r a) = m ((c : Thread nD τ).loc main_arg0) (ix2 (row t r) a) := by
  unfold row; blk_ext [iblk, V, idx t]
theorem ib1 (t : Fin cfg0.N) (r : Fin 1024) (b : Fin 1024) :
    iblk m c 1 t (ix2 r b) = m ((c : Thread nD τ).loc main_arg1) (ix2 (row t r) b) := by
  unfold row; blk_ext [iblk, V, idx t]
theorem ib2 (t : Fin cfg0.N) (b : Fin 1024) :
    iblk m c 2 t (ix2 0 b) = m ((c : Thread nD τ).loc main_arg2) (ix2 0 b) := by
  blk_ext! [iblk, V, idx t]

section Blocks

variable (x0 : Vec Ideal S1024x2048 .bf16) (x1 : Vec Ideal S1024x1024 .f32)

/-- An entry of a block's product. -/
def prod (x0 : Vec Ideal S1024x2048 .bf16) (x1 : Vec Ideal S1024x1024 .f32) (a : Fin 2048) (b : Fin 1024) : EReal :=
  ∑ r : Fin 1024, (x0 (ix2 r a) * x1 (ix2 r b) : EReal)

theorem pay1_at (a : Fin 2048) (b : Fin 1024) :
    k0_pay1 x0 x1 (ix2 a b) = prod x0 x1 a b := by
  pointwise [k0_pay1]
  rfl

theorem pay2_at (a : Fin 2048) (b : Fin 1024) :
    k0_pay2 x0 x1 (ix2 a b) = prod x0 x1 a b := by
  unfold k0_pay2
  generalize h : k0_pay1 x0 x1 = y
  pointwise
  rw [← h, pay1_at]

theorem pay3_at (v : Vec Ideal S2048x1024 .f32) (a : Fin 2048) (b : Fin 1024) :
    k0_pay3 x0 x1 v (ix2 a b) = (v (ix2 a b) + prod x0 x1 a b : EReal) := by
  unfold k0_pay3
  generalize h : k0_pay1 x0 x1 = y
  pointwise
  rw [← h, pay1_at]

theorem pay4_at (v : Vec Ideal S2048x1024 .f32) (s : Vec Ideal S1x1024 .f32) (a : Fin 2048) (b : Fin 1024) :
    k0_pay4 x0 x1 v s (ix3 0 a b) = (v (ix2 a b) + prod x0 x1 a b : EReal) * s (ix2 0 b) := by
  unfold k0_pay4
  generalize h : k0_pay1 x0 x1 = y
  pointwise
  rw [← h, pay1_at]

end Blocks

/-- The arguments' arrays hold these real numbers. -/
structure Holds (Y : Fin 8192 → Fin 2048 → ℝ) (D : Fin 8192 → Fin 1024 → ℝ) (g : Fin 1024 → ℝ) : Prop where
  h0 : ∀ i a, m ((c : Thread nD τ).loc main_arg0) (ix2 i a) = (Y i a : EReal)
  h1 : ∀ i b, m ((c : Thread nD τ).loc main_arg1) (ix2 i b) = (D i b : EReal)
  h2 : ∀ b, m ((c : Thread nD τ).loc main_arg2) (ix2 0 b) = (g b : EReal)

variable {m c}
variable {Y : Fin 8192 → Fin 2048 → ℝ} {D : Fin 8192 → Fin 1024 → ℝ} {g : Fin 1024 → ℝ}

/-- A point's product. -/
def part (Y : Fin 8192 → Fin 2048 → ℝ) (D : Fin 8192 → Fin 1024 → ℝ) (t : Fin cfg0.N) (a : Fin 2048) (b : Fin 1024) : ℝ :=
  ∑ r : Fin 1024, Y (row t r) a * D (row t r) b

theorem part_at (h : Holds m c Y D g) (t : Fin cfg0.N) (a : Fin 2048) (b : Fin 1024) :
    prod (iblk m c 0 t) (iblk m c 1 t) a b = (part Y D t a b : EReal) := by
  unfold prod
  simp only [ib0, ib1, h.h0, h.h1, ← EReal.coe_mul, coe_sum]; rfl

theorem lt_N {n : ℕ} (hn : n < 8) : n < cfg0.N := by rw [N8]; exact hn
/-- The point `n`. -/
def pt (n : ℕ) (hn : n < 8) : Fin cfg0.N := ⟨n, lt_N hn⟩

theorem carried (h : Holds m c Y D g) (a : Fin 2048) (b : Fin 1024) : ∀ (n : ℕ) (hn : n < 7),
    (outsAt0 m c n (lt_N (by omega))).2 (ix2 a b) = ((∑ k : Fin (n + 1), part Y D (pt k.val (by omega)) a b : ℝ) : EReal)
  | 0, hn => by
    rw [outsAt0_zero]
    refine (congrFun (st_first m c (pt 0 (by omega)) _ rfl) _).trans ?_
    rw [pay2_at, part_at h, Fin.sum_univ_one]; rfl
  | n + 1, hn => by
    rw [outsAt0_succ]
    refine (congrFun (st_next m c (pt (n + 1) (by omega)) _ (Nat.succ_pos n) hn) _).trans ?_
    rw [pay3_at, part_at h, Fin.sum_univ_castSucc, EReal.coe_add]
    exact congrArg (· + _) (carried h a b n (by omega))

theorem sum_rows (f : Fin 8192 → ℝ) : ∑ t : Fin cfg0.N, ∑ r : Fin 1024, f (row t r) = ∑ i, f i :=
  Fin.sum_mul_add_congr (fun _ _ _ => rfl) (by rw [N8])

theorem parts (a : Fin 2048) (b : Fin 1024) : ∑ k : Fin 8, part Y D (pt k.val k.isLt) a b = ∑ i, Y i a * D i b := by
  rw [← sum_rows fun i => Y i a * D i b]
  exact Fintype.sum_equiv (finCongr N8.symm) _ _ fun k => rfl

theorem kernel_out (h : Holds m c Y D g) (a : Fin 2048) (b : Fin 1024) :
    G3 m c (ix3 0 a b) = (((∑ i, Y i a * D i b) * g b : ℝ) : EReal) := by
  rw [G3_last, ← outsAt0_sweep m c 7 (lt_N (by omega)), outsAt0_succ]
  refine (congrFun (st_last m c (pt 7 (by omega)) _ rfl) _).trans ?_
  rw [pay4_at, part_at h, ib2, h.h2, carried h a b 6 (by omega), ← parts, ← EReal.coe_add, ← EReal.coe_mul]
  refine congrArg (fun x : ℝ => ((x * g b : ℝ) : EReal)) ?_
  rw [Fin.sum_univ_castSucc (n := 7)]
  rfl

end Cert.Kernel5Ideal.Hand

namespace Cert.Hand5

open Idealize.ShloMosaic Idealize.ShloMosaic.TcCoe Idealize.SL.Sem
open Cert.Reference5Ideal Cert.Reference5Ideal.Gen
open Cert.Kernel5Ideal.Hand (Holds)
open Cert.Lift

/-- The reference's result, as a term of its arguments. -/
def ref {F : FTy → Type} [FloatOps F] (x : FVec F S8192x2048 .bf16) (y : FVec F S8192x1024 .f32) (s : FVec F S1x1024 .f32) : FVec F S1x2048x1024 .bf16 :=
  truncf .bf16 (shapeCast _ (transpose S2048x1024 [1, 0] (Host.dotGeneral dot_S8192x1024_S8192x2048_S1024x2048_0_0_1_1_n_n none (mulf (broadcastInDim S8192x1024 ![0, 1] bcast_S1x1024_S8192x1024_0_1 s) y) (extf .f32 x bitsLt_bf16_f32)) transposes_S1024x2048_S2048x1024_1_0) shapeCasts_S2048x1024_S1x2048x1024) bitsLt_bf16_f32

theorem ref_at {x : Vec Ideal S8192x2048 .bf16} {y : Vec Ideal S8192x1024 .f32} {s : Vec Ideal S1x1024 .f32}
    {Y : Fin 8192 → Fin 2048 → ℝ} {D : Fin 8192 → Fin 1024 → ℝ} {g : Fin 1024 → ℝ}
    (h0 : ∀ i a, x (ix2 i a) = (Y i a : EReal)) (h1 : ∀ i b, y (ix2 i b) = (D i b : EReal)) (h2 : ∀ b, s (ix2 0 b) = (g b : EReal))
    (a : Fin 2048) (b : Fin 1024) :
    ref (F := Ideal) x y s (ix3 0 a b) = (((∑ i, Y i a * D i b) * g b : ℝ) : EReal) := by
  pointwise [ref]
  simp only [h0, h1, h2, ← EReal.coe_mul, coe_sum]
  rw [Finset.sum_mul]
  refine congrArg _ (Finset.sum_congr rfl fun i _ => ?_)
  ring

/-- Finite arguments are arrays of reals. -/
theorem holds_of_pre (m : (ℓ : Loc Cert.Kernel5Ideal.nD Cert.Kernel5Ideal.τ Cert.Kernel5Ideal.sig) → Buf (Elt Ideal) ℓ) (hp : Cert.Pre_Kernel5Ideal_finite4 m) :
    ∃ Y D g, ∀ c, Holds m c Y D g := by
  obtain ⟨e0, e1, e2⟩ := hp 0
  refine ⟨fun i n => EReal.toReal (m (((0 : Dev Cert.Kernel5Ideal.nD).tc : Thread Cert.Kernel5Ideal.nD Cert.Kernel5Ideal.τ).loc Cert.Kernel5Ideal.main_arg0) (ix2 i n)),
    fun i n => EReal.toReal (m (((0 : Dev Cert.Kernel5Ideal.nD).tc : Thread Cert.Kernel5Ideal.nD Cert.Kernel5Ideal.τ).loc Cert.Kernel5Ideal.main_arg1) (ix2 i n)),
    fun n => EReal.toReal (m (((0 : Dev Cert.Kernel5Ideal.nD).tc : Thread Cert.Kernel5Ideal.nD Cert.Kernel5Ideal.τ).loc Cert.Kernel5Ideal.main_arg2) (ix2 0 n)), fun c => ?_⟩
  obtain rfl : c = 0 := Subsingleton.elim (α := Fin 1) _ _
  refine ⟨fun i n => ?_, fun i n => ?_, fun n => ?_⟩
  · have e := congrFun e0 (ix2 i n)
    pointwise [Cert.Pre_finite4.fn] at e
    exact real_of_bit e
  · have e := congrFun e1 (ix2 i n)
    pointwise [Cert.Pre_finite4.fn] at e
    exact real_of_bit e
  · have e := congrFun e2 (ix2 0 n)
    pointwise [Cert.Pre_finite4.fn] at e
    exact real_of_bit e

theorem ext_block {v w : Vec Ideal S1x2048x1024 .bf16} (h : ∀ a b, v (ix3 0 a b) = w (ix3 0 a b)) : v = w := by
  funext j
  obtain ⟨a, b, rfl⟩ : ∃ a b, j = ix3 0 a b := ⟨j 1, j 2, by rw [eq_ix3 j]; congr 1; exact Subsingleton.elim (α := Fin 1) _ _⟩
  exact h a b

theorem algebraic : Cert.algebraic_Kernel5Ideal_Reference5Ideal_pre_finite4 := by
  intro m ρ m' ρ' hp hagree
  obtain ⟨Y, D, g, hk⟩ := holds_of_pre m hp
  refine ⟨fun c => Cert.Kernel5Ideal.Value.G3 m c, Cert.Kernel5Ideal.Value.run m ρ, ?_⟩
  refine (θ_run _ _ _).mono (fun r h c => ⟨?_, (h c).2⟩) (Cert.Reference5Ideal.Value.run m' ρ')
  refine (h c).1.trans ?_
  obtain ⟨a0, a1, a2⟩ := hagree c
  refine ext_block fun a b => (ref_at (fun i n => (congrFun a0 _).trans ((hk c).h0 i n)) (fun i n => (congrFun a1 _).trans ((hk c).h1 i n))
    (fun n => (congrFun a2 _).trans ((hk c).h2 n)) a b).trans (Cert.Kernel5Ideal.Hand.kernel_out (hk c) a b).symm

end Cert.Hand5

end
-- ==== Proof.TnLast.lean ====
/- The gradient of the first sub-layer's first weight, its last quarter of rows: each block of columns is one point's product,
   over all the rows. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.IdealHost
public import Idealize.ShloMosaic.Lib.Tactic.CleanTypes
public import proofs.«01_k».proof.Proof.Lift

@[expose] public section

set_option maxRecDepth 16384

noncomputable section

namespace Cert.Kernel6Ideal.Hand

open Cert.Kernel6Ideal Cert.Kernel6Ideal.Gen Cert.Kernel6Ideal.Value
open Idealize.ShloMosaic Idealize.ShloMosaic.TcCoe Idealize.SL.Sem

variable (m : (ℓ : Loc nD τ sig) → Buf (Elt Ideal) ℓ) (c : Dev nD)

theorem N8 : cfg0.N = 8 := N_0

/-- What a point leaves in its block. -/
theorem out_at (t : Fin cfg0.N) :
    outsAt0 m c t = k0_pay1 (iblk m c 0 t) (iblk m c 1 t) (iblk m c 2 t) := by
  unfold outsAt0; frame_out

/-- The index maps, at a point: the last quarter of the left array's columns stays, the column blocks advance. -/
theorem idx : ∀ t : Fin cfg0.N, win0_0.index t = ![0, 3] ∧ win0_1.index t = ![0, t.val] ∧ win0_2.index t = ![0, t.val] ∧ win0_3.index t = ![t.val, 0, 0] :=
  (by decide +kernel : ∀ t : Fin grid0.N, _)

/-- The array's column that a block's column is. -/
def left (k : Fin 256) : Fin 1024 := ⟨768 + k.val, by omega⟩
theorem col_lt (t : Fin cfg0.N) (b : Fin 1024) : t.val * 1024 + b.val < 8192 := by
  have := t.isLt; have := N8; omega

theorem ib0 (t : Fin cfg0.N) (r : Fin 8192) (k : Fin 256) :
    iblk m c 0 t (ix2 r k) = m ((c : Thread nD τ).loc main_arg0) (ix2 r (left k)) := by
  unfold left; blk_ext [iblk, V, idx t]
theorem ib1 (t : Fin cfg0.N) (r : Fin 8192) (b : Fin 1024) :
    iblk m c 1 t (ix2 r b) = m ((c : Thread nD τ).loc main_arg1) (ix2 r ⟨t.val * 1024 + b.val, col_lt t b⟩) := by
  blk_ext [iblk, V, idx t]
theorem host_one (b : Fin 8192) : V m c main_v0 (ix2 0 b) = (1 : EReal) := by
  unfold V
  after_reads_at
theorem ib2 (t : Fin cfg0.N) (b : Fin 1024) : iblk m c 2 t (ix2 0 b) = (1 : EReal) := by
  refine Eq.trans ?_ (host_one m c ⟨t.val * 1024 + b.val, col_lt t b⟩)
  blk_ext [iblk, idx t]

theorem pay1_at (x0 : Vec Ideal S8192x256 .bf16) (x1 : Vec Ideal S8192x1024 .bf16) (s : Vec Ideal S1x1024 .f32) (a : Fin 256) (b : Fin 1024) :
    k0_pay1 x0 x1 s (ix3 0 a b) = (∑ r : Fin 8192, x0 (ix2 r a) * x1 (ix2 r b) : EReal) * s (ix2 0 b) := by
  pointwise [k0_pay1]

/-- The column of the whole product that block `d`'s column `b` is. -/
def col (d : Fin 8) (b : Fin 1024) : Fin 8192 := ⟨d.val * 1024 + b.val, by omega⟩

/-- An entry of the whole product. -/
def whole (x : Vec Ideal S8192x1024 .bf16) (y : Vec Ideal S8192x8192 .bf16) (d : Fin 8) (a : Fin 256) (b : Fin 1024) : EReal :=
  ∑ i : Fin 8192, (x (ix2 i (left a)) * y (ix2 i (col d b)) : EReal)

theorem out_whole (t : Fin cfg0.N) (d : Fin 8) (hd : d.val = t.val) (a : Fin 256) (b : Fin 1024) :
    outsAt0 m c t (ix3 0 a b) = whole (m ((c : Thread nD τ).loc main_arg0)) (m ((c : Thread nD τ).loc main_arg1)) d a b := by
  rw [out_at, pay1_at, ib2, mul_one]
  simp only [ib0, ib1]
  unfold whole
  have e : ∀ b : Fin 1024, (⟨t.val * 1024 + b.val, col_lt t b⟩ : Fin 8192) = col d b := fun b => Fin.ext (by show _ = d.val * 1024 + b.val; rw [hd])
  rw [e]

/-- What an array holds at block `t`'s entry. -/
theorem read_blk (G : Buf (Elt Ideal) ((c : Thread nD τ).loc main_v1)) (t : Fin cfg0.N) (d : Fin 8) (hd : d.val = t.val) (a : Fin 256) (b : Fin 1024) :
    ((cfg0.win 3).blk t).view.read (Elt Ideal) G (ix3 0 a b) = G (ix3 d a b) := by
  obtain ⟨d, hlt⟩ := d
  obtain rfl : d = t.val := hd
  blk_ext [idx t]

theorem kernel_out (d : Fin 8) (a : Fin 256) (b : Fin 1024) :
    (dats m 0 c).arrAt 3 cfg0.N (ix3 d a b) = whole (m ((c : Thread nD τ).loc main_arg0)) (m ((c : Thread nD τ).loc main_arg1)) d a b := by
  have hN : d.val < cfg0.N := by rw [N8]; exact d.isLt
  refine (read_blk c _ ⟨d.val, hN⟩ d rfl a b).symm.trans ?_
  rw [blocks3 m c ⟨d.val, hN⟩ (flush0_3 _), flushed3]
  exact out_whole m c ⟨d.val, hN⟩ d rfl a b

end Cert.Kernel6Ideal.Hand

namespace Cert.Hand6

open Idealize.ShloMosaic Idealize.ShloMosaic.TcCoe Idealize.SL.Sem
open Cert.Reference6Ideal Cert.Reference6Ideal.Gen
open Cert.Kernel6Ideal.Hand (left col whole)

/-- The reference's result, as a term of its arguments. -/
def ref {F : FTy → Type} [FloatOps F] (x : FVec F S8192x1024 .bf16) (y : FVec F S8192x8192 .bf16) : FVec F S8x256x1024 .bf16 :=
  extractStridedSlice S8x256x1024 ![0, 768, 0] (truncf .bf16 (transpose S8x1024x1024 [1, 0, 2] (shapeCast _ (transpose S1024x8192 [1, 0] (Host.dotGeneral dot_S8192x8192_S8192x1024_S8192x1024_0_0_1_1_n_n none (extf .f32 y bitsLt_bf16_f32) (extf .f32 x bitsLt_bf16_f32)) transposes_S8192x1024_S1024x8192_1_0) shapeCasts_S1024x8192_S1024x8x1024) transposes_S1024x8x1024_S8x1024x1024_1_0_2) bitsLt_bf16_f32) slices_S8x1024x1024_S8x256x1024_0_768_0

theorem ref_at (x : Vec Ideal S8192x1024 .bf16) (y : Vec Ideal S8192x8192 .bf16) (d : Fin 8) (a : Fin 256) (b : Fin 1024) :
    ref (F := Ideal) x y (ix3 d a b) = whole x y d a b := by
  pointwise [ref]
  exact Finset.sum_congr rfl fun i _ => mul_comm _ _

theorem ext_blocks {v w : Vec Ideal S8x256x1024 .bf16} (h : ∀ d a b, v (ix3 d a b) = w (ix3 d a b)) : v = w := by
  funext j; rw [eq_ix3 j]; exact h _ _ _

theorem algebraic : Cert.algebraic_Kernel6Ideal_Reference6Ideal := by
  intro m ρ m' ρ' _ hagree
  refine ⟨fun c => (Cert.Kernel6Ideal.Gen.dats m 0 c).arrAt 3 Cert.Kernel6Ideal.cfg0.N, Cert.Kernel6Ideal.Value.run_blocks m ρ, ?_⟩
  refine (θ_run _ _ _).mono (fun r h c => ⟨?_, (h c).2⟩) (Cert.Reference6Ideal.Value.run m' ρ')
  refine (h c).1.trans ?_
  obtain ⟨a0, a1⟩ := hagree c
  refine ext_blocks fun d a b => (ref_at _ _ d a b).trans (Eq.trans ?_ (Cert.Kernel6Ideal.Hand.kernel_out m c d a b).symm)
  rw [a0, a1]

end Cert.Hand6

end
-- ==== Proof.TnRest.lean ====
/- The gradient of the first sub-layer's first weight, all its rows but the last quarter: each block of columns is the two row
   blocks' products added, which is the product over all the rows. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.StableHlo.ReadAt
public import Idealize.ShloMosaic.Lib.Pointwise
public import Idealize.ShloMosaic.Lib.IdealHost
public import Idealize.ShloMosaic.Lib.Tactic.CleanTypes
public import proofs.«01_k».proof.Proof.Lift

@[expose] public section

set_option maxRecDepth 16384

noncomputable section

namespace Cert.Kernel7Ideal.Hand

open Cert.Kernel7Ideal Cert.Kernel7Ideal.Gen Cert.Kernel7Ideal.Value
open Idealize.ShloMosaic Idealize.ShloMosaic.TcCoe Idealize.SL.Sem

variable (m : (ℓ : Loc nD τ sig) → Buf (Elt Ideal) ℓ) (c : Dev nD)

/-- What a point leaves in the output and the carried sum. -/
abbrev St := Vec Ideal S1x768x1024 .bf16 × Vec Ideal S768x1024 .f32

/-- The first of a block's two points carries its product. -/
theorem st_first (t : Fin cfg0.N) (acc : St) (h0 : t.val % 2 = 0) :
    (stAt0 m c t.val t.isLt acc).2 = k0_pay2 (X0_0 m c t) (iblk m c 1 t) := by
  rw [stAt0_A m c t acc h0 (by omega)]; dsimp only; frame_out

/-- The second writes the sum. -/
theorem st_second (t : Fin cfg0.N) (acc : St) (h1 : t.val % 2 = 1) :
    (stAt0 m c t.val t.isLt acc).1 = k0_pay4 (X0_0 m c t) (iblk m c 1 t) acc.2 (iblk m c 2 t) := by
  rw [stAt0_B m c t acc (by omega) h1]; dsimp only; frame_out
  simp only [read_unread_whole]

theorem N16 : cfg0.N = 16 := N_0

theorem outs_eq (t : Fin cfg0.N) : ∃ acc : St, outsAt0 m c t.val t.isLt = stAt0 m c t.val t.isLt acc := by
  obtain ⟨n, hn⟩ := t
  cases n with
  | zero => exact ⟨_, outsAt0_zero m c hn⟩
  | succ n => exact ⟨_, outsAt0_succ m c n hn⟩

/-- The index maps, at a point: the row blocks alternate, the column blocks advance at every second point. -/
theorem idx : ∀ t : Fin cfg0.N, win0_0.index t = ![t.val % 2, 0] ∧ win0_1.index t = ![t.val % 2, t.val / 2] ∧ win0_2.index t = ![0, t.val / 2] :=
  (by decide +kernel : ∀ t : Fin grid0.N, _)

/-- The array's column that a block's column is. -/
def left (k : Fin 768) : Fin 1024 := ⟨k.val, by omega⟩

theorem row_lt (t : Fin cfg0.N) (r : Fin 4096) : t.val % 2 * 4096 + r.val < 8192 := by omega
theorem col_lt (t : Fin cfg0.N) (b : Fin 1024) : t.val / 2 * 1024 + b.val < 8192 := by
  have := t.isLt; have := N16; omega

theorem ib0 (t : Fin cfg0.N) (r : Fin 4096) (k : Fin 768) :
    X0_0 m c t (ix2 r k) = m ((c : Thread nD τ).loc main_arg0) (ix2 ⟨t.val % 2 * 4096 + r.val, row_lt t r⟩ (left k)) := by
  unfold X0_0 Pipeline.Window.fill
  rw [dif_pos (moved0_0 t _)]
  unfold left; blk_ext [iblk, V, idx t]
theorem ib1 (t : Fin cfg0.N) (r : Fin 4096) (b : Fin 1024) :
    iblk m c 1 t (ix2 r b) = m ((c : Thread nD τ).loc main_arg1) (ix2 ⟨t.val % 2 * 4096 + r.val, row_lt t r⟩ ⟨t.val / 2 * 1024 + b.val, col_lt t b⟩) := by
  blk_ext [iblk, V, idx t]
theorem host_one (b : Fin 8192) : V m c main_v0 (ix2 0 b) = (1 : EReal) := by
  unfold V
  after_reads_at
theorem ib2 (t : Fin cfg0.N) (b : Fin 1024) : iblk m c 2 t (ix2 0 b) = (1 : EReal) := by
  refine Eq.trans ?_ (host_one m c ⟨t.val / 2 * 1024 + b.val, col_lt t b⟩)
  blk_ext [iblk, idx t]

section Blocks

variable (x0 : Vec Ideal S4096x768 .bf16) (x1 : Vec Ideal S4096x1024 .bf16)

theorem pay1_at (a : Fin 768) (b : Fin 1024) :
    k0_pay1 x0 x1 (ix2 a b) = (∑ r : Fin 4096, x0 (ix2 r a) * x1 (ix2 r b) : EReal) := by
  pointwise [k0_pay1]

theorem pay2_at (a : Fin 768) (b : Fin 1024) :
    k0_pay2 x0 x1 (ix2 a b) = (∑ r : Fin 4096, x0 (ix2 r a) * x1 (ix2 r b) : EReal) := by
  unfold k0_pay2
  generalize h : k0_pay1 x0 x1 = y
  pointwise
  rw [← h, pay1_at]

theorem pay4_at (v : Vec Ideal S768x1024 .f32) (s : Vec Ideal S1x1024 .f32) (a : Fin 768) (b : Fin 1024) :
    k0_pay4 x0 x1 v s (ix3 0 a b) = (v (ix2 a b) + ∑ r : Fin 4096, x0 (ix2 r a) * x1 (ix2 r b) : EReal) * s (ix2 0 b) := by
  unfold k0_pay4
  generalize h : k0_pay1 x0 x1 = y
  pointwise
  rw [← h, pay1_at]

end Blocks

/-- A sum over all the rows is the two halves' sums. -/
theorem sum_rows (f : Fin 8192 → EReal) :
    ∑ r : Fin 4096, f ⟨r.val, by omega⟩ + ∑ r : Fin 4096, f ⟨4096 + r.val, by omega⟩ = ∑ i, f i :=
  (Fin.sum_univ_add (a := 4096) (b := 4096) f).symm

/-- The column of the whole product that block `d`'s column `b` is. -/
def col (d : Fin 8) (b : Fin 1024) : Fin 8192 := ⟨d.val * 1024 + b.val, by omega⟩

/-- An entry of the whole product. -/
def whole (x : Vec Ideal S8192x1024 .bf16) (y : Vec Ideal S8192x8192 .bf16) (d : Fin 8) (a : Fin 768) (b : Fin 1024) : EReal :=
  ∑ i : Fin 8192, (x (ix2 i (left a)) * y (ix2 i (col d b)) : EReal)

theorem kernel_out (d : Fin 8) (a : Fin 768) (b : Fin 1024) :
    G3 m c (ix3 d a b) = whole (m ((c : Thread nD τ).loc main_arg0)) (m ((c : Thread nD τ).loc main_arg1)) d a b := by
  have hp : pt3Of (ix3 d a b) = 2 * d.val + 1 := by
    show 2 * (1 * (d.val / 1 - 0) + 1 * (a.val / 768 - 0) + 1 * (b.val / 1024 - 0)) + 1 = _
    omega
  have hl : loc3Of (ix3 d a b) = ix3 0 a b := by
    funext x; apply Fin.ext
    match x with
    | ⟨0, _⟩ => exact Nat.mod_one _
    | ⟨1, _⟩ => exact Nat.mod_eq_of_lt a.isLt
    | ⟨2, _⟩ => exact Nat.mod_eq_of_lt b.isLt
  have hN : 2 * d.val + 1 < cfg0.N := by rw [N16]; omega
  have hM : 2 * d.val < cfg0.N := Nat.lt_of_succ_lt hN
  have hN' : pt3Of (ix3 d a b) < cfg0.N := by rw [hp]; exact hN
  unfold G3
  rw [dif_pos hN', fold0_congr m c _ _ _ (by rw [Nat.zero_add]; exact hN) hp, ← outsAt0_sweep m c _ hN, hl, outsAt0_succ m c _ hN,
    st_second m c ⟨2 * d.val + 1, hN⟩ _ (by show (2 * d.val + 1) % 2 = 1; omega), pay4_at, ib2, mul_one]
  obtain ⟨acc, e⟩ := outs_eq m c ⟨2 * d.val, hM⟩
  rw [show outsAt0 m c (2 * d.val) _ = _ from e, st_first m c ⟨2 * d.val, hM⟩ _ (by show 2 * d.val % 2 = 0; omega), pay2_at]
  simp only [ib0, ib1]
  unfold whole
  generalize m ((c : Thread nD τ).loc main_arg0) = x
  generalize m ((c : Thread nD τ).loc main_arg1) = y
  refine Eq.trans ?_ (sum_rows fun i => (show EReal from x (ix2 i (left a))) * (show EReal from y (ix2 i (col d b))))
  refine congrArg₂ _ (Finset.sum_congr rfl fun r _ => ?_) (Finset.sum_congr rfl fun r _ => ?_)
  · have e1 : (⟨2 * d.val % 2 * 4096 + r.val, by omega⟩ : Fin 8192) = ⟨r.val, by omega⟩ := Fin.ext (by show 2 * d.val % 2 * 4096 + r.val = r.val; omega)
    have e2 : (⟨2 * d.val / 2 * 1024 + b.val, by omega⟩ : Fin 8192) = col d b := Fin.ext (by show 2 * d.val / 2 * 1024 + b.val = d.val * 1024 + b.val; omega)
    rw [e1, e2]
  · have e1 : (⟨(2 * d.val + 1) % 2 * 4096 + r.val, by omega⟩ : Fin 8192) = ⟨4096 + r.val, by omega⟩ := Fin.ext (by show (2 * d.val + 1) % 2 * 4096 + r.val = 4096 + r.val; omega)
    have e2 : (⟨(2 * d.val + 1) / 2 * 1024 + b.val, by omega⟩ : Fin 8192) = col d b := Fin.ext (by show (2 * d.val + 1) / 2 * 1024 + b.val = d.val * 1024 + b.val; omega)
    rw [e1, e2]

end Cert.Kernel7Ideal.Hand

namespace Cert.Hand7

open Idealize.ShloMosaic Idealize.ShloMosaic.TcCoe Idealize.SL.Sem
open Cert.Reference7Ideal Cert.Reference7Ideal.Gen
open Cert.Kernel7Ideal.Hand (left col whole)

/-- The reference's result, as a term of its arguments. -/
def ref {F : FTy → Type} [FloatOps F] (x : FVec F S8192x1024 .bf16) (y : FVec F S8192x8192 .bf16) : FVec F S8x768x1024 .bf16 :=
  extractStridedSlice S8x768x1024 ![0, 0, 0] (truncf .bf16 (transpose S8x1024x1024 [1, 0, 2] (shapeCast _ (transpose S1024x8192 [1, 0] (Host.dotGeneral dot_S8192x8192_S8192x1024_S8192x1024_0_0_1_1_n_n none (extf .f32 y bitsLt_bf16_f32) (extf .f32 x bitsLt_bf16_f32)) transposes_S8192x1024_S1024x8192_1_0) shapeCasts_S1024x8192_S1024x8x1024) transposes_S1024x8x1024_S8x1024x1024_1_0_2) bitsLt_bf16_f32) slices_S8x1024x1024_S8x768x1024_0_0_0

theorem ref_at (x : Vec Ideal S8192x1024 .bf16) (y : Vec Ideal S8192x8192 .bf16) (d : Fin 8) (a : Fin 768) (b : Fin 1024) :
    ref (F := Ideal) x y (ix3 d a b) = whole x y d a b := by
  pointwise [ref]
  exact Finset.sum_congr rfl fun i _ => mul_comm _ _

theorem ext_blocks {v w : Vec Ideal S8x768x1024 .bf16} (h : ∀ d a b, v (ix3 d a b) = w (ix3 d a b)) : v = w := by
  funext j; rw [eq_ix3 j]; exact h _ _ _

theorem algebraic : Cert.algebraic_Kernel7Ideal_Reference7Ideal := by
  intro m ρ m' ρ' _ hagree
  refine ⟨fun c => Cert.Kernel7Ideal.Value.G3 m c, Cert.Kernel7Ideal.Value.run m ρ, ?_⟩
  refine (θ_run _ _ _).mono (fun r h c => ⟨?_, (h c).2⟩) (Cert.Reference7Ideal.Value.run m' ρ')
  refine (h c).1.trans ?_
  obtain ⟨a0, a1⟩ := hagree c
  refine ext_blocks fun d a b => (ref_at _ _ d a b).trans (Eq.trans ?_ (Cert.Kernel7Ideal.Hand.kernel_out m c d a b).symm)
  rw [a0, a1]

end Cert.Hand7

end
-- ==== Proof.AdamBIn.lean ====
/- The optimiser's step for layer b's first weight: a point's block is the step of the summed parts' block. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand8

open Idealize.ShloMosaic Idealize.ShloMosaic.TcCoe Idealize.SL.Sem

section Reference

open Cert.Reference8Ideal Cert.Reference8Ideal.Gen

variable {F : FTy → Type} [FloatOps F]

/-- The reference's results, as terms of its arguments: the summed gradient, the step, the two moments. -/
def refG (x : FVec F S8x1024x768 .bf16) : FVec F S1024x768 .f32 :=
  Host.reduceAdd (extf .f32 x bitsLt_bf16_f32) (constant S_ .f32 0x00000000#32) reducesTo_S8x1024x768_S1024x768_d0 h_S_
def refD (x : FVec F S8x1024x768 .bf16) (w p q : FVec F S1024x768 .f32) : FVec F S1024x768 .f32 :=
  mulf (broadcastInDim S1024x768 ![] bcast_S_S1024x768 (constant S_ .f32 0xBA83126F#32)) (addf (Host.divf (Host.divf (addf (mulf (broadcastInDim S1024x768 ![] bcast_S_S1024x768 (constant S_ .f32 0x3F666666#32)) p) (mulf (broadcastInDim S1024x768 ![] bcast_S_S1024x768 (constant S_ .f32 0x3DCCCCCD#32)) (refG x))) (broadcastInDim S1024x768 ![] bcast_S_S1024x768 (constant S_ .f32 0x3F26BD02#32))) (addf (Host.sqrt (Host.divf (addf (mulf (broadcastInDim S1024x768 ![] bcast_S_S1024x768 (constant S_ .f32 0x3F7FBE77#32)) q) (mulf (broadcastInDim S1024x768 ![] bcast_S_S1024x768 (constant S_ .f32 0x3A83126F#32)) (mulf (refG x) (refG x)))) (broadcastInDim S1024x768 ![] bcast_S_S1024x768 (constant S_ .f32 0x3C231ACC#32)))) (broadcastInDim S1024x768 ![] bcast_S_S1024x768 (constant S_ .f32 0x322BCC77#32)))) (mulf (broadcastInDim S1024x768 ![] bcast_S_S1024x768 (constant S_ .f32 0x3C23D70A#32)) w))
def refM (x : FVec F S8x1024x768 .bf16) (p : FVec F S1024x768 .f32) : FVec F S1024x768 .f32 :=
  addf (mulf (broadcastInDim S1024x768 ![] bcast_S_S1024x768 (constant S_ .f32 0x3F666666#32)) p) (mulf (broadcastInDim S1024x768 ![] bcast_S_S1024x768 (constant S_ .f32 0x3DCCCCCD#32)) (refG x))
def refV (x : FVec F S8x1024x768 .bf16) (q : FVec F S1024x768 .f32) : FVec F S1024x768 .f32 :=
  addf (mulf (broadcastInDim S1024x768 ![] bcast_S_S1024x768 (constant S_ .f32 0x3F7FBE77#32)) q) (mulf (broadcastInDim S1024x768 ![] bcast_S_S1024x768 (constant S_ .f32 0x3A83126F#32)) (mulf (refG x) (refG x)))

end Reference

section Kernel

open Cert.Kernel8Ideal Cert.Kernel8Ideal.Gen Cert.Kernel8Ideal.Value

theorem NP : cfg0.N = 4 := N_0

section Block

variable {x0 : Vec Ideal S8x256x768 .bf16} {x1 x2 x3 : Vec Ideal S256x768 .f32}
variable {x : Vec Ideal S8x1024x768 .bf16} {w p q : Vec Ideal S1024x768 .f32}
variable {a : Fin 256} {i : Fin 1024} {b : Fin 768}

/-- A block's entry of each result is the reference's, where the blocks hold the arrays' entries. -/
theorem blockG (h0 : ∀ j, x0 (ix3 j a b) = x (ix3 j i b)) :
    out0_4 x0 x1 x2 x3 (ix2 a b) = refG (F := Ideal) x (ix2 i b) := by
  unfold out0_4
  frame_out
  pointwise [k0_pay4, refG]
  simp only [h0, Fin.sum_univ_eight]
theorem pay5_at (h0 : ∀ j, x0 (ix3 j a b) = x (ix3 j i b)) :
    k0_pay5 x0 x1 x2 x3 (ix2 a b) = refG (F := Ideal) x (ix2 i b) := by
  unfold k0_pay5
  pointwise [k0_pay4, refG]
  simp only [h0, Fin.sum_univ_eight]
theorem blockM (h0 : ∀ j, x0 (ix3 j a b) = x (ix3 j i b)) (h2 : x2 (ix2 a b) = p (ix2 i b)) :
    out0_6 x0 x1 x2 x3 (ix2 a b) = refM (F := Ideal) x p (ix2 i b) := by
  unfold out0_6
  frame_out
  have e := pay5_at (x1 := x1) (x2 := x2) (x3 := x3) h0
  unfold refM
  generalize refG (F := Ideal) x = G at *
  generalize k0_pay5 x0 x1 x2 x3 = g at *
  pointwise [k0_pay1]
  rw [e, h2]
theorem blockV (h0 : ∀ j, x0 (ix3 j a b) = x (ix3 j i b)) (h3 : x3 (ix2 a b) = q (ix2 i b)) :
    out0_7 x0 x1 x2 x3 (ix2 a b) = refV (F := Ideal) x q (ix2 i b) := by
  unfold out0_7
  frame_out
  have e := pay5_at (x1 := x1) (x2 := x2) (x3 := x3) h0
  unfold refV
  generalize refG (F := Ideal) x = G at *
  generalize k0_pay5 x0 x1 x2 x3 = g at *
  pointwise [k0_pay2]
  rw [e, h3]
theorem blockD (h0 : ∀ j, x0 (ix3 j a b) = x (ix3 j i b)) (h1 : x1 (ix2 a b) = w (ix2 i b)) (h2 : x2 (ix2 a b) = p (ix2 i b))
    (h3 : x3 (ix2 a b) = q (ix2 i b)) :
    out0_5 x0 x1 x2 x3 (ix2 a b) = refD (F := Ideal) x w p q (ix2 i b) := by
  unfold out0_5
  frame_out
  have e := pay5_at (x1 := x1) (x2 := x2) (x3 := x3) h0
  unfold refD
  generalize refG (F := Ideal) x = G at *
  generalize k0_pay5 x0 x1 x2 x3 = g at *
  pointwise [k0_pay3, k0_pay1, k0_pay2]
  rw [e, h1, h2, h3]

end Block

variable (m : (ℓ : Loc nD τ sig) → Buf (Elt Ideal) ℓ) (c : Dev nD)

/-- The index maps, at a point: the row blocks advance. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that a block's row is. -/
def row (t : Fin cfg0.N) (a : Fin 256) : Fin 1024 := ⟨t.val * 256 + a.val, by have := t.isLt; have := NP; omega⟩

theorem ib0 (t : Fin cfg0.N) (j : Fin 8) (a : Fin 256) (b : Fin 768) :
    iblk m c 0 t (ix3 j a b) = m ((c : Thread nD τ).loc main_arg0) (ix3 j (row t a) b) := by
  unfold row; blk_ext [iblk, V, idx t]
theorem ib1 (t : Fin cfg0.N) (a : Fin 256) (b : Fin 768) :
    iblk m c 1 t (ix2 a b) = m ((c : Thread nD τ).loc main_arg1) (ix2 (row t a) b) := by
  unfold row; blk_ext [iblk, V, idx t]
theorem ib2 (t : Fin cfg0.N) (a : Fin 256) (b : Fin 768) :
    iblk m c 2 t (ix2 a b) = m ((c : Thread nD τ).loc main_arg2) (ix2 (row t a) b) := by
  unfold row; blk_ext [iblk, V, idx t]
theorem ib3 (t : Fin cfg0.N) (a : Fin 256) (b : Fin 768) :
    iblk m c 3 t (ix2 a b) = m ((c : Thread nD τ).loc main_arg3) (ix2 (row t a) b) := by
  unfold row; blk_ext [iblk, V, idx t]

/-- A row of the arrays is a block's. -/
theorem exists_row (i : Fin 1024) : ∃ t a, i = row t a :=
  ⟨⟨i.val / 256, by rw [NP]; omega⟩, ⟨i.val % 256, by omega⟩, Fin.ext (by show i.val = i.val / 256 * 256 + i.val % 256; omega)⟩

theorem read4 (G : Buf (Elt Ideal) ((c : Thread nD τ).loc main_v0_0)) (t : Fin cfg0.N) (a : Fin 256) (b : Fin 768) :
    ((cfg0.win 4).blk t).view.read (Elt Ideal) G (ix2 a b) = G (ix2 (row t a) b) := by
  unfold row; blk_ext [idx t]
theorem arr4 : (dats m 0 c).arrAt 4 cfg0.N = refG (F := Ideal) (m ((c : Thread nD τ).loc main_arg0)) := by
  funext i
  rw [eq_ix2 i]
  obtain ⟨t, a, e⟩ := exists_row (i 0)
  generalize i 1 = b
  rw [e]
  refine (read4 c _ t a b).symm.trans ?_
  rw [blocks4 m c t (flush0_4 t), flushed4]
  exact blockG (fun j => ib0 m c t j a b)

theorem read5 (G : Buf (Elt Ideal) ((c : Thread nD τ).loc main_v0_1)) (t : Fin cfg0.N) (a : Fin 256) (b : Fin 768) :
    ((cfg0.win 5).blk t).view.read (Elt Ideal) G (ix2 a b) = G (ix2 (row t a) b) := by
  unfold row; blk_ext [idx t]
theorem arr5 : (dats m 0 c).arrAt 5 cfg0.N = refD (F := Ideal) (m ((c : Thread nD τ).loc main_arg0)) (m ((c : Thread nD τ).loc main_arg1)) (m ((c : Thread nD τ).loc main_arg2)) (m ((c : Thread nD τ).loc main_arg3)) := by
  funext i
  rw [eq_ix2 i]
  obtain ⟨t, a, e⟩ := exists_row (i 0)
  generalize i 1 = b
  rw [e]
  refine (read5 c _ t a b).symm.trans ?_
  rw [blocks5 m c t (flush0_5 t), flushed5]
  exact blockD (fun j => ib0 m c t j a b) (ib1 m c t a b) (ib2 m c t a b) (ib3 m c t a b)

theorem read6 (G : Buf (Elt Ideal) ((c : Thread nD τ).loc main_v0_2)) (t : Fin cfg0.N) (a : Fin 256) (b : Fin 768) :
    ((cfg0.win 6).blk t).view.read (Elt Ideal) G (ix2 a b) = G (ix2 (row t a) b) := by
  unfold row; blk_ext [idx t]
theorem arr6 : (dats m 0 c).arrAt 6 cfg0.N = refM (F := Ideal) (m ((c : Thread nD τ).loc main_arg0)) (m ((c : Thread nD τ).loc main_arg2)) := by
  funext i
  rw [eq_ix2 i]
  obtain ⟨t, a, e⟩ := exists_row (i 0)
  generalize i 1 = b
  rw [e]
  refine (read6 c _ t a b).symm.trans ?_
  rw [blocks6 m c t (flush0_6 t), flushed6]
  exact blockM (fun j => ib0 m c t j a b) (ib2 m c t a b)

theorem read7 (G : Buf (Elt Ideal) ((c : Thread nD τ).loc main_v0_3)) (t : Fin cfg0.N) (a : Fin 256) (b : Fin 768) :
    ((cfg0.win 7).blk t).view.read (Elt Ideal) G (ix2 a b) = G (ix2 (row t a) b) := by
  unfold row; blk_ext [idx t]
theorem arr7 : (dats m 0 c).arrAt 7 cfg0.N = refV (F := Ideal) (m ((c : Thread nD τ).loc main_arg0)) (m ((c : Thread nD τ).loc main_arg3)) := by
  funext i
  rw [eq_ix2 i]
  obtain ⟨t, a, e⟩ := exists_row (i 0)
  generalize i 1 = b
  rw [e]
  refine (read7 c _ t a b).symm.trans ?_
  rw [blocks7 m c t (flush0_7 t), flushed7]
  exact blockV (fun j => ib0 m c t j a b) (ib3 m c t a b)

end Kernel

theorem algebraic : Cert.algebraic_Kernel8Ideal_Reference8Ideal := by
  intro m ρ m' ρ' _ hagree
  refine ⟨fun c => _, fun c => _, fun c => _, fun c => _, Cert.Kernel8Ideal.Value.run_blocks m ρ, ?_⟩
  refine (θ_run _ _ _).mono (fun r h c => ?_) (Cert.Reference8Ideal.Value.run m' ρ')
  obtain ⟨e0, e1, e2, e3, hk⟩ := h c
  obtain ⟨a0, a1, a2, a3⟩ := hagree c
  rw [a0] at e0
  rw [a0, a1, a2, a3] at e1
  rw [a0, a2] at e2
  rw [a0, a3] at e3
  exact ⟨e0.trans (arr4 m c).symm, e1.trans (arr5 m c).symm, e2.trans (arr6 m c).symm, e3.trans (arr7 m c).symm, hk⟩

end Cert.Hand8

end
-- ==== Proof.AdamAOut.lean ====
/- The optimiser's step for layer a's second weight: a point's block is the step of the summed parts' block. -/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand9

open Idealize.ShloMosaic Idealize.ShloMosaic.TcCoe Idealize.SL.Sem

section Reference

open Cert.Reference9Ideal Cert.Reference9Ideal.Gen

variable {F : FTy → Type} [FloatOps F]

/-- The reference's results, as terms of its arguments: the summed gradient, the step, the two moments. -/
def refG (x : FVec F S8x256x1024 .bf16) : FVec F S256x1024 .f32 :=
  Host.reduceAdd (extf .f32 x bitsLt_bf16_f32) (constant S_ .f32 0x00000000#32) reducesTo_S8x256x1024_S256x1024_d0 h_S_
def refD (x : FVec F S8x256x1024 .bf16) (w p q : FVec F S256x1024 .f32) : FVec F S256x1024 .f32 :=
  mulf (broadcastInDim S256x1024 ![] bcast_S_S256x1024 (constant S_ .f32 0xBA83126F#32)) (addf (Host.divf (Host.divf (addf (mulf (broadcastInDim S256x1024 ![] bcast_S_S256x1024 (constant S_ .f32 0x3F666666#32)) p) (mulf (broadcastInDim S256x1024 ![] bcast_S_S256x1024 (constant S_ .f32 0x3DCCCCCD#32)) (refG x))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) q) (mulf (broadcastInDim S256x1024 ![] bcast_S_S256x1024 (constant S_ .f32 0x3A83126F#32)) (mulf (refG x) (refG x)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w))
def refM (x : FVec F S8x256x1024 .bf16) (p : FVec F S256x1024 .f32) : FVec F S256x1024 .f32 :=
  addf (mulf (broadcastInDim S256x1024 ![] bcast_S_S256x1024 (constant S_ .f32 0x3F666666#32)) p) (mulf (broadcastInDim S256x1024 ![] bcast_S_S256x1024 (constant S_ .f32 0x3DCCCCCD#32)) (refG x))
def refV (x : FVec F S8x256x1024 .bf16) (q : FVec F S256x1024 .f32) : FVec F S256x1024 .f32 :=
  addf (mulf (broadcastInDim S256x1024 ![] bcast_S_S256x1024 (constant S_ .f32 0x3F7FBE77#32)) q) (mulf (broadcastInDim S256x1024 ![] bcast_S_S256x1024 (constant S_ .f32 0x3A83126F#32)) (mulf (refG x) (refG x)))

end Reference

section Kernel

open Cert.Kernel9Ideal Cert.Kernel9Ideal.Gen Cert.Kernel9Ideal.Value

theorem NP : cfg0.N = 1 := N_0

section Block

variable {x0 : Vec Ideal S8x256x1024 .bf16} {x1 x2 x3 : Vec Ideal S256x1024 .f32}
variable {x : Vec Ideal S8x256x1024 .bf16} {w p q : Vec Ideal S256x1024 .f32}
variable {a : Fin 256} {i : Fin 256} {b : Fin 1024}

/-- A block's entry of each result is the reference's, where the blocks hold the arrays' entries. -/
theorem blockG (h0 : ∀ j, x0 (ix3 j a b) = x (ix3 j i b)) :
    out0_4 x0 x1 x2 x3 (ix2 a b) = refG (F := Ideal) x (ix2 i b) := by
  unfold out0_4
  frame_out
  pointwise [k0_pay4, refG]
  simp only [h0, Fin.sum_univ_eight]
theorem pay5_at (h0 : ∀ j, x0 (ix3 j a b) = x (ix3 j i b)) :
    k0_pay5 x0 x1 x2 x3 (ix2 a b) = refG (F := Ideal) x (ix2 i b) := by
  unfold k0_pay5
  pointwise [k0_pay4, refG]
  simp only [h0, Fin.sum_univ_eight]
theorem blockM (h0 : ∀ j, x0 (ix3 j a b) = x (ix3 j i b)) (h2 : x2 (ix2 a b) = p (ix2 i b)) :
    out0_6 x0 x1 x2 x3 (ix2 a b) = refM (F := Ideal) x p (ix2 i b) := by
  unfold out0_6
  frame_out
  have e := pay5_at (x1 := x1) (x2 := x2) (x3 := x3) h0
  unfold refM
  generalize refG (F := Ideal) x = G at *
  generalize k0_pay5 x0 x1 x2 x3 = g at *
  pointwise [k0_pay1]
  rw [e, h2]
theorem blockV (h0 : ∀ j, x0 (ix3 j a b) = x (ix3 j i b)) (h3 : x3 (ix2 a b) = q (ix2 i b)) :
    out0_7 x0 x1 x2 x3 (ix2 a b) = refV (F := Ideal) x q (ix2 i b) := by
  unfold out0_7
  frame_out
  have e := pay5_at (x1 := x1) (x2 := x2) (x3 := x3) h0
  unfold refV
  generalize refG (F := Ideal) x = G at *
  generalize k0_pay5 x0 x1 x2 x3 = g at *
  pointwise [k0_pay2]
  rw [e, h3]
theorem blockD (h0 : ∀ j, x0 (ix3 j a b) = x (ix3 j i b)) (h1 : x1 (ix2 a b) = w (ix2 i b)) (h2 : x2 (ix2 a b) = p (ix2 i b))
    (h3 : x3 (ix2 a b) = q (ix2 i b)) :
    out0_5 x0 x1 x2 x3 (ix2 a b) = refD (F := Ideal) x w p q (ix2 i b) := by
  unfold out0_5
  frame_out
  have e := pay5_at (x1 := x1) (x2 := x2) (x3 := x3) h0
  unfold refD
  generalize refG (F := Ideal) x = G at *
  generalize k0_pay5 x0 x1 x2 x3 = g at *
  pointwise [k0_pay3, k0_pay1, k0_pay2]
  rw [e, h1, h2, h3]

end Block

variable (m : (ℓ : Loc nD τ sig) → Buf (Elt Ideal) ℓ) (c : Dev nD)

/-- The index maps, at a point: the row blocks advance. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that a block's row is. -/
def row (t : Fin cfg0.N) (a : Fin 256) : Fin 256 := ⟨t.val * 256 + a.val, by have := t.isLt; have := NP; omega⟩

theorem ib0 (t : Fin cfg0.N) (j : Fin 8) (a : Fin 256) (b : Fin 1024) :
    iblk m c 0 t (ix3 j a b) = m ((c : Thread nD τ).loc main_arg0) (ix3 j (row t a) b) := by
  unfold row; blk_ext [iblk, V, idx t]
theorem ib1 (t : Fin cfg0.N) (a : Fin 256) (b : Fin 1024) :
    iblk m c 1 t (ix2 a b) = m ((c : Thread nD τ).loc main_arg1) (ix2 (row t a) b) := by
  unfold row; blk_ext [iblk, V, idx t]
theorem ib2 (t : Fin cfg0.N) (a : Fin 256) (b : Fin 1024) :
    iblk m c 2 t (ix2 a b) = m ((c : Thread nD τ).loc main_arg2) (ix2 (row t a) b) := by
  unfold row; blk_ext [iblk, V, idx t]
theorem ib3 (t : Fin cfg0.N) (a : Fin 256) (b : Fin 1024) :
    iblk m c 3 t (ix2 a b) = m ((c : Thread nD τ).loc main_arg3) (ix2 (row t a) b) := by
  unfold row; blk_ext [iblk, V, idx t]

/-- A row of the arrays is a block's. -/
theorem exists_row (i : Fin 256) : ∃ t a, i = row t a :=
  ⟨⟨i.val / 256, by rw [NP]; omega⟩, ⟨i.val % 256, by omega⟩, Fin.ext (by show i.val = i.val / 256 * 256 + i.val % 256; omega)⟩

theorem read4 (G : Buf (Elt Ideal) ((c : Thread nD τ).loc main_v0_0)) (t : Fin cfg0.N) (a : Fin 256) (b : Fin 1024) :
    ((cfg0.win 4).blk t).view.read (Elt Ideal) G (ix2 a b) = G (ix2 (row t a) b) := by
  unfold row; blk_ext [idx t]
theorem arr4 : (dats m 0 c).arrAt 4 cfg0.N = refG (F := Ideal) (m ((c : Thread nD τ).loc main_arg0)) := by
  funext i
  rw [eq_ix2 i]
  obtain ⟨t, a, e⟩ := exists_row (i 0)
  generalize i 1 = b
  rw [e]
  refine (read4 c _ t a b).symm.trans ?_
  rw [blocks4 m c t (flush0_4 t), flushed4]
  exact blockG (fun j => ib0 m c t j a b)

theorem read5 (G : Buf (Elt Ideal) ((c : Thread nD τ).loc main_v0_1)) (t : Fin cfg0.N) (a : Fin 256) (b : Fin 1024) :
    ((cfg0.win 5).blk t).view.read (Elt Ideal) G (ix2 a b) = G (ix2 (row t a) b) := by
  unfold row; blk_ext [idx t]
theorem arr5 : (dats m 0 c).arrAt 5 cfg0.N = refD (F := Ideal) (m ((c : Thread nD τ).loc main_arg0)) (m ((c : Thread nD τ).loc main_arg1)) (m ((c : Thread nD τ).loc main_arg2)) (m ((c : Thread nD τ).loc main_arg3)) := by
  funext i
  rw [eq_ix2 i]
  obtain ⟨t, a, e⟩ := exists_row (i 0)
  generalize i 1 = b
  rw [e]
  refine (read5 c _ t a b).symm.trans ?_
  rw [blocks5 m c t (flush0_5 t), flushed5]
  exact blockD (fun j => ib0 m c t j a b) (ib1 m c t a b) (ib2 m c t a b) (ib3 m c t a b)

theorem read6 (G : Buf (Elt Ideal) ((c : Thread nD τ).loc main_v0_2)) (t : Fin cfg0.N) (a : Fin 256) (b : Fin 1024) :
    ((cfg0.win 6).blk t).view.read (Elt Ideal) G (ix2 a b) = G (ix2 (row t a) b) := by
  unfold row; blk_ext [idx t]
theorem arr6 : (dats m 0 c).arrAt 6 cfg0.N = refM (F := Ideal) (m ((c : Thread nD τ).loc main_arg0)) (m ((c : Thread nD τ).loc main_arg2)) := by
  funext i
  rw [eq_ix2 i]
  obtain ⟨t, a, e⟩ := exists_row (i 0)
  generalize i 1 = b
  rw [e]
  refine (read6 c _ t a b).symm.trans ?_
  rw [blocks6 m c t (flush0_6 t), flushed6]
  exact blockM (fun j => ib0 m c t j a b) (ib2 m c t a b)

theorem read7 (G : Buf (Elt Ideal) ((c : Thread nD τ).loc main_v0_3)) (t : Fin cfg0.N) (a : Fin 256) (b : Fin 1024) :
    ((cfg0.win 7).blk t).view.read (Elt Ideal) G (ix2 a b) = G (ix2 (row t a) b) := by
  unfold row; blk_ext [idx t]
theorem arr7 : (dats m 0 c).arrAt 7 cfg0.N = refV (F := Ideal) (m ((c : Thread nD τ).loc main_arg0)) (m ((c : Thread nD τ).loc main_arg3)) := by
  funext i
  rw [eq_ix2 i]
  obtain ⟨t, a, e⟩ := exists_row (i 0)
  generalize i 1 = b
  rw [e]
  refine (read7 c _ t a b).symm.trans ?_
  rw [blocks7 m c t (flush0_7 t), flushed7]
  exact blockV (fun j => ib0 m c t j a b) (ib3 m c t a b)

end Kernel

theorem algebraic : Cert.algebraic_Kernel9Ideal_Reference9Ideal := by
  intro m ρ m' ρ' _ hagree
  refine ⟨fun c => _, fun c => _, fun c => _, fun c => _, Cert.Kernel9Ideal.Value.run_blocks m ρ, ?_⟩
  refine (θ_run _ _ _).mono (fun r h c => ?_) (Cert.Reference9Ideal.Value.run m' ρ')
  obtain ⟨e0, e1, e2, e3, hk⟩ := h c
  obtain ⟨a0, a1, a2, a3⟩ := hagree c
  rw [a0] at e0
  rw [a0, a1, a2, a3] at e1
  rw [a0, a2] at e2
  rw [a0, a3] at e3
  exact ⟨e0.trans (arr4 m c).symm, e1.trans (arr5 m c).symm, e2.trans (arr6 m c).symm, e3.trans (arr7 m c).symm, hk⟩

end Cert.Hand9

end
-- ==== Proof.AdamBOut.lean ====
/- The optimiser's step for layer b's second weight: a point's block is the step of the summed parts' block. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand10

open Idealize.ShloMosaic Idealize.ShloMosaic.TcCoe Idealize.SL.Sem

section Reference

open Cert.Reference10Ideal Cert.Reference10Ideal.Gen

variable {F : FTy → Type} [FloatOps F]

/-- The reference's results, as terms of its arguments: the summed gradient, the step, the two moments. -/
def refG (x : FVec F S8x256x1024 .bf16) : FVec F S256x1024 .f32 :=
  Host.reduceAdd (extf .f32 x bitsLt_bf16_f32) (constant S_ .f32 0x00000000#32) reducesTo_S8x256x1024_S256x1024_d0 h_S_
def refD (x : FVec F S8x256x1024 .bf16) (w p q : FVec F S256x1024 .f32) : FVec F S256x1024 .f32 :=
  mulf (broadcastInDim S256x1024 ![] bcast_S_S256x1024 (constant S_ .f32 0xBA83126F#32)) (addf (Host.divf (Host.divf (addf (mulf (broadcastInDim S256x1024 ![] bcast_S_S256x1024 (constant S_ .f32 0x3F666666#32)) p) (mulf (broadcastInDim S256x1024 ![] bcast_S_S256x1024 (constant S_ .f32 0x3DCCCCCD#32)) (refG x))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) q) (mulf (broadcastInDim S256x1024 ![] bcast_S_S256x1024 (constant S_ .f32 0x3A83126F#32)) (mulf (refG x) (refG x)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w))
def refM (x : FVec F S8x256x1024 .bf16) (p : FVec F S256x1024 .f32) : FVec F S256x1024 .f32 :=
  addf (mulf (broadcastInDim S256x1024 ![] bcast_S_S256x1024 (constant S_ .f32 0x3F666666#32)) p) (mulf (broadcastInDim S256x1024 ![] bcast_S_S256x1024 (constant S_ .f32 0x3DCCCCCD#32)) (refG x))
def refV (x : FVec F S8x256x1024 .bf16) (q : FVec F S256x1024 .f32) : FVec F S256x1024 .f32 :=
  addf (mulf (broadcastInDim S256x1024 ![] bcast_S_S256x1024 (constant S_ .f32 0x3F7FBE77#32)) q) (mulf (broadcastInDim S256x1024 ![] bcast_S_S256x1024 (constant S_ .f32 0x3A83126F#32)) (mulf (refG x) (refG x)))

end Reference

section Kernel

open Cert.Kernel10Ideal Cert.Kernel10Ideal.Gen Cert.Kernel10Ideal.Value

theorem NP : cfg0.N = 1 := N_0

section Block

variable {x0 : Vec Ideal S8x256x1024 .bf16} {x1 x2 x3 : Vec Ideal S256x1024 .f32}
variable {x : Vec Ideal S8x256x1024 .bf16} {w p q : Vec Ideal S256x1024 .f32}
variable {a : Fin 256} {i : Fin 256} {b : Fin 1024}

/-- A block's entry of each result is the reference's, where the blocks hold the arrays' entries. -/
theorem blockG (h0 : ∀ j, x0 (ix3 j a b) = x (ix3 j i b)) :
    out0_4 x0 x1 x2 x3 (ix2 a b) = refG (F := Ideal) x (ix2 i b) := by
  unfold out0_4
  frame_out
  pointwise [k0_pay4, refG]
  simp only [h0, Fin.sum_univ_eight]
theorem pay5_at (h0 : ∀ j, x0 (ix3 j a b) = x (ix3 j i b)) :
    k0_pay5 x0 x1 x2 x3 (ix2 a b) = refG (F := Ideal) x (ix2 i b) := by
  unfold k0_pay5
  pointwise [k0_pay4, refG]
  simp only [h0, Fin.sum_univ_eight]
theorem blockM (h0 : ∀ j, x0 (ix3 j a b) = x (ix3 j i b)) (h2 : x2 (ix2 a b) = p (ix2 i b)) :
    out0_6 x0 x1 x2 x3 (ix2 a b) = refM (F := Ideal) x p (ix2 i b) := by
  unfold out0_6
  frame_out
  have e := pay5_at (x1 := x1) (x2 := x2) (x3 := x3) h0
  unfold refM
  generalize refG (F := Ideal) x = G at *
  generalize k0_pay5 x0 x1 x2 x3 = g at *
  pointwise [k0_pay1]
  rw [e, h2]
theorem blockV (h0 : ∀ j, x0 (ix3 j a b) = x (ix3 j i b)) (h3 : x3 (ix2 a b) = q (ix2 i b)) :
    out0_7 x0 x1 x2 x3 (ix2 a b) = refV (F := Ideal) x q (ix2 i b) := by
  unfold out0_7
  frame_out
  have e := pay5_at (x1 := x1) (x2 := x2) (x3 := x3) h0
  unfold refV
  generalize refG (F := Ideal) x = G at *
  generalize k0_pay5 x0 x1 x2 x3 = g at *
  pointwise [k0_pay2]
  rw [e, h3]
theorem blockD (h0 : ∀ j, x0 (ix3 j a b) = x (ix3 j i b)) (h1 : x1 (ix2 a b) = w (ix2 i b)) (h2 : x2 (ix2 a b) = p (ix2 i b))
    (h3 : x3 (ix2 a b) = q (ix2 i b)) :
    out0_5 x0 x1 x2 x3 (ix2 a b) = refD (F := Ideal) x w p q (ix2 i b) := by
  unfold out0_5
  frame_out
  have e := pay5_at (x1 := x1) (x2 := x2) (x3 := x3) h0
  unfold refD
  generalize refG (F := Ideal) x = G at *
  generalize k0_pay5 x0 x1 x2 x3 = g at *
  pointwise [k0_pay3, k0_pay1, k0_pay2]
  rw [e, h1, h2, h3]

end Block

variable (m : (ℓ : Loc nD τ sig) → Buf (Elt Ideal) ℓ) (c : Dev nD)

/-- The index maps, at a point: the row blocks advance. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that a block's row is. -/
def row (t : Fin cfg0.N) (a : Fin 256) : Fin 256 := ⟨t.val * 256 + a.val, by have := t.isLt; have := NP; omega⟩

theorem ib0 (t : Fin cfg0.N) (j : Fin 8) (a : Fin 256) (b : Fin 1024) :
    iblk m c 0 t (ix3 j a b) = m ((c : Thread nD τ).loc main_arg0) (ix3 j (row t a) b) := by
  unfold row; blk_ext [iblk, V, idx t]
theorem ib1 (t : Fin cfg0.N) (a : Fin 256) (b : Fin 1024) :
    iblk m c 1 t (ix2 a b) = m ((c : Thread nD τ).loc main_arg1) (ix2 (row t a) b) := by
  unfold row; blk_ext [iblk, V, idx t]
theorem ib2 (t : Fin cfg0.N) (a : Fin 256) (b : Fin 1024) :
    iblk m c 2 t (ix2 a b) = m ((c : Thread nD τ).loc main_arg2) (ix2 (row t a) b) := by
  unfold row; blk_ext [iblk, V, idx t]
theorem ib3 (t : Fin cfg0.N) (a : Fin 256) (b : Fin 1024) :
    iblk m c 3 t (ix2 a b) = m ((c : Thread nD τ).loc main_arg3) (ix2 (row t a) b) := by
  unfold row; blk_ext [iblk, V, idx t]

/-- A row of the arrays is a block's. -/
theorem exists_row (i : Fin 256) : ∃ t a, i = row t a :=
  ⟨⟨i.val / 256, by rw [NP]; omega⟩, ⟨i.val % 256, by omega⟩, Fin.ext (by show i.val = i.val / 256 * 256 + i.val % 256; omega)⟩

theorem read4 (G : Buf (Elt Ideal) ((c : Thread nD τ).loc main_v0_0)) (t : Fin cfg0.N) (a : Fin 256) (b : Fin 1024) :
    ((cfg0.win 4).blk t).view.read (Elt Ideal) G (ix2 a b) = G (ix2 (row t a) b) := by
  unfold row; blk_ext [idx t]
theorem arr4 : (dats m 0 c).arrAt 4 cfg0.N = refG (F := Ideal) (m ((c : Thread nD τ).loc main_arg0)) := by
  funext i
  rw [eq_ix2 i]
  obtain ⟨t, a, e⟩ := exists_row (i 0)
  generalize i 1 = b
  rw [e]
  refine (read4 c _ t a b).symm.trans ?_
  rw [blocks4 m c t (flush0_4 t), flushed4]
  exact blockG (fun j => ib0 m c t j a b)

theorem read5 (G : Buf (Elt Ideal) ((c : Thread nD τ).loc main_v0_1)) (t : Fin cfg0.N) (a : Fin 256) (b : Fin 1024) :
    ((cfg0.win 5).blk t).view.read (Elt Ideal) G (ix2 a b) = G (ix2 (row t a) b) := by
  unfold row; blk_ext [idx t]
theorem arr5 : (dats m 0 c).arrAt 5 cfg0.N = refD (F := Ideal) (m ((c : Thread nD τ).loc main_arg0)) (m ((c : Thread nD τ).loc main_arg1)) (m ((c : Thread nD τ).loc main_arg2)) (m ((c : Thread nD τ).loc main_arg3)) := by
  funext i
  rw [eq_ix2 i]
  obtain ⟨t, a, e⟩ := exists_row (i 0)
  generalize i 1 = b
  rw [e]
  refine (read5 c _ t a b).symm.trans ?_
  rw [blocks5 m c t (flush0_5 t), flushed5]
  exact blockD (fun j => ib0 m c t j a b) (ib1 m c t a b) (ib2 m c t a b) (ib3 m c t a b)

theorem read6 (G : Buf (Elt Ideal) ((c : Thread nD τ).loc main_v0_2)) (t : Fin cfg0.N) (a : Fin 256) (b : Fin 1024) :
    ((cfg0.win 6).blk t).view.read (Elt Ideal) G (ix2 a b) = G (ix2 (row t a) b) := by
  unfold row; blk_ext [idx t]
theorem arr6 : (dats m 0 c).arrAt 6 cfg0.N = refM (F := Ideal) (m ((c : Thread nD τ).loc main_arg0)) (m ((c : Thread nD τ).loc main_arg2)) := by
  funext i
  rw [eq_ix2 i]
  obtain ⟨t, a, e⟩ := exists_row (i 0)
  generalize i 1 = b
  rw [e]
  refine (read6 c _ t a b).symm.trans ?_
  rw [blocks6 m c t (flush0_6 t), flushed6]
  exact blockM (fun j => ib0 m c t j a b) (ib2 m c t a b)

theorem read7 (G : Buf (Elt Ideal) ((c : Thread nD τ).loc main_v0_3)) (t : Fin cfg0.N) (a : Fin 256) (b : Fin 1024) :
    ((cfg0.win 7).blk t).view.read (Elt Ideal) G (ix2 a b) = G (ix2 (row t a) b) := by
  unfold row; blk_ext [idx t]
theorem arr7 : (dats m 0 c).arrAt 7 cfg0.N = refV (F := Ideal) (m ((c : Thread nD τ).loc main_arg0)) (m ((c : Thread nD τ).loc main_arg3)) := by
  funext i
  rw [eq_ix2 i]
  obtain ⟨t, a, e⟩ := exists_row (i 0)
  generalize i 1 = b
  rw [e]
  refine (read7 c _ t a b).symm.trans ?_
  rw [blocks7 m c t (flush0_7 t), flushed7]
  exact blockV (fun j => ib0 m c t j a b) (ib3 m c t a b)

end Kernel

theorem algebraic : Cert.algebraic_Kernel10Ideal_Reference10Ideal := by
  intro m ρ m' ρ' _ hagree
  refine ⟨fun c => _, fun c => _, fun c => _, fun c => _, Cert.Kernel10Ideal.Value.run_blocks m ρ, ?_⟩
  refine (θ_run _ _ _).mono (fun r h c => ?_) (Cert.Reference10Ideal.Value.run m' ρ')
  obtain ⟨e0, e1, e2, e3, hk⟩ := h c
  obtain ⟨a0, a1, a2, a3⟩ := hagree c
  rw [a0] at e0
  rw [a0, a1, a2, a3] at e1
  rw [a0, a2] at e2
  rw [a0, a3] at e3
  exact ⟨e0.trans (arr4 m c).symm, e1.trans (arr5 m c).symm, e2.trans (arr6 m c).symm, e3.trans (arr7 m c).symm, hk⟩

end Cert.Hand10

end
-- ==== Proof.AdamMod.lean ====
/- The optimiser's step for the modulation's weight: a point's block is the step of the summed parts' block. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand11

open Idealize.ShloMosaic Idealize.ShloMosaic.TcCoe Idealize.SL.Sem

section Reference

open Cert.Reference11Ideal Cert.Reference11Ideal.Gen

variable {F : FTy → Type} [FloatOps F]

/-- The reference's results, as terms of its arguments: the summed gradient, the step, the two moments. -/
def refG (x : FVec F S1x2048x384 .f32) : FVec F S2048x384 .f32 :=
  Host.reduceAdd x (constant S_ .f32 0x00000000#32) reducesTo_S1x2048x384_S2048x384_d0 h_S_
def refD (x : FVec F S1x2048x384 .f32) (w p q : FVec F S2048x384 .f32) : FVec F S2048x384 .f32 :=
  mulf (broadcastInDim S2048x384 ![] bcast_S_S2048x384 (constant S_ .f32 0xBA83126F#32)) (addf (Host.divf (Host.divf (addf (mulf (broadcastInDim S2048x384 ![] bcast_S_S2048x384 (constant S_ .f32 0x3F666666#32)) p) (mulf (broadcastInDim S2048x384 ![] bcast_S_S2048x384 (constant S_ .f32 0x3DCCCCCD#32)) (refG x))) (broadcastInDim S2048x384 ![] bcast_S_S2048x384 (constant S_ .f32 0x3F26BD02#32))) (addf (Host.sqrt (Host.divf (addf (mulf (broadcastInDim S2048x384 ![] bcast_S_S2048x384 (constant S_ .f32 0x3F7FBE77#32)) q) (mulf (broadcastInDim S2048x384 ![] bcast_S_S2048x384 (constant S_ .f32 0x3A83126F#32)) (mulf (refG x) (refG x)))) (broadcastInDim S2048x384 ![] bcast_S_S2048x384 (constant S_ .f32 0x3C231ACC#32)))) (broadcastInDim S2048x384 ![] bcast_S_S2048x384 (constant S_ .f32 0x322BCC77#32)))) (mulf (broadcastInDim S2048x384 ![] bcast_S_S2048x384 (constant S_ .f32 0x3C23D70A#32)) w))
def refM (x : FVec F S1x2048x384 .f32) (p : FVec F S2048x384 .f32) : FVec F S2048x384 .f32 :=
  addf (mulf (broadcastInDim S2048x384 ![] bcast_S_S2048x384 (constant S_ .f32 0x3F666666#32)) p) (mulf (broadcastInDim S2048x384 ![] bcast_S_S2048x384 (constant S_ .f32 0x3DCCCCCD#32)) (refG x))
def refV (x : FVec F S1x2048x384 .f32) (q : FVec F S2048x384 .f32) : FVec F S2048x384 .f32 :=
  addf (mulf (broadcastInDim S2048x384 ![] bcast_S_S2048x384 (constant S_ .f32 0x3F7FBE77#32)) q) (mulf (broadcastInDim S2048x384 ![] bcast_S_S2048x384 (constant S_ .f32 0x3A83126F#32)) (mulf (refG x) (refG x)))

end Reference

section Kernel

open Cert.Kernel11Ideal Cert.Kernel11Ideal.Gen Cert.Kernel11Ideal.Value

theorem NP : cfg0.N = 8 := N_0

section Block

variable {x0 : Vec Ideal S1x256x384 .f32} {x1 x2 x3 : Vec Ideal S256x384 .f32}
variable {x : Vec Ideal S1x2048x384 .f32} {w p q : Vec Ideal S2048x384 .f32}
variable {a : Fin 256} {i : Fin 2048} {b : Fin 384}

/-- A block's entry of each result is the reference's, where the blocks hold the arrays' entries. -/
theorem pay1_at (h0 : ∀ j, x0 (ix3 j a b) = x (ix3 j i b)) :
    k0_pay1 x0 (ix2 a b) = refG (F := Ideal) x (ix2 i b) := by
  pointwise [k0_pay1, refG]
  simp only [h0, Fin.sum_univ_one]
theorem blockG (h0 : ∀ j, x0 (ix3 j a b) = x (ix3 j i b)) :
    out0_4 x0 x1 x2 x3 (ix2 a b) = refG (F := Ideal) x (ix2 i b) := by
  unfold out0_4
  frame_out
  exact pay1_at h0
theorem blockM (h0 : ∀ j, x0 (ix3 j a b) = x (ix3 j i b)) (h2 : x2 (ix2 a b) = p (ix2 i b)) :
    out0_6 x0 x1 x2 x3 (ix2 a b) = refM (F := Ideal) x p (ix2 i b) := by
  unfold out0_6
  frame_out
  have e := pay1_at h0
  unfold refM k0_pay2
  generalize refG (F := Ideal) x = G at *
  generalize k0_pay1 x0 = g at *
  pointwise
  rw [e, h2]
theorem blockV (h0 : ∀ j, x0 (ix3 j a b) = x (ix3 j i b)) (h3 : x3 (ix2 a b) = q (ix2 i b)) :
    out0_7 x0 x1 x2 x3 (ix2 a b) = refV (F := Ideal) x q (ix2 i b) := by
  unfold out0_7
  frame_out
  have e := pay1_at h0
  unfold refV k0_pay3
  generalize refG (F := Ideal) x = G at *
  generalize k0_pay1 x0 = g at *
  pointwise
  rw [e, h3]
theorem blockD (h0 : ∀ j, x0 (ix3 j a b) = x (ix3 j i b)) (h1 : x1 (ix2 a b) = w (ix2 i b)) (h2 : x2 (ix2 a b) = p (ix2 i b))
    (h3 : x3 (ix2 a b) = q (ix2 i b)) :
    out0_5 x0 x1 x2 x3 (ix2 a b) = refD (F := Ideal) x w p q (ix2 i b) := by
  unfold out0_5
  frame_out
  have e := pay1_at h0
  unfold refD k0_pay4 k0_pay2 k0_pay3
  generalize refG (F := Ideal) x = G at *
  generalize k0_pay1 x0 = g at *
  pointwise
  rw [e, h1, h2, h3]

end Block

variable (m : (ℓ : Loc nD τ sig) → Buf (Elt Ideal) ℓ) (c : Dev nD)

/-- The index maps, at a point: the row blocks advance. -/
theorem idx : ∀ t : Fin cfg0.N, win0_0.index t = ![0, t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The array's row that a block's row is. -/
def row (t : Fin cfg0.N) (a : Fin 256) : Fin 2048 := ⟨t.val * 256 + a.val, by have := t.isLt; have := NP; omega⟩

theorem ib0 (t : Fin cfg0.N) (j : Fin 1) (a : Fin 256) (b : Fin 384) :
    iblk m c 0 t (ix3 j a b) = m ((c : Thread nD τ).loc main_arg0) (ix3 j (row t a) b) := by
  unfold row; blk_ext [iblk, V, idx t]
theorem ib1 (t : Fin cfg0.N) (a : Fin 256) (b : Fin 384) :
    iblk m c 1 t (ix2 a b) = m ((c : Thread nD τ).loc main_arg1) (ix2 (row t a) b) := by
  unfold row; blk_ext [iblk, V, idx t]
theorem ib2 (t : Fin cfg0.N) (a : Fin 256) (b : Fin 384) :
    iblk m c 2 t (ix2 a b) = m ((c : Thread nD τ).loc main_arg2) (ix2 (row t a) b) := by
  unfold row; blk_ext [iblk, V, idx t]
theorem ib3 (t : Fin cfg0.N) (a : Fin 256) (b : Fin 384) :
    iblk m c 3 t (ix2 a b) = m ((c : Thread nD τ).loc main_arg3) (ix2 (row t a) b) := by
  unfold row; blk_ext [iblk, V, idx t]

/-- A row of the arrays is a block's. -/
theorem exists_row (i : Fin 2048) : ∃ t a, i = row t a :=
  ⟨⟨i.val / 256, by rw [NP]; omega⟩, ⟨i.val % 256, by omega⟩, Fin.ext (by show i.val = i.val / 256 * 256 + i.val % 256; omega)⟩

theorem read4 (G : Buf (Elt Ideal) ((c : Thread nD τ).loc main_v0_0)) (t : Fin cfg0.N) (a : Fin 256) (b : Fin 384) :
    ((cfg0.win 4).blk t).view.read (Elt Ideal) G (ix2 a b) = G (ix2 (row t a) b) := by
  unfold row; blk_ext [idx t]
theorem arr4 : (dats m 0 c).arrAt 4 cfg0.N = refG (F := Ideal) (m ((c : Thread nD τ).loc main_arg0)) := by
  funext i
  rw [eq_ix2 i]
  obtain ⟨t, a, e⟩ := exists_row (i 0)
  generalize i 1 = b
  rw [e]
  refine (read4 c _ t a b).symm.trans ?_
  rw [blocks4 m c t (flush0_4 t), flushed4]
  exact blockG (fun j => ib0 m c t j a b)

theorem read5 (G : Buf (Elt Ideal) ((c : Thread nD τ).loc main_v0_1)) (t : Fin cfg0.N) (a : Fin 256) (b : Fin 384) :
    ((cfg0.win 5).blk t).view.read (Elt Ideal) G (ix2 a b) = G (ix2 (row t a) b) := by
  unfold row; blk_ext [idx t]
theorem arr5 : (dats m 0 c).arrAt 5 cfg0.N = refD (F := Ideal) (m ((c : Thread nD τ).loc main_arg0)) (m ((c : Thread nD τ).loc main_arg1)) (m ((c : Thread nD τ).loc main_arg2)) (m ((c : Thread nD τ).loc main_arg3)) := by
  funext i
  rw [eq_ix2 i]
  obtain ⟨t, a, e⟩ := exists_row (i 0)
  generalize i 1 = b
  rw [e]
  refine (read5 c _ t a b).symm.trans ?_
  rw [blocks5 m c t (flush0_5 t), flushed5]
  exact blockD (fun j => ib0 m c t j a b) (ib1 m c t a b) (ib2 m c t a b) (ib3 m c t a b)

theorem read6 (G : Buf (Elt Ideal) ((c : Thread nD τ).loc main_v0_2)) (t : Fin cfg0.N) (a : Fin 256) (b : Fin 384) :
    ((cfg0.win 6).blk t).view.read (Elt Ideal) G (ix2 a b) = G (ix2 (row t a) b) := by
  unfold row; blk_ext [idx t]
theorem arr6 : (dats m 0 c).arrAt 6 cfg0.N = refM (F := Ideal) (m ((c : Thread nD τ).loc main_arg0)) (m ((c : Thread nD τ).loc main_arg2)) := by
  funext i
  rw [eq_ix2 i]
  obtain ⟨t, a, e⟩ := exists_row (i 0)
  generalize i 1 = b
  rw [e]
  refine (read6 c _ t a b).symm.trans ?_
  rw [blocks6 m c t (flush0_6 t), flushed6]
  exact blockM (fun j => ib0 m c t j a b) (ib2 m c t a b)

theorem read7 (G : Buf (Elt Ideal) ((c : Thread nD τ).loc main_v0_3)) (t : Fin cfg0.N) (a : Fin 256) (b : Fin 384) :
    ((cfg0.win 7).blk t).view.read (Elt Ideal) G (ix2 a b) = G (ix2 (row t a) b) := by
  unfold row; blk_ext [idx t]
theorem arr7 : (dats m 0 c).arrAt 7 cfg0.N = refV (F := Ideal) (m ((c : Thread nD τ).loc main_arg0)) (m ((c : Thread nD τ).loc main_arg3)) := by
  funext i
  rw [eq_ix2 i]
  obtain ⟨t, a, e⟩ := exists_row (i 0)
  generalize i 1 = b
  rw [e]
  refine (read7 c _ t a b).symm.trans ?_
  rw [blocks7 m c t (flush0_7 t), flushed7]
  exact blockV (fun j => ib0 m c t j a b) (ib3 m c t a b)

end Kernel

theorem algebraic : Cert.algebraic_Kernel11Ideal_Reference11Ideal := by
  intro m ρ m' ρ' _ hagree
  refine ⟨fun c => _, fun c => _, fun c => _, fun c => _, Cert.Kernel11Ideal.Value.run_blocks m ρ, ?_⟩
  refine (θ_run _ _ _).mono (fun r h c => ?_) (Cert.Reference11Ideal.Value.run m' ρ')
  obtain ⟨e0, e1, e2, e3, hk⟩ := h c
  obtain ⟨a0, a1, a2, a3⟩ := hagree c
  rw [a0] at e0
  rw [a0, a1, a2, a3] at e1
  rw [a0, a2] at e2
  rw [a0, a3] at e3
  exact ⟨e0.trans (arr4 m c).symm, e1.trans (arr5 m c).symm, e2.trans (arr6 m c).symm, e3.trans (arr7 m c).symm, hk⟩

end Cert.Hand11

end
-- ==== Proof.ModGrad.lean ====
/- The modulation weight's gradient: an entry is the sum over the examples, at the kernel and at the reference. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand12

open Idealize.ShloMosaic Idealize.ShloMosaic.TcCoe Idealize.SL.Sem

section Reference

open Cert.Reference12Ideal Cert.Reference12Ideal.Gen

variable {F : FTy → Type} [FloatOps F]

/-- The reference's result, as a term of its arguments. -/
def ref (x : FVec F S1024x8 .f32) (y : FVec F S2x8x384 .f32) : FVec F S2x1024x384 .f32 :=
  transpose S2x1024x384 [0, 2, 1] (Host.dotGeneral dot_S2x384x8_S8x1024_S2x384x1024_2_0_01_1_n_n none (transpose S2x384x8 [0, 2, 1] y transposes_S2x8x384_S2x384x8_0_2_1) (transpose S8x1024 [1, 0] x transposes_S1024x8_S8x1024_1_0)) transposes_S2x384x1024_S2x1024x384_0_2_1

theorem ref_at (x : FVec Ideal S1024x8 .f32) (y : FVec Ideal S2x8x384 .f32) (l : Fin 2) (d : Fin 1024) (n : Fin 384) :
    ref (F := Ideal) x y (ix3 l d n) = ∑ b : Fin 8, (x (ix2 d b) * y (ix3 l b n) : EReal) := by
  pointwise [ref]
  exact Finset.sum_congr rfl fun b _ => mul_comm _ _

end Reference

section Kernel

open Cert.Kernel12Ideal Cert.Kernel12Ideal.Gen Cert.Kernel12Ideal.Value

variable (x : Vec Ideal S1024x8 .f32) (y : Vec Ideal S2x8x384 .f32)

/-- What each store writes: a layer's sums. -/
theorem layer1 (d : Fin 1024) (n : Fin 384) :
    k0_pay1 (k0_pay5 (k0_pay4 (View.ld x r0_0) (View.ld y r0_17)) (View.ld x r0_2) (View.ld y r0_18) (View.ld x r0_4) (View.ld y r0_19) (View.ld x r0_6) (View.ld y r0_20) (View.ld x r0_8) (View.ld y r0_21) (View.ld x r0_10) (View.ld y r0_22)) (View.ld x r0_12) (View.ld y r0_23) (View.ld x r0_14) (View.ld y r0_24) (ix3 0 d n)
      = ∑ b : Fin 8, (x (ix2 d b) * y (ix3 1 b n) : EReal) := by
  pointwise [k0_pay1, k0_pay4, k0_pay5]
  simp only [Fin.sum_univ_eight]

theorem layer0 (d : Fin 1024) (n : Fin 384) :
    k0_pay3 (k0_pay2 (View.ld x r0_0) (View.ld y r0_1) (View.ld x r0_2) (View.ld y r0_3) (View.ld x r0_4) (View.ld y r0_5) (View.ld x r0_6) (View.ld y r0_7) (View.ld x r0_8) (View.ld y r0_9)) (View.ld x r0_10) (View.ld y r0_11) (View.ld x r0_12) (View.ld y r0_13) (View.ld x r0_14) (View.ld y r0_15) (ix3 0 d n)
      = ∑ b : Fin 8, (x (ix2 d b) * y (ix3 0 b n) : EReal) := by
  pointwise [k0_pay2, k0_pay3]
  simp only [Fin.sum_univ_eight]

theorem at_index (l : Fin 2) (d : Fin 1024) (n : Fin 384) :
    G2 x y (ix3 l d n) = ∑ b : Fin 8, (x (ix2 d b) * y (ix3 l b n) : EReal) := by
  unfold G2
  canon_tiles z h using cover0_2 ..
  · obtain ⟨d', n', rfl⟩ : ∃ d' n', z = ix3 0 d' n' := ⟨z 1, z 2, by rw [eq_ix3 z]; exact congrArg (fun i => ix3 i (z 1) (z 2)) (Subsingleton.elim _ _)⟩
    obtain rfl : l = 1 := Fin.ext (show l.val = 1 from h0)
    obtain rfl : d = d' := Fin.ext h1
    obtain rfl : n = n' := Fin.ext h2
    exact layer1 x y d n
  · obtain ⟨d', n', rfl⟩ : ∃ d' n', z = ix3 0 d' n' := ⟨z 1, z 2, by rw [eq_ix3 z]; exact congrArg (fun i => ix3 i (z 1) (z 2)) (Subsingleton.elim _ _)⟩
    obtain rfl : l = 0 := Fin.ext (show l.val = 0 from h0)
    obtain rfl : d = d' := Fin.ext h1
    obtain rfl : n = n' := Fin.ext h2
    exact layer0 x y d n

theorem value : G2 x y = ref (F := Ideal) x y := by
  funext i
  rw [eq_ix3 i]
  exact (at_index x y (i 0) (i 1) (i 2)).trans (ref_at x y (i 0) (i 1) (i 2)).symm

end Kernel

theorem algebraic : Cert.algebraic_Kernel12Ideal_Reference12Ideal := by
  intro m ρ m' ρ' _ hagree
  refine ⟨fun c => _, Cert.Kernel12Ideal.Value.run m ρ, ?_⟩
  refine (θ_run _ _ _).mono (fun r h c => ?_) (Cert.Reference12Ideal.Value.run m' ρ')
  obtain ⟨e0, hk⟩ := h c
  obtain ⟨a0, a1⟩ := hagree c
  rw [a0, a1] at e0
  exact ⟨e0.trans (value _ _).symm, hk⟩

end Cert.Hand12

end
-- ==== Proof.AdamAIn.lean ====
/- The optimiser's step for layer a's first weight: a point's block is the step of the summed parts' block, the
parts of its rows being in the first or in the second array. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.Pointwise
public import Idealize.ShloMosaic.Lib.IdealHost
public import Idealize.ShloMosaic.Lib.Tactic.CleanTypes

@[expose] public section

set_option maxRecDepth 16384

noncomputable section

namespace Cert.Hand13

open Idealize.ShloMosaic Idealize.ShloMosaic.TcCoe Idealize.SL.Sem

section Reference

open Cert.Reference13Ideal Cert.Reference13Ideal.Gen

variable {F : FTy → Type} [FloatOps F]

/-- The reference's results, as terms of its arguments: the summed gradient, the step, the two moments. -/
def refG (x : FVec F S8x768x1024 .bf16) (y : FVec F S8x256x1024 .bf16) : FVec F S1024x1024 .f32 :=
  Host.reduceAdd (concatenate S8x1024x1024 1 [⟨S8x768x1024, (extf .f32 x bitsLt_bf16_f32)⟩, ⟨S8x256x1024, (extf .f32 y bitsLt_bf16_f32)⟩] concatenates_S8x768x1024_S8x256x1024_S8x1024x1024_d1) (constant S_ .f32 0x00000000#32) reducesTo_S8x1024x1024_S1024x1024_d0 h_S_
def refD (x : FVec F S8x768x1024 .bf16) (y : FVec F S8x256x1024 .bf16) (w p q : FVec F S1024x1024 .f32) : FVec F S1024x1024 .f32 :=
  mulf (broadcastInDim S1024x1024 ![] bcast_S_S1024x1024 (constant S_ .f32 0xBA83126F#32)) (addf (Host.divf (Host.divf (addf (mulf (broadcastInDim S1024x1024 ![] bcast_S_S1024x1024 (constant S_ .f32 0x3F666666#32)) p) (mulf (broadcastInDim S1024x1024 ![] bcast_S_S1024x1024 (constant S_ .f32 0x3DCCCCCD#32)) (refG x y))) (broadcastInDim S1024x1024 ![] bcast_S_S1024x1024 (constant S_ .f32 0x3F26BD02#32))) (addf (Host.sqrt (Host.divf (addf (mulf (broadcastInDim S1024x1024 ![] bcast_S_S1024x1024 (constant S_ .f32 0x3F7FBE77#32)) q) (mulf (broadcastInDim S1024x1024 ![] bcast_S_S1024x1024 (constant S_ .f32 0x3A83126F#32)) (mulf (refG x y) (refG x y)))) (broadcastInDim S1024x1024 ![] bcast_S_S1024x1024 (constant S_ .f32 0x3C231ACC#32)))) (broadcastInDim S1024x1024 ![] bcast_S_S1024x1024 (constant S_ .f32 0x322BCC77#32)))) (mulf (broadcastInDim S1024x1024 ![] bcast_S_S1024x1024 (constant S_ .f32 0x3C23D70A#32)) w))
def refM (x : FVec F S8x768x1024 .bf16) (y : FVec F S8x256x1024 .bf16) (p : FVec F S1024x1024 .f32) : FVec F S1024x1024 .f32 :=
  addf (mulf (broadcastInDim S1024x1024 ![] bcast_S_S1024x1024 (constant S_ .f32 0x3F666666#32)) p) (mulf (broadcastInDim S1024x1024 ![] bcast_S_S1024x1024 (constant S_ .f32 0x3DCCCCCD#32)) (refG x y))
def refV (x : FVec F S8x768x1024 .bf16) (y : FVec F S8x256x1024 .bf16) (q : FVec F S1024x1024 .f32) : FVec F S1024x1024 .f32 :=
  addf (mulf (broadcastInDim S1024x1024 ![] bcast_S_S1024x1024 (constant S_ .f32 0x3F7FBE77#32)) q) (mulf (broadcastInDim S1024x1024 ![] bcast_S_S1024x1024 (constant S_ .f32 0x3A83126F#32)) (mulf (refG x y) (refG x y)))

/-- A part's entry, in the first array or in the second. -/
def part (x : FVec Ideal S8x768x1024 .bf16) (y : FVec Ideal S8x256x1024 .bf16) (j : Fin 8) (i b : Fin 1024) : EReal :=
  if h : i.val < 768 then x (ix3 j ⟨i.val, h⟩ b) else y (ix3 j ⟨i.val - 768, by omega⟩ b)

theorem refG_at (x : FVec Ideal S8x768x1024 .bf16) (y : FVec Ideal S8x256x1024 .bf16) (i b : Fin 1024) :
    refG (F := Ideal) x y (ix2 i b) = ∑ j : Fin 8, part x y j i b := by
  pointwise [refG]
  rfl

end Reference

section Kernel

open Cert.Kernel13Ideal Cert.Kernel13Ideal.Gen Cert.Kernel13Ideal.Value

theorem NP : cfg0.N = 8 := N_0

/-- The first six points take the first array's sums, the last two the second's. -/
theorem sel : ∀ t : Fin cfg0.N, Scalar.cmpi .sge (BitVec.ofNat 32 (grid0.coords t 0).val) 6#32 = if t.val < 6 then 0#1 else 1#1 :=
  (by decide +kernel : ∀ t : Fin grid0.N, _)

section Block

variable {x0 x1 : Vec Ideal S8x128x1024 .bf16} {x2 x3 x4 : Vec Ideal S128x1024 .f32}
variable {x : Vec Ideal S8x768x1024 .bf16} {y : Vec Ideal S8x256x1024 .bf16} {w p q : Vec Ideal S1024x1024 .f32}
variable {t : Fin cfg0.N} {a : Fin 128} {i : Fin 1024} {b : Fin 1024}

theorem pay6_at : k0_pay6 (grid0.coords t) x0 x1 x2 x3 x4 (ix2 a b) = ∑ j : Fin 8, (x0 (ix3 j a b) : EReal) := by
  unfold k0_pay6
  pointwise [k0_pay4]
  simp only [Fin.sum_univ_eight]

theorem pay5_at (n : BitVec 32) (z : Vec Ideal S128x1024 .f32) :
    k0_pay5 n z (View.ld x1 r0_0) (View.ld x1 r0_1) (View.ld x1 r0_2) (View.ld x1 r0_3) (View.ld x1 r0_4) (View.ld x1 r0_5) (View.ld x1 r0_6) (View.ld x1 r0_7) (ix2 a b)
      = if Scalar.cmpi .sge n 6#32 = 1#1 then ∑ j : Fin 8, (x1 (ix3 j a b) : EReal) else z (ix2 a b) := by
  unfold k0_pay5
  generalize Scalar.cmpi .sge n 6#32 = k
  by_cases h : k = 1#1
  · subst h
    rw [if_pos rfl]
    pointwise
    simp only [Fin.sum_univ_eight]
  · obtain rfl : k = 0#1 := by revert k; decide
    rw [if_neg h]
    pointwise

/-- The sum a point takes: of its rows' parts. -/
theorem pay7_at (h0 : t.val < 6 → ∀ j, x0 (ix3 j a b) = part x y j i b) (h1 : 6 ≤ t.val → ∀ j, x1 (ix3 j a b) = part x y j i b) :
    k0_pay7 (grid0.coords t) x0 x1 x2 x3 x4 (ix2 a b) = refG (F := Ideal) x y (ix2 i b) := by
  unfold k0_pay7
  rw [pay5_at, pay6_at, refG_at, sel]
  by_cases h : t.val < 6
  · rw [if_pos h, if_neg (by decide)]
    exact Finset.sum_congr rfl fun j _ => h0 h j
  · rw [if_neg h, if_pos rfl]
    exact Finset.sum_congr rfl fun j _ => h1 (by omega) j

/-- A block's entry of each result is the reference's, where the blocks hold the arrays' entries. -/
theorem blockG (h0 : t.val < 6 → ∀ j, x0 (ix3 j a b) = part x y j i b) (h1 : 6 ≤ t.val → ∀ j, x1 (ix3 j a b) = part x y j i b) :
    out0_5 (grid0.coords t) x0 x1 x2 x3 x4 (ix2 a b) = refG (F := Ideal) x y (ix2 i b) := by
  unfold out0_5
  frame_out
  exact pay7_at (x2 := x2) (x3 := x3) (x4 := x4) h0 h1
theorem blockM (h0 : t.val < 6 → ∀ j, x0 (ix3 j a b) = part x y j i b) (h1 : 6 ≤ t.val → ∀ j, x1 (ix3 j a b) = part x y j i b)
    (h3 : x3 (ix2 a b) = p (ix2 i b)) :
    out0_7 (grid0.coords t) x0 x1 x2 x3 x4 (ix2 a b) = refM (F := Ideal) x y p (ix2 i b) := by
  unfold out0_7
  frame_out
  have e := pay7_at (x2 := x2) (x3 := x3) (x4 := x4) h0 h1
  unfold refM
  generalize refG (F := Ideal) x y = G at *
  generalize k0_pay7 (grid0.coords t) x0 x1 x2 x3 x4 = g at *
  pointwise [k0_pay1]
  rw [e, h3]
theorem blockV (h0 : t.val < 6 → ∀ j, x0 (ix3 j a b) = part x y j i b) (h1 : 6 ≤ t.val → ∀ j, x1 (ix3 j a b) = part x y j i b)
    (h4 : x4 (ix2 a b) = q (ix2 i b)) :
    out0_8 (grid0.coords t) x0 x1 x2 x3 x4 (ix2 a b) = refV (F := Ideal) x y q (ix2 i b) := by
  unfold out0_8
  frame_out
  have e := pay7_at (x2 := x2) (x3 := x3) (x4 := x4) h0 h1
  unfold refV
  generalize refG (F := Ideal) x y = G at *
  generalize k0_pay7 (grid0.coords t) x0 x1 x2 x3 x4 = g at *
  pointwise [k0_pay2]
  rw [e, h4]
theorem blockD (h0 : t.val < 6 → ∀ j, x0 (ix3 j a b) = part x y j i b) (h1 : 6 ≤ t.val → ∀ j, x1 (ix3 j a b) = part x y j i b)
    (h2 : x2 (ix2 a b) = w (ix2 i b)) (h3 : x3 (ix2 a b) = p (ix2 i b)) (h4 : x4 (ix2 a b) = q (ix2 i b)) :
    out0_6 (grid0.coords t) x0 x1 x2 x3 x4 (ix2 a b) = refD (F := Ideal) x y w p q (ix2 i b) := by
  unfold out0_6
  frame_out
  have e := pay7_at (x2 := x2) (x3 := x3) (x4 := x4) h0 h1
  unfold refD
  generalize refG (F := Ideal) x y = G at *
  generalize k0_pay7 (grid0.coords t) x0 x1 x2 x3 x4 = g at *
  pointwise [k0_pay3, k0_pay1, k0_pay2]
  rw [e, h2, h3, h4]

end Block

variable (m : (ℓ : Loc nD τ sig) → Buf (Elt Ideal) ℓ) (c : Dev nD)

/-- The index maps, at a point: the row blocks advance, the first array's over the first six points, the second's over the last two. -/
theorem idx : ∀ t : Fin cfg0.N, win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)
theorem idx0 : ∀ t : Fin cfg0.N, t.val < 6 → win0_0.index t = ![0, t.val, 0] :=
  (by decide +kernel : ∀ t : Fin grid0.N, _)
theorem idx1 : ∀ t : Fin cfg0.N, 6 ≤ t.val → win0_1.index t = ![0, t.val - 6, 0] :=
  (by decide +kernel : ∀ t : Fin grid0.N, _)

/-- The array's row that a block's row is. -/
def row (t : Fin cfg0.N) (a : Fin 128) : Fin 1024 := ⟨t.val * 128 + a.val, by have := t.isLt; have := NP; omega⟩

theorem ib0 (t : Fin cfg0.N) (h : t.val < 6) (j : Fin 8) (a : Fin 128) (b : Fin 1024) :
    iblk m c 0 t (ix3 j a b) = part (m ((c : Thread nD τ).loc main_arg0)) (m ((c : Thread nD τ).loc main_arg1)) j (row t a) b := by
  unfold part row
  rw [dif_pos (by show t.val * 128 + a.val < 768; omega)]
  blk_ext [iblk, V, idx0 t h]
theorem ib1 (t : Fin cfg0.N) (h : 6 ≤ t.val) (j : Fin 8) (a : Fin 128) (b : Fin 1024) :
    iblk m c 1 t (ix3 j a b) = part (m ((c : Thread nD τ).loc main_arg0)) (m ((c : Thread nD τ).loc main_arg1)) j (row t a) b := by
  have e : t.val * 128 + a.val - 768 = (t.val - 6) * 128 + a.val := by omega
  unfold part row
  rw [dif_neg (by show ¬ t.val * 128 + a.val < 768; omega)]
  simp only [e]
  blk_ext [iblk, V, idx1 t h]
theorem ib2 (t : Fin cfg0.N) (a : Fin 128) (b : Fin 1024) :
    iblk m c 2 t (ix2 a b) = m ((c : Thread nD τ).loc main_arg2) (ix2 (row t a) b) := by
  unfold row; blk_ext [iblk, V, idx t]
theorem ib3 (t : Fin cfg0.N) (a : Fin 128) (b : Fin 1024) :
    iblk m c 3 t (ix2 a b) = m ((c : Thread nD τ).loc main_arg3) (ix2 (row t a) b) := by
  unfold row; blk_ext [iblk, V, idx t]
theorem ib4 (t : Fin cfg0.N) (a : Fin 128) (b : Fin 1024) :
    iblk m c 4 t (ix2 a b) = m ((c : Thread nD τ).loc main_arg4) (ix2 (row t a) b) := by
  unfold row; blk_ext [iblk, V, idx t]

/-- A row of the arrays is a block's. -/
theorem exists_row (i : Fin 1024) : ∃ t a, i = row t a :=
  ⟨⟨i.val / 128, by rw [NP]; omega⟩, ⟨i.val % 128, by omega⟩, Fin.ext (by show i.val = i.val / 128 * 128 + i.val % 128; omega)⟩

theorem read5 (G : Buf (Elt Ideal) ((c : Thread nD τ).loc main_v0_0)) (t : Fin cfg0.N) (a : Fin 128) (b : Fin 1024) :
    ((cfg0.win 5).blk t).view.read (Elt Ideal) G (ix2 a b) = G (ix2 (row t a) b) := by
  unfold row; blk_ext [idx t]
theorem arr5 : (dats m 0 c).arrAt 5 cfg0.N = refG (F := Ideal) (m ((c : Thread nD τ).loc main_arg0)) (m ((c : Thread nD τ).loc main_arg1)) := by
  funext i
  rw [eq_ix2 i]
  obtain ⟨t, a, e⟩ := exists_row (i 0)
  generalize i 1 = b
  rw [e]
  refine (read5 c _ t a b).symm.trans ?_
  rw [blocks5 m c t (flush0_5 t), flushed5]
  exact blockG (fun h j => ib0 m c t h j a b) (fun h j => ib1 m c t h j a b)

theorem read6 (G : Buf (Elt Ideal) ((c : Thread nD τ).loc main_v0_1)) (t : Fin cfg0.N) (a : Fin 128) (b : Fin 1024) :
    ((cfg0.win 6).blk t).view.read (Elt Ideal) G (ix2 a b) = G (ix2 (row t a) b) := by
  unfold row; blk_ext [idx t]
theorem arr6 : (dats m 0 c).arrAt 6 cfg0.N = refD (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  rw [eq_ix2 i]
  obtain ⟨t, a, e⟩ := exists_row (i 0)
  generalize i 1 = b
  rw [e]
  refine (read6 c _ t a b).symm.trans ?_
  rw [blocks6 m c t (flush0_6 t), flushed6]
  exact blockD (fun h j => ib0 m c t h j a b) (fun h j => ib1 m c t h j a b) (ib2 m c t a b) (ib3 m c t a b) (ib4 m c t a b)

theorem read7 (G : Buf (Elt Ideal) ((c : Thread nD τ).loc main_v0_2)) (t : Fin cfg0.N) (a : Fin 128) (b : Fin 1024) :
    ((cfg0.win 7).blk t).view.read (Elt Ideal) G (ix2 a b) = G (ix2 (row t a) b) := by
  unfold row; blk_ext [idx t]
theorem arr7 : (dats m 0 c).arrAt 7 cfg0.N = refM (F := Ideal) (m ((c : Thread nD τ).loc main_arg0)) (m ((c : Thread nD τ).loc main_arg1)) (m ((c : Thread nD τ).loc main_arg3)) := by
  funext i
  rw [eq_ix2 i]
  obtain ⟨t, a, e⟩ := exists_row (i 0)
  generalize i 1 = b
  rw [e]
  refine (read7 c _ t a b).symm.trans ?_
  rw [blocks7 m c t (flush0_7 t), flushed7]
  exact blockM (fun h j => ib0 m c t h j a b) (fun h j => ib1 m c t h j a b) (ib3 m c t a b)

theorem read8 (G : Buf (Elt Ideal) ((c : Thread nD τ).loc main_v0_3)) (t : Fin cfg0.N) (a : Fin 128) (b : Fin 1024) :
    ((cfg0.win 8).blk t).view.read (Elt Ideal) G (ix2 a b) = G (ix2 (row t a) b) := by
  unfold row; blk_ext [idx t]
theorem arr8 : (dats m 0 c).arrAt 8 cfg0.N = refV (F := Ideal) (m ((c : Thread nD τ).loc main_arg0)) (m ((c : Thread nD τ).loc main_arg1)) (m ((c : Thread nD τ).loc main_arg4)) := by
  funext i
  rw [eq_ix2 i]
  obtain ⟨t, a, e⟩ := exists_row (i 0)
  generalize i 1 = b
  rw [e]
  refine (read8 c _ t a b).symm.trans ?_
  rw [blocks8 m c t (flush0_8 t), flushed8]
  exact blockV (fun h j => ib0 m c t h j a b) (fun h j => ib1 m c t h j a b) (ib4 m c t a b)

end Kernel

theorem algebraic : Cert.algebraic_Kernel13Ideal_Reference13Ideal := by
  intro m ρ m' ρ' _ hagree
  refine ⟨fun c => _, fun c => _, fun c => _, fun c => _, Cert.Kernel13Ideal.Value.run_blocks m ρ, ?_⟩
  refine (θ_run _ _ _).mono (fun r h c => ?_) (Cert.Reference13Ideal.Value.run m' ρ')
  obtain ⟨e0, e1, e2, e3, hk⟩ := h c
  obtain ⟨a0, a1, a2, a3, a4⟩ := hagree c
  rw [a0, a1] at e0
  rw [a0, a1, a2, a3, a4] at e1
  rw [a0, a1, a3] at e2
  rw [a0, a1, a4] at e3
  exact ⟨e0.trans (arr5 m c).symm, e1.trans (arr6 m c).symm, e2.trans (arr7 m c).symm, e3.trans (arr8 m c).symm, hk⟩

end Cert.Hand13

end
-- ==== Proof.lean ====
/- The claims about the training step's backward calls, assembled: each program's frame from its generated run, the
   claims about named constants, and the value claims from the modules of this directory. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2Ideal.Value
public import proofs.«01_k».proof.Proof.Gen.ReferenceIdeal
public import proofs.«01_k».proof.Proof.Gen.ReferenceIdeal.Run
public import proofs.«01_k».proof.Proof.Gen.Reference2Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Pre_finite4
public import proofs.«01_k».proof.Proof.Gen.Pre_finite
public import proofs.«01_k».proof.Proof.Gen.Pre_finite2
public import proofs.«01_k».proof.Proof.BwdMain
public import proofs.«01_k».proof.Proof.NormBwdRef
public import proofs.«01_k».proof.Proof.TnGrad
public import proofs.«01_k».proof.Proof.OutGrad
public import proofs.«01_k».proof.Proof.OutGradA
public import proofs.«01_k».proof.Proof.TnLast
public import proofs.«01_k».proof.Proof.TnRest
public import proofs.«01_k».proof.Proof.AdamBIn
public import proofs.«01_k».proof.Proof.AdamAOut
public import proofs.«01_k».proof.Proof.AdamBOut
public import proofs.«01_k».proof.Proof.AdamMod
public import proofs.«01_k».proof.Proof.ModGrad
public import proofs.«01_k».proof.Proof.AdamAIn
public import Idealize.ShloMosaic.Lib.Quiescent
public import Idealize.ShloMosaic.Adequacy
public import Idealize.ShloMosaic.Init

@[expose] public section

noncomputable section

namespace Cert.Proof

open Idealize.ShloMosaic Idealize.SL.Sem

/-- A reference's frame: its run, and no counter exists. -/
theorem frame_ref : Cert.quiescent_ReferenceIdeal := fun m ρ _ =>
  (θ_run _ _ _).mono (fun r h => ⟨fun c => (h c).2.2.2.2.2.2.2.2.2.2, sem_eq_zero_of_no_sems (by decide) r.2⟩)
    (Cert.ReferenceIdeal.Value.run m ρ)
theorem frame_ref2 : Cert.quiescent_Reference2Ideal := fun m ρ _ =>
  (θ_run _ _ _).mono (fun r h => ⟨fun c => (h c).2.2.2.2, sem_eq_zero_of_no_sems (by decide) r.2⟩)
    (Cert.Reference2Ideal.Value.run m ρ)
theorem frame_ref3 : Cert.quiescent_Reference3Ideal := fun m ρ _ =>
  (θ_run _ _ _).mono (fun r h => ⟨fun c => (h c).2, sem_eq_zero_of_no_sems (by decide) r.2⟩)
    (Cert.Reference3Ideal.Value.run m ρ)
theorem frame_ref4 : Cert.quiescent_Reference4Ideal := fun m ρ _ =>
  (θ_run _ _ _).mono (fun r h => ⟨fun c => (h c).2, sem_eq_zero_of_no_sems (by decide) r.2⟩)
    (Cert.Reference4Ideal.Value.run m ρ)
theorem frame_ref5 : Cert.quiescent_Reference5Ideal := fun m ρ _ =>
  (θ_run _ _ _).mono (fun r h => ⟨fun c => (h c).2, sem_eq_zero_of_no_sems (by decide) r.2⟩)
    (Cert.Reference5Ideal.Value.run m ρ)
theorem frame_ref6 : Cert.quiescent_Reference6Ideal := fun m ρ _ =>
  (θ_run _ _ _).mono (fun r h => ⟨fun c => (h c).2, sem_eq_zero_of_no_sems (by decide) r.2⟩)
    (Cert.Reference6Ideal.Value.run m ρ)
theorem frame_ref7 : Cert.quiescent_Reference7Ideal := fun m ρ _ =>
  (θ_run _ _ _).mono (fun r h => ⟨fun c => (h c).2, sem_eq_zero_of_no_sems (by decide) r.2⟩)
    (Cert.Reference7Ideal.Value.run m ρ)
theorem frame_ref8 : Cert.quiescent_Reference8Ideal := fun m ρ _ =>
  (θ_run _ _ _).mono (fun r h => ⟨fun c => (h c).2.2.2.2, sem_eq_zero_of_no_sems (by decide) r.2⟩)
    (Cert.Reference8Ideal.Value.run m ρ)
theorem frame_ref9 : Cert.quiescent_Reference9Ideal := fun m ρ _ =>
  (θ_run _ _ _).mono (fun r h => ⟨fun c => (h c).2.2.2.2, sem_eq_zero_of_no_sems (by decide) r.2⟩)
    (Cert.Reference9Ideal.Value.run m ρ)
theorem frame_ref10 : Cert.quiescent_Reference10Ideal := fun m ρ _ =>
  (θ_run _ _ _).mono (fun r h => ⟨fun c => (h c).2.2.2.2, sem_eq_zero_of_no_sems (by decide) r.2⟩)
    (Cert.Reference10Ideal.Value.run m ρ)
theorem frame_ref11 : Cert.quiescent_Reference11Ideal := fun m ρ _ =>
  (θ_run _ _ _).mono (fun r h => ⟨fun c => (h c).2.2.2.2, sem_eq_zero_of_no_sems (by decide) r.2⟩)
    (Cert.Reference11Ideal.Value.run m ρ)
theorem frame_ref12 : Cert.quiescent_Reference12Ideal := fun m ρ _ =>
  (θ_run _ _ _).mono (fun r h => ⟨fun c => (h c).2, sem_eq_zero_of_no_sems (by decide) r.2⟩)
    (Cert.Reference12Ideal.Value.run m ρ)
theorem frame_ref13 : Cert.quiescent_Reference13Ideal := fun m ρ _ =>
  (θ_run _ _ _).mono (fun r h => ⟨fun c => (h c).2.2.2.2, sem_eq_zero_of_no_sems (by decide) r.2⟩)
    (Cert.Reference13Ideal.Value.run m ρ)

/-- The two named constants are the reals that their names say. -/
theorem preserves : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.Gen.facts, Cert.Pre_finite2.Gen.facts, Cert.Pre_finite4.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  frame_ref2, fun m ρ _ => frame_ref2 m ρ trivial,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial,
  fun m ρ _ => Cert.Kernel5.Gen.frame m ρ, fun m ρ _ => Cert.Kernel5Ideal.Gen.frame m ρ, fun m ρ _ => Cert.Kernel5Ideal.Gen.frame m ρ,
  frame_ref5, fun m ρ _ => frame_ref5 m ρ trivial,
  fun m ρ _ => Cert.Kernel6.Gen.frame m ρ, fun m ρ _ => Cert.Kernel6Ideal.Gen.frame m ρ, frame_ref6,
  fun m ρ _ => Cert.Kernel7.Gen.frame m ρ, fun m ρ _ => Cert.Kernel7Ideal.Gen.frame m ρ, frame_ref7,
  fun m ρ _ => Cert.Kernel8.Gen.frame m ρ, fun m ρ _ => Cert.Kernel8Ideal.Gen.frame m ρ, frame_ref8,
  fun m ρ _ => Cert.Kernel9.Gen.frame m ρ, fun m ρ _ => Cert.Kernel9Ideal.Gen.frame m ρ, frame_ref9,
  fun m ρ _ => Cert.Kernel10.Gen.frame m ρ, fun m ρ _ => Cert.Kernel10Ideal.Gen.frame m ρ, frame_ref10,
  fun m ρ _ => Cert.Kernel11.Gen.frame m ρ, fun m ρ _ => Cert.Kernel11Ideal.Gen.frame m ρ, frame_ref11,
  fun m ρ _ => Cert.Kernel12.Gen.frame m ρ, fun m ρ _ => Cert.Kernel12Ideal.Gen.frame m ρ, frame_ref12,
  fun m ρ _ => Cert.Kernel13.Gen.frame m ρ, fun m ρ _ => Cert.Kernel13Ideal.Gen.frame m ρ, frame_ref13,
  preserves, Cert.Hand.algebraic, trivial, Cert.Hand2.algebraic, trivial, Cert.Hand3.algebraic,
  trivial, Cert.Hand4.algebraic, trivial, Cert.Hand5.algebraic, trivial, Cert.Hand6.algebraic, trivial, Cert.Hand7.algebraic,
  trivial, Cert.Hand8.algebraic,
  trivial, Cert.Hand9.algebraic,
  trivial, Cert.Hand10.algebraic,
  trivial, Cert.Hand11.algebraic,
  trivial, Cert.Hand12.algebraic,
  trivial, Cert.Hand13.algebraic⟩

end Cert.Proof

end
